-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)) (v3 : (c : Dev Cert.KernelIdeal.nD) → Buf (Elt Ideal) ((c.tc : Thread Cert.KernelIdeal.nD Cert.KernelIdeal.τ).loc Cert.KernelIdeal.main_v34_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_v34_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)) (v3 : (c : Dev Cert.Kernel6Ideal.nD) → Buf (Elt Ideal) ((c.tc : Thread Cert.Kernel6Ideal.nD Cert.Kernel6Ideal.τ).loc Cert.Kernel6Ideal.main_v27_3)) (v4 : (c : Dev Cert.Kernel6Ideal.nD) → Buf (Elt Ideal) ((c.tc : Thread Cert.Kernel6Ideal.nD Cert.Kernel6Ideal.τ).loc Cert.Kernel6Ideal.main_v27_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_v27_3) = v3 c
          ∧ r.2.mem ((c.tc : Thread Cert.Kernel6Ideal.nD Cert.Kernel6Ideal.τ).loc Cert.Kernel6Ideal.main_v27_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v141) = v0 c
          ∧ r.2.mem ((c.tc : Thread Cert.Reference6Ideal.nD Cert.Reference6Ideal.τ).loc Cert.Reference6Ideal.main_v142) = v1 c
          ∧ r.2.mem ((c.tc : Thread Cert.Reference6Ideal.nD Cert.Reference6Ideal.τ).loc Cert.Reference6Ideal.main_v143) = v2 c
          ∧ r.2.mem ((c.tc : Thread Cert.Reference6Ideal.nD Cert.Reference6Ideal.τ).loc Cert.Reference6Ideal.main_v108) = v3 c
          ∧ r.2.mem ((c.tc : Thread Cert.Reference6Ideal.nD Cert.Reference6Ideal.τ).loc Cert.Reference6Ideal.main_v140) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)) (v4 : (c : Dev Cert.Kernel7Ideal.nD) → Buf (Elt Ideal) ((c.tc : Thread Cert.Kernel7Ideal.nD Cert.Kernel7Ideal.τ).loc Cert.Kernel7Ideal.main_v6_4)) (v5 : (c : Dev Cert.Kernel7Ideal.nD) → Buf (Elt Ideal) ((c.tc : Thread Cert.Kernel7Ideal.nD Cert.Kernel7Ideal.τ).loc Cert.Kernel7Ideal.main_v6_5)) (v6 : (c : Dev Cert.Kernel7Ideal.nD) → Buf (Elt Ideal) ((c.tc : Thread Cert.Kernel7Ideal.nD Cert.Kernel7Ideal.τ).loc Cert.Kernel7Ideal.main_v6_6)) (v7 : (c : Dev Cert.Kernel7Ideal.nD) → Buf (Elt Ideal) ((c.tc : Thread Cert.Kernel7Ideal.nD Cert.Kernel7Ideal.τ).loc Cert.Kernel7Ideal.main_v6_7)) (v8 : (c : Dev Cert.Kernel7Ideal.nD) → Buf (Elt Ideal) ((c.tc : Thread Cert.Kernel7Ideal.nD Cert.Kernel7Ideal.τ).loc Cert.Kernel7Ideal.main_v6_8)) (v9 : (c : Dev Cert.Kernel7Ideal.nD) → Buf (Elt Ideal) ((c.tc : Thread Cert.Kernel7Ideal.nD Cert.Kernel7Ideal.τ).loc Cert.Kernel7Ideal.main_v6_9)) (v10 : (c : Dev Cert.Kernel7Ideal.nD) → Buf (Elt Ideal) ((c.tc : Thread Cert.Kernel7Ideal.nD Cert.Kernel7Ideal.τ).loc Cert.Kernel7Ideal.main_v6_10)) (v11 : (c : Dev Cert.Kernel7Ideal.nD) → Buf (Elt Ideal) ((c.tc : Thread Cert.Kernel7Ideal.nD Cert.Kernel7Ideal.τ).loc Cert.Kernel7Ideal.main_v6_11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_v6_4) = v4 c
          ∧ r.2.mem ((c.tc : Thread Cert.Kernel7Ideal.nD Cert.Kernel7Ideal.τ).loc Cert.Kernel7Ideal.main_v6_5) = v5 c
          ∧ r.2.mem ((c.tc : Thread Cert.Kernel7Ideal.nD Cert.Kernel7Ideal.τ).loc Cert.Kernel7Ideal.main_v6_6) = v6 c
          ∧ r.2.mem ((c.tc : Thread Cert.Kernel7Ideal.nD Cert.Kernel7Ideal.τ).loc Cert.Kernel7Ideal.main_v6_7) = v7 c
          ∧ r.2.mem ((c.tc : Thread Cert.Kernel7Ideal.nD Cert.Kernel7Ideal.τ).loc Cert.Kernel7Ideal.main_v6_8) = v8 c
          ∧ r.2.mem ((c.tc : Thread Cert.Kernel7Ideal.nD Cert.Kernel7Ideal.τ).loc Cert.Kernel7Ideal.main_v6_9) = v9 c
          ∧ r.2.mem ((c.tc : Thread Cert.Kernel7Ideal.nD Cert.Kernel7Ideal.τ).loc Cert.Kernel7Ideal.main_v6_10) = v10 c
          ∧ r.2.mem ((c.tc : Thread Cert.Kernel7Ideal.nD Cert.Kernel7Ideal.τ).loc Cert.Kernel7Ideal.main_v6_11) = v11 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v80) = v0 c
          ∧ r.2.mem ((c.tc : Thread Cert.Reference7Ideal.nD Cert.Reference7Ideal.τ).loc Cert.Reference7Ideal.main_v81) = v1 c
          ∧ r.2.mem ((c.tc : Thread Cert.Reference7Ideal.nD Cert.Reference7Ideal.τ).loc Cert.Reference7Ideal.main_v82) = v2 c
          ∧ r.2.mem ((c.tc : Thread Cert.Reference7Ideal.nD Cert.Reference7Ideal.τ).loc Cert.Reference7Ideal.main_v83) = v3 c
          ∧ r.2.mem ((c.tc : Thread Cert.Reference7Ideal.nD Cert.Reference7Ideal.τ).loc Cert.Reference7Ideal.main_v84) = v4 c
          ∧ r.2.mem ((c.tc : Thread Cert.Reference7Ideal.nD Cert.Reference7Ideal.τ).loc Cert.Reference7Ideal.main_v85) = v5 c
          ∧ r.2.mem ((c.tc : Thread Cert.Reference7Ideal.nD Cert.Reference7Ideal.τ).loc Cert.Reference7Ideal.main_v86) = v6 c
          ∧ r.2.mem ((c.tc : Thread Cert.Reference7Ideal.nD Cert.Reference7Ideal.τ).loc Cert.Reference7Ideal.main_v87) = v7 c
          ∧ r.2.mem ((c.tc : Thread Cert.Reference7Ideal.nD Cert.Reference7Ideal.τ).loc Cert.Reference7Ideal.main_v7) = v8 c
          ∧ r.2.mem ((c.tc : Thread Cert.Reference7Ideal.nD Cert.Reference7Ideal.τ).loc Cert.Reference7Ideal.main_v79) = v9 c
          ∧ r.2.mem ((c.tc : Thread Cert.Reference7Ideal.nD Cert.Reference7Ideal.τ).loc Cert.Reference7Ideal.main_v60) = v10 c
          ∧ r.2.mem ((c.tc : Thread Cert.Reference7Ideal.nD Cert.Reference7Ideal.τ).loc Cert.Reference7Ideal.main_v66) = v11 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)) (v5 : (c : Dev Cert.Kernel8Ideal.nD) → Buf (Elt Ideal) ((c.tc : Thread Cert.Kernel8Ideal.nD Cert.Kernel8Ideal.τ).loc Cert.Kernel8Ideal.main_v2_5)) (v6 : (c : Dev Cert.Kernel8Ideal.nD) → Buf (Elt Ideal) ((c.tc : Thread Cert.Kernel8Ideal.nD Cert.Kernel8Ideal.τ).loc Cert.Kernel8Ideal.main_v2_6)) (v7 : (c : Dev Cert.Kernel8Ideal.nD) → Buf (Elt Ideal) ((c.tc : Thread Cert.Kernel8Ideal.nD Cert.Kernel8Ideal.τ).loc Cert.Kernel8Ideal.main_v2_7)) (v8 : (c : Dev Cert.Kernel8Ideal.nD) → Buf (Elt Ideal) ((c.tc : Thread Cert.Kernel8Ideal.nD Cert.Kernel8Ideal.τ).loc Cert.Kernel8Ideal.main_v2_8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_v2_5) = v5 c
          ∧ r.2.mem ((c.tc : Thread Cert.Kernel8Ideal.nD Cert.Kernel8Ideal.τ).loc Cert.Kernel8Ideal.main_v2_6) = v6 c
          ∧ r.2.mem ((c.tc : Thread Cert.Kernel8Ideal.nD Cert.Kernel8Ideal.τ).loc Cert.Kernel8Ideal.main_v2_7) = v7 c
          ∧ r.2.mem ((c.tc : Thread Cert.Kernel8Ideal.nD Cert.Kernel8Ideal.τ).loc Cert.Kernel8Ideal.main_v2_8) = v8 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_v11) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_v14) = v4 c
          ∧ r.2.mem ((c.tc : Thread Cert.Reference8Ideal.nD Cert.Reference8Ideal.τ).loc Cert.Reference8Ideal.main_v15) = v5 c
          ∧ r.2.mem ((c.tc : Thread Cert.Reference8Ideal.nD Cert.Reference8Ideal.τ).loc Cert.Reference8Ideal.main_v19) = v6 c
          ∧ r.2.mem ((c.tc : Thread Cert.Reference8Ideal.nD Cert.Reference8Ideal.τ).loc Cert.Reference8Ideal.main_v24) = v7 c
          ∧ r.2.mem ((c.tc : Thread Cert.Reference8Ideal.nD Cert.Reference8Ideal.τ).loc Cert.Reference8Ideal.main_v6) = v8 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_arg6 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024 .f32) (main_arg3 : FVec F S1024x2816 .f32) (main_arg4 : FVec F S1024x2816 .f32) (main_arg5 : FVec F S2816x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite6.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S1024 .f32) (main_arg8 : FVec F S8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  main_v43

def fn_part1 {F : FTy → Type} [FloatOps F] (main_arg4 : FVec F S1024x2816 .f32) (main_arg5 : FVec F S2816x1024 .f32) (main_arg6 : FVec F S1024 .f32) (main_arg7 : FVec F S1024 .f32) (main_arg8 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1024 .f32) (main_arg2 : FVec F S1024 .f32) (main_arg3 : FVec F S1024x2816 .f32) (main_arg4 : FVec F S1024x2816 .f32) (main_arg5 : FVec F S2816x1024 .f32) (main_arg6 : FVec F S1024 .f32) (main_arg7 : FVec F S1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩
abbrev S512x1024 : Shape := ⟨2, ![512, 1024]⟩
abbrev S512x2816 : Shape := ⟨2, ![512, 2816]⟩
abbrev S512x1 : Shape := ⟨2, ![512, 1]⟩
abbrev S3 : Shape := ⟨1, ![3]⟩
abbrev S1 : Shape := ⟨1, ![1]⟩
abbrev S256x1024 : Shape := ⟨2, ![256, 1024]⟩
abbrev S512x256 : Shape := ⟨2, ![512, 256]⟩
abbrev S512 : Shape := ⟨1, ![512]⟩

abbrev nBuf : Space → Nat
  | .hbm => 50
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x2816, .f32⟩
  | .hbm, ⟨37, _⟩ => ⟨S8192x2816, .bf16⟩
  | .hbm, ⟨38, _⟩ => ⟨S8192x2816, .f32⟩
  | .hbm, ⟨39, _⟩ => ⟨S8192x2816, .bf16⟩
  | .hbm, ⟨40, _⟩ => ⟨S1x1024, .f32⟩
  | .hbm, ⟨41, _⟩ => ⟨S2816x1024, .f32⟩
  | .hbm, ⟨42, _⟩ => ⟨S2816x1024, .bf16⟩
  | .hbm, ⟨43, _⟩ => ⟨S2816x1024, .f32⟩
  | .hbm, ⟨44, _⟩ => ⟨S2816x1024, .bf16⟩
  | .hbm, ⟨45, _⟩ => ⟨S2816x1024, .bf16⟩
  | .hbm, ⟨46, _⟩ => ⟨S8192x2816, .bf16⟩
  | .hbm, ⟨47, _⟩ => ⟨S8192x2816, .bf16⟩
  | .hbm, ⟨48, _⟩ => ⟨S8192x1024, .f32⟩
  | .hbm, ⟨49, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S1x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S2816x1024, .bf16⟩
  | .local _ .vmem, ⟨19, _⟩ => ⟨S2816x1024, .bf16⟩
  | .local _ .vmem, ⟨20, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 135
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024x2816, .f32⟩
  | 4 => ⟨S1024x2816, .f32⟩
  | 5 => ⟨S2816x1024, .f32⟩
  | 6 => ⟨S8192x1024, .f32⟩
  | 7 => ⟨S_, .f32⟩
  | 8 => ⟨S8192x2816, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S_, .f32⟩
  | 30 => ⟨S8192x1, .f32⟩
  | 31 => ⟨S8192x1, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x2816, .f32⟩
  | 46 => ⟨S8192x2816, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S_, .f32⟩
  | 56 => ⟨S8192x2816, .f32⟩
  | 57 => ⟨S8192x2816, .f32⟩
  | 58 => ⟨S8192x2816, .f32⟩
  | 59 => ⟨S8192x2816, .f32⟩
  | 60 => ⟨S8192x2816, .f32⟩
  | 61 => ⟨S8192x2816, .f32⟩
  | 62 => ⟨S8192x2816, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x2816, .f32⟩
  | 71 => ⟨S_, .f32⟩
  | 72 => ⟨S8192x1024, .f32⟩
  | 73 => ⟨S8192x1024, .f32⟩
  | 74 => ⟨S8192x2816, .f32⟩
  | 75 => ⟨S8192x2816, .f32⟩
  | 76 => ⟨S8192x1024, .f32⟩
  | 77 => ⟨S8192x1024, .f32⟩
  | 78 => ⟨S8192x2816, .f32⟩
  | 79 => ⟨S8192x2816, .f32⟩
  | 80 => ⟨S8192x2816, .f32⟩
  | 81 => ⟨S8192x2816, .f32⟩
  | 82 => ⟨S8192x1024, .f32⟩
  | 83 => ⟨S8192x1024, .f32⟩
  | 84 => ⟨S_, .f32⟩
  | 85 => ⟨S1024, .f32⟩
  | 86 => ⟨S1x1024, .f32⟩
  | 87 => ⟨S_, .f32⟩
  | 88 => ⟨S1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S_, .f32⟩
  | 96 => ⟨S1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1024, .f32⟩
  | 103 => ⟨S8192x1, .f32⟩
  | 104 => ⟨S8192x1024, .f32⟩
  | 105 => ⟨S_, .f32⟩
  | 106 => ⟨S8192, .f32⟩
  | 107 => ⟨S8192x1, .f32⟩
  | 108 => ⟨S_, .f32⟩
  | 109 => ⟨S8192x1, .f32⟩
  | 110 => ⟨S8192x1, .f32⟩
  | 111 => ⟨S_, .f32⟩
  | 112 => ⟨S8192, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x1024, .f32⟩
  | 127 => ⟨S8192x1024, .f32⟩
  | _ => ⟨S8192x1024, .f32⟩

abbrev hbmTy0_1 (i : Nat) : BufTy := match i % 128 with
  | 0 => ⟨S1x1024, .f32⟩
  | 1 => ⟨S1x1024, .f32⟩
  | 2 => ⟨S_, .f32⟩
  | 3 => ⟨S6x1024, .f32⟩
  | 4 => ⟨S8x1024, .f32⟩
  | 5 => ⟨S8192x2816, .bf16⟩
  | 6 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v32_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v32_1 : Ref sig .tc := ⟨.hbm, 58, rfl⟩
abbrev main_v32_0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_cst_10 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_v61 : Ref sig .tc := ⟨.hbm, 97, rfl⟩
abbrev main_cst_13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_cst_16 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_17 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_18 : Ref sig .tc := ⟨.hbm, 121, rfl⟩
abbrev main_v80 : Ref sig .tc := ⟨.hbm, 122, rfl⟩
abbrev main_v81 : Ref sig .tc := ⟨.hbm, 123, rfl⟩
abbrev main_cst_19 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_20 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 30
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2816, .bf16⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S1x1024, .f32⟩
  | .hbm, ⟨29, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S8192x1024 : Shape := ⟨2, ![8192, 1024]⟩
abbrev S1024 : Shape := ⟨1, ![1024]⟩
abbrev S8192x2816 : Shape := ⟨2, ![8192, 2816]⟩
abbrev S_ : Shape := ⟨0, ![]⟩
abbrev S1024x2816 : Shape := ⟨2, ![1024, 2816]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2816, .bf16⟩
  | .hbm, ⟨4, _⟩ => ⟨S_, .f32⟩
  | .hbm, ⟨5, _⟩ => ⟨S1024x2816, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S2816x1024, .f32⟩
  | .hbm, ⟨38, _⟩ => ⟨S1024x2816, .f32⟩
  | .hbm, ⟨39, _⟩ => ⟨S2816x1024, .f32⟩
  | .hbm, ⟨40, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 30
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2816, .bf16⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S1x1024, .f32⟩
  | .hbm, ⟨29, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference3Ideal.lean ====
abbrev S8192x1024 : Shape := ⟨2, ![8192, 1024]⟩
abbrev S1024 : Shape := ⟨1, ![1024]⟩
abbrev S8192x2816 : Shape := ⟨2, ![8192, 2816]⟩
abbrev S_ : Shape := ⟨0, ![]⟩
abbrev S1024x2816 : Shape := ⟨2, ![1024, 2816]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2816, .bf16⟩
  | .hbm, ⟨4, _⟩ => ⟨S_, .f32⟩
  | .hbm, ⟨5, _⟩ => ⟨S1024x2816, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S2816x1024, .f32⟩
  | .hbm, ⟨38, _⟩ => ⟨S1024x2816, .f32⟩
  | .hbm, ⟨39, _⟩ => ⟨S2816x1024, .f32⟩
  | .hbm, ⟨40, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 46
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S2816x1024, .f32⟩
  | .hbm, ⟨37, _⟩ => ⟨S2816x1024, .bf16⟩
  | .hbm, ⟨38, _⟩ => ⟨S2816x1024, .f32⟩
  | .hbm, ⟨39, _⟩ => ⟨S2816x1024, .bf16⟩
  | .hbm, ⟨40, _⟩ => ⟨S2816x1024, .bf16⟩
  | .hbm, ⟨41, _⟩ => ⟨S8192x2816, .bf16⟩
  | .hbm, ⟨42, _⟩ => ⟨S8192x2816, .bf16⟩
  | .hbm, ⟨43, _⟩ => ⟨S8192x2816, .bf16⟩
  | .hbm, ⟨44, _⟩ => ⟨S8192x1024, .f32⟩
  | .hbm, ⟨45, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S2816x1024, .bf16⟩
  | .local _ .vmem, ⟨18, _⟩ => ⟨S2816x1024, .bf16⟩
  | .local _ .vmem, ⟨19, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v27_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S5x1024 : Shape := ⟨2, ![5, 1024]⟩
abbrev S8x1024 : Shape := ⟨2, ![8, 1024]⟩

abbrev nBuf : Space → Nat
  | .hbm => 200
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024x2816, .f32⟩
  | 4 => ⟨S1024x2816, .f32⟩
  | 5 => ⟨S2816x1024, .f32⟩
  | 6 => ⟨S1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S_, .f32⟩
  | 27 => ⟨S8192x1, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S8192x2816, .f32⟩
  | 49 => ⟨S8192x2816, .f32⟩
  | 50 => ⟨S_, .f32⟩
  | 51 => ⟨S8192x1024, .f32⟩
  | 52 => ⟨S8192x1024, .f32⟩
  | 53 => ⟨S8192x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S8192x1024, .f32⟩
  | 74 => ⟨S8192x1024, .f32⟩
  | 75 => ⟨S_, .f32⟩
  | 76 => ⟨S8192x1, .f32⟩
  | 77 => ⟨S8192x1, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1024, .f32⟩
  | 84 => ⟨S8192x1024, .f32⟩
  | 85 => ⟨S1x1024, .f32⟩
  | 86 => ⟨S8192x1024, .f32⟩
  | 87 => ⟨S8192x1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S_, .f32⟩
  | 97 => ⟨S8192, .f32⟩
  | 98 => ⟨S_, .f32⟩
  | 99 => ⟨S8192, .f32⟩
  | 100 => ⟨S8192, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S8192, .f32⟩
  | 109 => ⟨S_, .f32⟩
  | 110 => ⟨S8192, .f32⟩
  | 111 => ⟨S8192, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S_, .f32⟩
  | 126 => ⟨S1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S8192x1024, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x1024, .f32⟩
  | 46 => ⟨S8192x1024, .f32⟩
  | 47 => ⟨S_, .f32⟩
  | 48 => ⟨S8192x1, .f32⟩
  | 49 => ⟨S8192x1, .f32⟩
  | 50 => ⟨S8192x1, .f32⟩
  | 51 => ⟨S8192x1024, .f32⟩
  | 52 => ⟨S8192x1024, .f32⟩
  | 53 => ⟨S1x1024, .f32⟩
  | 54 => ⟨S8192x1024, .f32⟩
  | 55 => ⟨S8192x1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S1024, .f32⟩
  | 63 => ⟨S1x1024, .f32⟩
  | 64 => ⟨S1x1024, .f32⟩
  | 65 => ⟨S1x1024, .f32⟩
  | 66 => ⟨S_, .f32⟩
  | 67 => ⟨S5x1024, .f32⟩
  | 68 => ⟨S8x1024, .f32⟩
  | 69 => ⟨S8192x2816, .bf16⟩
  | 70 => ⟨S8192x2816, .bf16⟩
  | 71 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_cst_16 : Ref sig .tc := ⟨.hbm, 103, rfl⟩
abbrev main_v69 : Ref sig .tc := ⟨.hbm, 104, rfl⟩
abbrev main_cst_17 : Ref sig .tc := ⟨.hbm, 105, rfl⟩
abbrev main_cst_18 : Ref sig .tc := ⟨.hbm, 106, rfl⟩
abbrev main_v70 : Ref sig .tc := ⟨.hbm, 107, rfl⟩
abbrev main_v71 : Ref sig .tc := ⟨.hbm, 108, rfl⟩
abbrev main_cst_19 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_20 : Ref sig .tc := ⟨.hbm, 114, rfl⟩
abbrev main_v76 : Ref sig .tc := ⟨.hbm, 115, rfl⟩
abbrev main_v77 : Ref sig .tc := ⟨.hbm, 116, rfl⟩
abbrev main_cst_21 : Ref sig .tc := ⟨.hbm, 117, rfl⟩
abbrev main_v78 : Ref sig .tc := ⟨.hbm, 118, rfl⟩
abbrev main_v79 : Ref sig .tc := ⟨.hbm, 119, rfl⟩
abbrev main_cst_22 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_23 : Ref sig .tc := ⟨.hbm, 125, rfl⟩
abbrev main_v84 : Ref sig .tc := ⟨.hbm, 126, rfl⟩
abbrev main_v85 : Ref sig .tc := ⟨.hbm, 127, rfl⟩
abbrev main_cst_24 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_25 : Ref sig .tc := ⟨.hbm, 135, rfl⟩
abbrev main_v92 : Ref sig .tc := ⟨.hbm, 136, rfl⟩
abbrev main_v93 : Ref sig .tc := ⟨.hbm, 137, rfl⟩
abbrev main_cst_26 : Ref sig .tc := ⟨.hbm, 138, rfl⟩
abbrev main_v94 : Ref sig .tc := ⟨.hbm, 139, rfl⟩
abbrev main_v95 : Ref sig .tc := ⟨.hbm, 140, rfl⟩
abbrev main_cst_27 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_28 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_29 : Ref sig .tc := ⟨.hbm, 151, rfl⟩
abbrev main_v104 : Ref sig .tc := ⟨.hbm, 152, rfl⟩
abbrev main_v105 : Ref sig .tc := ⟨.hbm, 153, rfl⟩
abbrev main_cst_30 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_31 : Ref sig .tc := ⟨.hbm, 158, rfl⟩
abbrev main_v109 : Ref sig .tc := ⟨.hbm, 159, rfl⟩
abbrev main_v110 : Ref sig .tc := ⟨.hbm, 160, rfl⟩
abbrev main_cst_32 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_33 : Ref sig .tc := ⟨.hbm, 167, rfl⟩
abbrev main_v116 : Ref sig .tc := ⟨.hbm, 168, rfl⟩
abbrev main_v117 : Ref sig .tc := ⟨.hbm, 169, rfl⟩
abbrev main_cst_34 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_35 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_36 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_37 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩

abbrev nD : Nat := 1
abbrev τ : Topo := Topo.v7x

variable {F : FTy → Type} [FloatOps F]
-- ==== Kernel7.lean ====
abbrev S8x352x1024 : Shape := ⟨3, ![8, 352, 1024]⟩
abbrev S1024x352 : Shape := ⟨2, ![1024, 352]⟩
abbrev S352x1024 : Shape := ⟨2, ![352, 1024]⟩
abbrev S24 : Shape := ⟨1, ![24]⟩
abbrev S1 : Shape := ⟨1, ![1]⟩
abbrev S_ : Shape := ⟨0, ![]⟩
abbrev S1x352x1024 : Shape := ⟨3, ![1, 352, 1024]⟩

abbrev nBuf : Space → Nat
  | .hbm => 30
  | .vmem => 24
  | .smem => 0
  | _ => 0

abbrev bufTy : (tb : Table) → Fin (tcTables nBuf tb) → BufTy
  | .hbm, ⟨0, _⟩ => ⟨S8x352x1024, .bf16⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S8x352x1024, .bf16⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S8x352x1024, .bf16⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S8x352x1024, .bf16⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S8x352x1024, .bf16⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .vmem, ⟨20, _⟩ => ⟨S352x1024, .f32⟩
  | .local _ .vmem, ⟨21, _⟩ => ⟨S352x1024, .f32⟩
  | .local _ .vmem, ⟨22, _⟩ => ⟨S352x1024, .f32⟩
  | .local _ .vmem, ⟨23, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev main_v6_7 : Ref sig .tc := ⟨.hbm, 25, rfl⟩
abbrev main_v6_8 : Ref sig .tc := ⟨.hbm, 26, rfl⟩
abbrev main_v6_9 : Ref sig .tc := ⟨.hbm, 27, rfl⟩
abbrev main_v6_10 : Ref sig .tc := ⟨.hbm, 28, rfl⟩
abbrev main_v6_11 : Ref sig .tc := ⟨.hbm, 29, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩

abbrev nD : Nat := 1
abbrev τ : Topo := Topo.v7x

variable {F : FTy → Type} [FloatOps F]

abbrev grid0 : Pipeline.Grid := .none
-- ==== Reference7Ideal.lean ====
abbrev S8x352x1024 : Shape := ⟨3, ![8, 352, 1024]⟩
abbrev S1024x352 : Shape := ⟨2, ![1024, 352]⟩
abbrev S352x1024 : Shape := ⟨2, ![352, 1024]⟩
abbrev S_ : Shape := ⟨0, ![]⟩

abbrev nBuf : Space → Nat
  | .hbm => 130
  | .vmem => 0
  | .smem => 0
  | _ => 0

abbrev hbmTy0_0 (i : Nat) : BufTy := match i % 128 with
  | 0 => ⟨S8x352x1024, .bf16⟩
  | 1 => ⟨S1024x352, .f32⟩
  | 2 => ⟨S1024x352, .f32⟩
  | 3 => ⟨S1024x352, .f32⟩
  | 4 => ⟨S8x352x1024, .bf16⟩
  | 5 => ⟨S1024x352, .f32⟩
  | 6 => ⟨S1024x352, .f32⟩
  | 7 => ⟨S1024x352, .f32⟩
  | 8 => ⟨S8x352x1024, .bf16⟩
  | 9 => ⟨S352x1024, .f32⟩
  | 10 => ⟨S352x1024, .f32⟩
  | 11 => ⟨S352x1024, .f32⟩
  | 12 => ⟨S8x352x1024, .f32⟩
  | 13 => ⟨S_, .f32⟩
  | 14 => ⟨S352x1024, .f32⟩
  | 15 => ⟨S1024x352, .f32⟩
  | 16 => ⟨S8x352x1024, .f32⟩
  | 17 => ⟨S_, .f32⟩
  | 18 => ⟨S352x1024, .f32⟩
  | 19 => ⟨S1024x352, .f32⟩
  | 20 => ⟨S8x352x1024, .f32⟩
  | 21 => ⟨S_, .f32⟩
  | 22 => ⟨S352x1024, .f32⟩
  | 23 => ⟨S_, .f32⟩
  | 24 => ⟨S1024x352, .f32⟩
  | 25 => ⟨S1024x352, .f32⟩
  | 26 => ⟨S_, .f32⟩
  | 27 => ⟨S1024x352, .f32⟩
  | 28 => ⟨S1024x352, .f32⟩
  | 29 => ⟨S1024x352, .f32⟩
  | 30 => ⟨S_, .f32⟩
  | 31 => ⟨S1024x352, .f32⟩
  | 32 => ⟨S1024x352, .f32⟩
  | 33 => ⟨S1024x352, .f32⟩
  | 34 => ⟨S_, .f32⟩
  | 35 => ⟨S1024x352, .f32⟩
  | 36 => ⟨S1024x352, .f32⟩
  | 37 => ⟨S1024x352, .f32⟩
  | 38 => ⟨S_, .f32⟩
  | 39 => ⟨S1024x352, .f32⟩
  | 40 => ⟨S1024x352, .f32⟩
  | 41 => ⟨S_, .f32⟩
  | 42 => ⟨S1024x352, .f32⟩
  | 43 => ⟨S1024x352, .f32⟩
  | 44 => ⟨S1024x352, .f32⟩
  | 45 => ⟨S_, .f32⟩
  | 46 => ⟨S1024x352, .f32⟩
  | 47 => ⟨S1024x352, .f32⟩
  | 48 => ⟨S1024x352, .f32⟩
  | 49 => ⟨S_, .f32⟩
  | 50 => ⟨S1024x352, .f32⟩
  | 51 => ⟨S1024x352, .f32⟩
  | 52 => ⟨S1024x352, .f32⟩
  | 53 => ⟨S_, .f32⟩
  | 54 => ⟨S1024x352, .f32⟩
  | 55 => ⟨S1024x352, .f32⟩
  | 56 => ⟨S_, .f32⟩
  | 57 => ⟨S1024x352, .f32⟩
  | 58 => ⟨S1024x352, .f32⟩
  | 59 => ⟨S_, .f32⟩
  | 60 => ⟨S1024x352, .f32⟩
  | 61 => ⟨S1024x352, .f32⟩
  | 62 => ⟨S1024x352, .f32⟩
  | 63 => ⟨S_, .f32⟩
  | 64 => ⟨S1024x352, .f32⟩
  | 65 => ⟨S1024x352, .f32⟩
  | 66 => ⟨S1024x352, .f32⟩
  | 67 => ⟨S_, .f32⟩
  | 68 => ⟨S1024x352, .f32⟩
  | 69 => ⟨S1024x352, .f32⟩
  | 70 => ⟨S1024x352, .f32⟩
  | 71 => ⟨S_, .f32⟩
  | 72 => ⟨S1024x352, .f32⟩
  | 73 => ⟨S1024x352, .f32⟩
  | 74 => ⟨S_, .f32⟩
  | 75 => ⟨S1024x352, .f32⟩
  | 76 => ⟨S1024x352, .f32⟩
  | 77 => ⟨S1024x352, .f32⟩
  | 78 => ⟨S_, .f32⟩
  | 79 => ⟨S1024x352, .f32⟩
  | 80 => ⟨S1024x352, .f32⟩
  | 81 => ⟨S1024x352, .f32⟩
  | 82 => ⟨S_, .f32⟩
  | 83 => ⟨S1024x352, .f32⟩
  | 84 => ⟨S1024x352, .f32⟩
  | 85 => ⟨S1024x352, .f32⟩
  | 86 => ⟨S_, .f32⟩
  | 87 => ⟨S1024x352, .f32⟩
  | 88 => ⟨S1024x352, .f32⟩
  | 89 => ⟨S_, .f32⟩
  | 90 => ⟨S352x1024, .f32⟩
  | 91 => ⟨S352x1024, .f32⟩
  | 92 => ⟨S_, .f32⟩
  | 93 => ⟨S352x1024, .f32⟩
  | 94 => ⟨S352x1024, .f32⟩
  | 95 => ⟨S352x1024, .f32⟩
  | 96 => ⟨S_, .f32⟩
  | 97 => ⟨S352x1024, .f32⟩
  | 98 => ⟨S352x1024, .f32⟩
  | 99 => ⟨S352x1024, .f32⟩
  | 100 => ⟨S_, .f32⟩
  | 101 => ⟨S352x1024, .f32⟩
  | 102 => ⟨S352x1024, .f32⟩
  | 103 => ⟨S352x1024, .f32⟩
  | 104 => ⟨S_, .f32⟩
  | 105 => ⟨S352x1024, .f32⟩
  | 106 => ⟨S352x1024, .f32⟩
  | 107 => ⟨S_, .f32⟩
  | 108 => ⟨S352x1024, .f32⟩
  | 109 => ⟨S352x1024, .f32⟩
  | 110 => ⟨S352x1024, .f32⟩
  | 111 => ⟨S_, .f32⟩
  | 112 => ⟨S352x1024, .f32⟩
  | 113 => ⟨S352x1024, .f32⟩
  | 114 => ⟨S352x1024, .f32⟩
  | 115 => ⟨S_, .f32⟩
  | 116 => ⟨S352x1024, .f32⟩
  | 117 => ⟨S352x1024, .f32⟩
  | 118 => ⟨S352x1024, .f32⟩
  | 119 => ⟨S_, .f32⟩
  | 120 => ⟨S352x1024, .f32⟩
  | 121 => ⟨S352x1024, .f32⟩
  | 122 => ⟨S352x1024, .f32⟩
  | 123 => ⟨S352x1024, .f32⟩
  | 124 => ⟨S352x1024, .f32⟩
  | 125 => ⟨S352x1024, .f32⟩
  | 126 => ⟨S352x1024, .f32⟩
  | 127 => ⟨S352x1024, .f32⟩
  | _ => ⟨S8x352x1024, .bf16⟩

abbrev hbmTy0_1 (i : Nat) : BufTy := match i % 128 with
  | 0 => ⟨S352x1024, .f32⟩
  | 1 => ⟨S352x1024, .f32⟩
  | _ => ⟨S8x352x1024, .bf16⟩

abbrev hbmTy (i : Nat) : BufTy := match i / 128 with
  | 0 => hbmTy0_0 i
  | 1 => hbmTy0_1 i
  | _ => ⟨S8x352x1024, .bf16⟩

abbrev bufTy : (tb : Table) → Fin (tcTables nBuf tb) → BufTy
  | .hbm, ⟨i, _⟩ => hbmTy i
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_cst_16 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_18 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_19 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_cst_21 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_cst_25 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_26 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_27 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_28 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩

abbrev nD : Nat := 1
abbrev τ : Topo := Topo.v7x

variable {F : FTy → Type} [FloatOps F]
-- ==== Kernel8.lean ====
abbrev S1024x256 : Shape := ⟨2, ![1024, 256]⟩
abbrev S128x1024 : Shape := ⟨2, ![128, 1024]⟩
abbrev S1024x352 : Shape := ⟨2, ![1024, 352]⟩
abbrev S352x1024 : Shape := ⟨2, ![352, 1024]⟩
abbrev S31x64 : Shape := ⟨2, ![31, 64]⟩
abbrev S8x128x128 : Shape := ⟨3, ![8, 128, 128]⟩
abbrev S8x128 : Shape := ⟨2, ![8, 128]⟩
abbrev S256x1024 : Shape := ⟨2, ![256, 1024]⟩
abbrev S32x128 : Shape := ⟨2, ![32, 128]⟩
abbrev S4x128x256 : Shape := ⟨3, ![4, 128, 256]⟩
abbrev S128x512 : Shape := ⟨2, ![128, 512]⟩
abbrev S17 : Shape := ⟨1, ![17]⟩
abbrev S1 : Shape := ⟨1, ![1]⟩
abbrev S_ : Shape := ⟨0, ![]⟩
abbrev S128x128 : Shape := ⟨2, ![128, 128]⟩
abbrev S1x128x128 : Shape := ⟨3, ![1, 128, 128]⟩
abbrev S8x512 : Shape := ⟨2, ![8, 512]⟩

abbrev nBuf : Space → Nat
  | .hbm => 19
  | .vmem => 17
  | .smem => 0
  | _ => 0

abbrev bufTy : (tb : Table) → Fin (tcTables nBuf tb) → BufTy
  | .hbm, ⟨0, _⟩ => ⟨S1024x256, .f32⟩
  | .hbm, ⟨1, _⟩ => ⟨S128x1024, .f32⟩
  | .hbm, ⟨2, _⟩ => ⟨S1024x352, .f32⟩
  | .hbm, ⟨3, _⟩ => ⟨S1024x352, .f32⟩
  | .hbm, ⟨4, _⟩ => ⟨S352x1024, .f32⟩
  | .hbm, ⟨5, _⟩ => ⟨S31x64, .f32⟩
  | .hbm, ⟨6, _⟩ => ⟨S8x128x128, .f32⟩
  | .hbm, ⟨7, _⟩ => ⟨S8x128, .f32⟩
  | .hbm, ⟨8, _⟩ => ⟨S352x1024, .f32⟩
  | .hbm, ⟨9, _⟩ => ⟨S352x1024, .f32⟩
  | .hbm, ⟨10, _⟩ => ⟨S256x1024, .bf16⟩
  | .hbm, ⟨11, _⟩ => ⟨S128x1024, .bf16⟩
  | .hbm, ⟨12, _⟩ => ⟨S352x1024, .bf16⟩
  | .hbm, ⟨13, _⟩ => ⟨S352x1024, .bf16⟩
  | .hbm, ⟨14, _⟩ => ⟨S352x1024, .bf16⟩
  | .hbm, ⟨15, _⟩ => ⟨S32x128, .f32⟩
  | .hbm, ⟨16, _⟩ => ⟨S4x128x256, .bf16⟩
  | .hbm, ⟨17, _⟩ => ⟨S4x128x256, .bf16⟩
  | .hbm, ⟨18, _⟩ => ⟨S128x512, .f32⟩
  | .local _ .vmem, ⟨0, _⟩ => ⟨S1024x256, .f32⟩
  | .local _ .vmem, ⟨1, _⟩ => ⟨S128x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S31x64, .f32⟩
  | .local _ .vmem, ⟨6, _⟩ => ⟨S8x128x128, .f32⟩
  | .local _ .vmem, ⟨7, _⟩ => ⟨S8x128, .f32⟩
  | .local _ .vmem, ⟨8, _⟩ => ⟨S256x1024, .bf16⟩
  | .local _ .vmem, ⟨9, _⟩ => ⟨S128x1024, .bf16⟩
  | .local _ .vmem, ⟨10, _⟩ => ⟨S352x1024, .bf16⟩
  | .local _ .vmem, ⟨11, _⟩ => ⟨S352x1024, .bf16⟩
  | .local _ .vmem, ⟨12, _⟩ => ⟨S352x1024, .bf16⟩
  | .local _ .vmem, ⟨13, _⟩ => ⟨S32x128, .f32⟩
  | .local _ .vmem, ⟨14, _⟩ => ⟨S4x128x256, .bf16⟩
  | .local _ .vmem, ⟨15, _⟩ => ⟨S4x128x256, .bf16⟩
  | .local _ .vmem, ⟨16, _⟩ => ⟨S128x512, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_v2_7 : Ref sig .tc := ⟨.hbm, 17, rfl⟩
abbrev main_v2_8 : Ref sig .tc := ⟨.hbm, 18, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩

abbrev nD : Nat := 1
abbrev τ : Topo := Topo.v7x

variable {F : FTy → Type} [FloatOps F]

abbrev grid0 : Pipeline.Grid := .none
-- ==== Reference8Ideal.lean ====
abbrev S1024x256 : Shape := ⟨2, ![1024, 256]⟩
abbrev S128x1024 : Shape := ⟨2, ![128, 1024]⟩
abbrev S1024x352 : Shape := ⟨2, ![1024, 352]⟩
abbrev S352x1024 : Shape := ⟨2, ![352, 1024]⟩
abbrev S31x64 : Shape := ⟨2, ![31, 64]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S128x8 : Shape := ⟨2, ![128, 8]⟩
abbrev S128x8x1 : Shape := ⟨3, ![128, 8, 1]⟩
abbrev S128x8x64 : Shape := ⟨3, ![128, 8, 64]⟩
abbrev S128x512 : Shape := ⟨2, ![128, 512]⟩
abbrev S256x1024 : Shape := ⟨2, ![256, 1024]⟩
abbrev S32x128 : Shape := ⟨2, ![32, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩

abbrev nBuf : Space → Nat
  | .hbm => 48
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S128x1024, .f32⟩
  | .hbm, ⟨2, _⟩ => ⟨S1024x352, .f32⟩
  | .hbm, ⟨3, _⟩ => ⟨S1024x352, .f32⟩
  | .hbm, ⟨4, _⟩ => ⟨S352x1024, .f32⟩
  | .hbm, ⟨5, _⟩ => ⟨S31x64, .f32⟩
  | .hbm, ⟨6, _⟩ => ⟨S8x128x128, .f32⟩
  | .hbm, ⟨7, _⟩ => ⟨S8x128, .f32⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S128x8, .f32⟩
  | .hbm, ⟨25, _⟩ => ⟨S128x8x1, .f32⟩
  | .hbm, ⟨26, _⟩ => ⟨S128x8x64, .f32⟩
  | .hbm, ⟨27, _⟩ => ⟨S128x512, .f32⟩
  | .hbm, ⟨28, _⟩ => ⟨S256x1024, .f32⟩
  | .hbm, ⟨29, _⟩ => ⟨S256x1024, .bf16⟩
  | .hbm, ⟨30, _⟩ => ⟨S128x1024, .bf16⟩
  | .hbm, ⟨31, _⟩ => ⟨S352x1024, .f32⟩
  | .hbm, ⟨32, _⟩ => ⟨S352x1024, .bf16⟩
  | .hbm, ⟨33, _⟩ => ⟨S352x1024, .f32⟩
  | .hbm, ⟨34, _⟩ => ⟨S352x1024, .bf16⟩
  | .hbm, ⟨35, _⟩ => ⟨S352x1024, .bf16⟩
  | .hbm, ⟨36, _⟩ => ⟨S_, .i32⟩
  | .hbm, ⟨37, _⟩ => ⟨S_, .f32⟩
  | .hbm, ⟨38, _⟩ => ⟨S32x128, .f32⟩
  | .hbm, ⟨39, _⟩ => ⟨S4x2x128x128, .f32⟩
  | .hbm, ⟨40, _⟩ => ⟨S4x128x2x128, .f32⟩
  | .hbm, ⟨41, _⟩ => ⟨S4x128x256, .f32⟩
  | .hbm, ⟨42, _⟩ => ⟨S4x128x256, .bf16⟩
  | .hbm, ⟨43, _⟩ => ⟨S8x128x128, .f32⟩
  | .hbm, ⟨44, _⟩ => ⟨S4x2x128x128, .f32⟩
  | .hbm, ⟨45, _⟩ => ⟨S4x128x2x128, .f32⟩
  | .hbm, ⟨46, _⟩ => ⟨S4x128x256, .f32⟩
  | .hbm, ⟨47, _⟩ => ⟨S4x128x256, .bf16⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_0 : Ref sig .tc := ⟨.hbm, 36, rfl⟩
abbrev main_call2_v0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

/-- An array stored whole reads back as it was stored. -/
theorem canonWhole {S : Shape} {e : EltTy} (w : S.Idx → Elt Ideal e) :
    View.canon (Val := Elt Ideal) [⟨Rect.whole S, w⟩] = w := View.canon_unit_zero (Val := Elt Ideal) rfl _ _

/-- An index of a block of gates from its two coordinates. -/
theorem idxG {y : S512x2816.Idx} {a : Fin 512} {n : ℕ} (h0 : ((y 0 : Fin 512) : ℕ) = a) (h1 : ((y 1 : Fin 2816) : ℕ) = n) :
    y = ix2 a ⟨n, h1 ▸ (y 1).isLt⟩ := by
  subst h1
  rw [eq_ix2 y]
  congr 1
  exact Fin.ext h0

/-! ## What a point's blocks are -/

/-- The hidden layer's cotangent: rows of the block against rows of the down weight. -/
def dhh (D : S512x1024.Idx → EReal) (Wd : S2816x1024.Idx → EReal) (p : Fin 512) (f : Fin 2816) : EReal :=
  ∑ k : Fin 1024, D (ix2 p k) * Wd (ix2 f k)

/-- The gate's cotangent on a block of rows. -/
def dgB (D : S512x1024.Idx → EReal) (G U : S512x2816.Idx → EReal) (Wd : S2816x1024.Idx → EReal) :
    S512x2816.Idx → EReal := fun y =>
  dhh D Wd (y 0) (y 1) * U y * (Ideal.logistic (G y) * (1 + G y * (1 - Ideal.logistic (G y))))

/-- The up branch's cotangent on a block of rows. -/
def duB (D : S512x1024.Idx → EReal) (G : S512x2816.Idx → EReal) (Wd : S2816x1024.Idx → EReal) :
    S512x2816.Idx → EReal := fun y =>
  dhh D Wd (y 0) (y 1) * (G y * Ideal.logistic (G y))

/-! ## The three weights stay in the scratch buffers -/

theorem scrA (c : Dev nD) (t : Fin cfg0.N) (h0 : t.val % 16 = 0) :
    (outsAt0 m c t.val t.isLt).2.2.2.2.1 = V m c main_v30 ∧ (outsAt0 m c t.val t.isLt).2.2.2.2.2.1 = V m c main_v32
      ∧ (outsAt0 m c t.val t.isLt).2.2.2.2.2.2 = V m c main_v33 := by
  refine ⟨?_, ?_, ?_⟩
  all_goals
    rw [outsAt0_A m c t h0]
    frame_out
    exact canonWhole _

theorem scrB (c : Dev nD) (t : Fin cfg0.N) (h0 : ¬ t.val % 16 = 0) :
    (outsAt0 m c t.val t.isLt).2.2.2.2 =
      (outsAt0 m c (t.val - 1) (Nat.lt_of_le_of_lt (Nat.sub_le _ _) t.isLt)).2.2.2.2 := by
  rw [outsAt0_B m c t h0]
  rfl

theorem scr (c : Dev nD) : ∀ (n : ℕ) (h : n < cfg0.N),
    (outsAt0 m c n h).2.2.2.2.1 = V m c main_v30 ∧ (outsAt0 m c n h).2.2.2.2.2.1 = V m c main_v32
      ∧ (outsAt0 m c n h).2.2.2.2.2.2 = V m c main_v33 := by
  intro n
  induction n with
  | zero => exact fun h => scrA m c ⟨0, h⟩ rfl
  | succ n ih =>
    intro h
    by_cases h0 : (n + 1) % 16 = 0
    · exact scrA m c ⟨n + 1, h⟩ h0
    · have e := scrB m c ⟨n + 1, h⟩ h0
      have i := ih (Nat.lt_of_succ_lt h)
      dsimp only at e
      rw [e]
      exact i

end Cert.KernelIdeal.Val

end

end
-- ==== Proof.GateBlock.lean ====
module

public import proofs.«01_k».proof.Proof.Block
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
theorem o6 (c : Dev nD) (t : Fin cfg0.N) :
    (outsAt0 m c t.val t.isLt).1 = dgB (iblk m c 0 t) (iblk m c 1 t) (iblk m c 2 t) (V m c main_v33) := by
  by_cases h0 : t.val % 16 = 0
  · rw [outsAt0_A m c t h0]
    frame_out
    funext y
    simp only [View.readCov_eq_canon', canonWhole]
    canon_tiles x h
    all_goals
      open_payloads
      pointwise [dgB, dhh]
      rw [idxG h0 h1]
      rfl
  · rw [outsAt0_B m c t h0, (scr m c (t.val - 1) (Nat.lt_of_le_of_lt (Nat.sub_le _ _) t.isLt)).2.2]
    frame_out
    funext y
    simp only [read_unread_whole]
    canon_tiles x h
    all_goals
      open_payloads
      pointwise [dgB, dhh]
      rw [idxG h0 h1]
      rfl

end Cert.KernelIdeal.Val

end

end
-- ==== Proof.UpBlock.lean ====
module

public import proofs.«01_k».proof.Proof.Block
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
theorem o7 (c : Dev nD) (t : Fin cfg0.N) :
    (outsAt0 m c t.val t.isLt).2.1 = duB (iblk m c 0 t) (iblk m c 1 t) (V m c main_v33) := by
  by_cases h0 : t.val % 16 = 0
  · rw [outsAt0_A m c t h0]
    frame_out
    funext y
    simp only [View.readCov_eq_canon', canonWhole]
    canon_tiles x h
    all_goals
      open_payloads
      pointwise [duB, dhh]
      rw [idxG h0 h1]
      rfl
  · rw [outsAt0_B m c t h0, (scr m c (t.val - 1) (Nat.lt_of_le_of_lt (Nat.sub_le _ _) t.isLt)).2.2]
    frame_out
    funext y
    simp only [read_unread_whole]
    canon_tiles x h
    all_goals
      open_payloads
      pointwise [duB, dhh]
      rw [idxG h0 h1]
      rfl

end Cert.KernelIdeal.Val

end

end
-- ==== Proof.RowBlock.lean ====
module

public import proofs.«01_k».proof.Proof.GateBlock
public import proofs.«01_k».proof.Proof.UpBlock
public import Idealize.ShloMosaic.Lib.Pipeline.ValueKit
public import Idealize.ShloMosaic.Lib.Pipeline.ReadBack
public import Idealize.ShloMosaic.Lib.WritesUnit
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

/-- The cotangent of the normalised rows after the affine map, on a block. -/
def dxB (D : S512x1024.Idx → EReal) (A B : S512x2816.Idx → EReal) (Wg Wu : S2816x1024.Idx → EReal) :
    S512x1024.Idx → EReal := fun y =>
  Ideal.ofBits .f32 0x3F9837F0#32 * D y + (∑ f : Fin 2816, A (ix2 (y 0) f) * Wg (ix2 f (y 1)))
    + ∑ f : Fin 2816, B (ix2 (y 0) f) * Wu (ix2 f (y 1))

/-- The rows' cotangent: through the affine map and the normalisation. -/
def drB (X N : S512x1024.Idx → EReal) (L : S1x1024.Idx → EReal) (R : S512x1.Idx → EReal) : S512x1024.Idx → EReal := fun y =>
  R (ix2 (y 0) 0) * (X y * L (ix2 0 (y 1))
    - Ideal.div (∑ k : Fin 1024, X (ix2 (y 0) k) * L (ix2 0 k)) (Ideal.ofBits .f32 0x44800000#32)
    - N y * Ideal.div (∑ k : Fin 1024, X (ix2 (y 0) k) * L (ix2 0 k) * N (ix2 (y 0) k)) (Ideal.ofBits .f32 0x44800000#32))

/-- One point's step of the two sums over rows. -/
def stB (P : S8x1024.Idx → EReal) (X N : S512x1024.Idx → EReal) : S8x1024.Idx → EReal := fun y =>
  if (y 0).val = 0 then P (ix2 0 (y 1)) + ∑ p : Fin 512, X (ix2 p (y 1)) * N (ix2 p (y 1))
  else if (y 0).val = 1 then P (ix2 1 (y 1)) + ∑ p : Fin 512, X (ix2 p (y 1)) else P y

/-- The block of cotangents at a point. -/
def xAt (c : Dev nD) (t : Fin cfg0.N) : S512x1024.Idx → EReal :=
  dxB (iblk m c 0 t) (dgB (iblk m c 0 t) (iblk m c 1 t) (iblk m c 2 t) (V m c main_v33)) (duB (iblk m c 0 t) (iblk m c 1 t) (V m c main_v33)) (V m c main_v30) (V m c main_v32)

/-- An array with one row replaced. -/
def rowPut (r : ℕ) (w : S1x1024.Idx → EReal) (X : S8x1024.Idx → EReal) : S8x1024.Idx → EReal := fun y =>
  if (y 0).val = r then w (ix2 0 (y 1)) else X y

theorem canonRow (r : ℕ) (inb : ∀ a, ![r, 0] a + ![1, 1024] a ≤ S8x1024.size a) (w : S1x1024.Idx → Elt Ideal .f32)
    (L : List (View.Piece (Elt Ideal) S8x1024 .f32)) :
    View.canon (Val := Elt Ideal) (⟨Rect.unit ![r, 0] ![1, 1024] inb, w⟩ :: L) = rowPut r w (View.canon L) := by
  funext y
  unfold rowPut
  split
  · next h =>
    have e : y = (Rect.unit (s := S8x1024) ![r, 0] ![1, 1024] inb).emb (ix2 0 (y 1)) := by
      funext a
      apply Fin.ext
      fin_cases a
      · simpa using h
      · simp [ix2]
    conv_lhs => rw [e]
    exact View.canon_cons_emb _ _ _ _
  · next h =>
    refine View.canon_cons_of_not_mem _ _ fun hm => h ?_
    have h2 := (Rect.mem_set_unit (inb := inb)).mp hm 0
    simp at h2
    omega

theorem canonFill (inb : ∀ a, ![0, 0] a + ![8, 1024] a ≤ S8x1024.size a) (w : S8x1024.Idx → Elt Ideal .f32) :
    View.canon (Val := Elt Ideal) [⟨Rect.unit ![0, 0] ![8, 1024] inb, w⟩] = w :=
  View.canon_unit_zero (S := S8x1024) (off := ![0, 0]) (by decide) inb w

theorem writesRow {κ : Kind} {sp : Space} (v : View sig κ sp S8x1024 .f32) (f : v.ty.Contents (Elt Ideal)) (r : ℕ)
    (inb : ∀ a, ![r, 0] a + ![1, 1024] a ≤ S8x1024.size a) (w : S1x1024.Idx → Elt Ideal .f32)
    (L : List (View.Piece (Elt Ideal) S8x1024 .f32)) :
    v.read (Elt Ideal) (v.writes (Elt Ideal) f (⟨Rect.unit ![r, 0] ![1, 1024] inb, w⟩ :: L)) =
      rowPut r w (v.read (Elt Ideal) (v.writes (Elt Ideal) f L)) := by
  funext y
  unfold rowPut
  split
  · next h =>
    exact View.read_writes_cons_rows_of_mem v f inb w L y (ix2 0 (y 1)) rfl (by simpa using h) rfl
  · next h => exact View.read_writes_cons_rows_of_not_mem (W := 1) v f inb w L y rfl rfl (by omega)

set_option maxHeartbeats 1000000 in
theorem o8A (c : Dev nD) (t : Fin cfg0.N) (h0 :  t.val % 16 = 0) :
    (outsAt0 m c t.val t.isLt).2.2.1 = drB (xAt m c t) (iblk m c 3 t) (iblk m c 5 t) (iblk m c 4 t) := by
    have h6 := o6 m c t
    have h7 := o7 m c t
    rw [outsAt0_A m c t h0] at h6 h7 ⊢
    frame_out at h6
    frame_out at h7
    frame_out
    simp only [View.readCov_eq_canon', canonWhole] at h6 h7 ⊢
    simp only [h6, h7]
    clear h6 h7
    funext y
    open_payloads
    pointwise [xAt, drB, dxB]
    rfl

set_option maxHeartbeats 1000000 in
theorem o8B (c : Dev nD) (t : Fin cfg0.N) (h0 : ¬ t.val % 16 = 0) :
    (outsAt0 m c t.val t.isLt).2.2.1 = drB (xAt m c t) (iblk m c 3 t) (iblk m c 5 t) (iblk m c 4 t) := by
    have h6 := o6 m c t
    have h7 := o7 m c t
    have hs := scr m c (t.val - 1) (Nat.lt_of_le_of_lt (Nat.sub_le _ _) t.isLt)
    rw [outsAt0_B m c t h0] at h6 h7 ⊢
    frame_out at h6
    frame_out at h7
    frame_out
    simp only [read_unread_whole, hs.1, hs.2.1, hs.2.2] at h6 h7 ⊢
    simp only [View.readCov_eq_canon', h6, h7]
    clear h6 h7
    funext y
    open_payloads
    pointwise [xAt, drB, dxB]
    rfl

set_option maxHeartbeats 1000000 in
theorem o9A (c : Dev nD) (t : Fin cfg0.N) (h0 :  t.val % 16 = 0) :
    (outsAt0 m c t.val t.isLt).2.2.2.1 = stB (fun _ => 0) (xAt m c t) (iblk m c 3 t) := by
    have h6 := o6 m c t
    have h7 := o7 m c t
    rw [outsAt0_A m c t h0] at h6 h7 ⊢
    frame_out at h6
    frame_out at h7
    frame_out
    simp only [View.readCov_eq_canon', canonWhole] at h6 h7 ⊢
    simp only [h6, h7]
    clear h6 h7
    simp only [canonRow, canonFill]

    funext y
    unfold stB
    by_cases e0 : (y 0).val = 0
    · have e1 : ¬ (y 0).val = 1 := by omega
      simp only [rowPut, if_pos e0, if_neg e1]
      open_payloads
      pointwise [xAt, dxB]
      rfl
    · by_cases e1 : (y 0).val = 1
      · simp only [rowPut, if_neg e0, if_pos e1]
        open_payloads
        pointwise [xAt, dxB]
        rfl
      · simp only [rowPut, if_neg e0, if_neg e1]
        open_payloads
        pointwise

set_option maxHeartbeats 1000000 in
theorem o9B (c : Dev nD) (t : Fin cfg0.N) (h0 : ¬ t.val % 16 = 0) :
    (outsAt0 m c t.val t.isLt).2.2.2.1 = stB (outsAt0 m c (t.val - 1) (Nat.lt_of_le_of_lt (Nat.sub_le _ _) t.isLt)).2.2.2.1 (xAt m c t) (iblk m c 3 t) := by
    have h6 := o6 m c t
    have h7 := o7 m c t
    have hs := scr m c (t.val - 1) (Nat.lt_of_le_of_lt (Nat.sub_le _ _) t.isLt)
    rw [outsAt0_B m c t h0] at h6 h7 ⊢
    frame_out at h6
    frame_out at h7
    frame_out
    simp only [read_unread_whole, hs.1, hs.2.1, hs.2.2] at h6 h7 ⊢
    simp only [View.readCov_eq_canon', h6, h7]
    clear h6 h7
    simp only [writesRow, View.writes_nil, Memref.IsWhole.read_unread]

    funext y
    unfold stB
    by_cases e0 : (y 0).val = 0
    · have e1 : ¬ (y 0).val = 1 := by omega
      simp only [rowPut, if_pos e0, if_neg e1]
      open_payloads
      pointwise [xAt, dxB]
      rfl
    · by_cases e1 : (y 0).val = 1
      · simp only [rowPut, if_neg e0, if_pos e1]
        open_payloads
        pointwise [xAt, dxB]
        rfl
      · simp only [rowPut, if_neg e0, if_neg e1]

end Cert.KernelIdeal.Val

end

end
-- ==== Proof.BranchArrays.lean ====
module

public import proofs.«01_k».proof.Proof.RowBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

open Idealize.ShloMosaic.Pipeline (Dat)

/-- The windows' block indices, all points at once. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The hidden layer's cotangent. -/
def hidG (D : S8192x1024.Idx → EReal) (Wd : S2816x1024.Idx → EReal) (p : Fin 8192) (f : Fin 2816) : EReal :=
  ∑ k : Fin 1024, D (ix2 p k) * Wd (ix2 f k)

/-- The gate's cotangent. -/
def dgG (D : S8192x1024.Idx → EReal) (G U : S8192x2816.Idx → EReal) (Wd : S2816x1024.Idx → EReal) :
    S8192x2816.Idx → EReal := fun y =>
  hidG D Wd (y 0) (y 1) * U y * (Ideal.logistic (G y) * (1 + G y * (1 - Ideal.logistic (G y))))

/-- The up branch's cotangent. -/
def duG (D : S8192x1024.Idx → EReal) (G : S8192x2816.Idx → EReal) (Wd : S2816x1024.Idx → EReal) :
    S8192x2816.Idx → EReal := fun y =>
  hidG D Wd (y 0) (y 1) * (G y * Ideal.logistic (G y))

/-- The cotangent of the normalised rows after the affine map. -/
def dxG (D : S8192x1024.Idx → EReal) (A B : S8192x2816.Idx → EReal) (Wg Wu : S2816x1024.Idx → EReal) :
    S8192x1024.Idx → EReal := fun y =>
  Ideal.ofBits .f32 0x3F9837F0#32 * D y + (∑ f : Fin 2816, A (ix2 (y 0) f) * Wg (ix2 f (y 1)))
    + ∑ f : Fin 2816, B (ix2 (y 0) f) * Wu (ix2 f (y 1))

/-- The rows' cotangent. -/
def drG (X N : S8192x1024.Idx → EReal) (L : S1x1024.Idx → EReal) (R : S8192x1.Idx → EReal) : S8192x1024.Idx → EReal := fun y =>
  R (ix2 (y 0) 0) * (X y * L (ix2 0 (y 1))
    - Ideal.div (∑ k : Fin 1024, X (ix2 (y 0) k) * L (ix2 0 k)) (Ideal.ofBits .f32 0x44800000#32)
    - N y * Ideal.div (∑ k : Fin 1024, X (ix2 (y 0) k) * L (ix2 0 k) * N (ix2 (y 0) k)) (Ideal.ofBits .f32 0x44800000#32))

/-- The two sums over rows, in the first two of eight rows. -/
def stG (X N : S8192x1024.Idx → EReal) : S8x1024.Idx → EReal := fun y =>
  if (y 0).val = 0 then ∑ p : Fin 8192, X (ix2 p (y 1)) * N (ix2 p (y 1))
  else if (y 0).val = 1 then ∑ p : Fin 8192, X (ix2 p (y 1)) else 0

theorem final6 (c : Dev nD) : (dats m 0 c).arrAt 6 (cfgs 0).N
    = dgG (V m c main_arg6) (V m c main_v25) (V m c main_v27) (V m c main_v33) := by
  refine (dats m 0 c).arrAt_eq_of_covers 6 _ (by decide +kernel) fun t _ y => ?_
  blk_simp
  rw [after0_6, o6]
  pointwise [dgB, dgG, dhh, hidG]
  blk_point [iblk, idx t]

theorem final7 (c : Dev nD) : (dats m 0 c).arrAt 7 (cfgs 0).N
    = duG (V m c main_arg6) (V m c main_v25) (V m c main_v33) := by
  refine (dats m 0 c).arrAt_eq_of_covers 7 _ (by decide +kernel) fun t _ y => ?_
  blk_simp
  rw [after0_7, o7]
  pointwise [duB, duG, dhh, hidG]
  blk_point [iblk, idx t]

end Cert.KernelIdeal.Val

end

end
-- ==== Proof.RowArray.lean ====
module

public import proofs.«01_k».proof.Proof.BranchArrays
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)
/-- All of the rows' cotangents after the affine map, from the entry contents. -/
def xAll (c : Dev nD) : S8192x1024.Idx → EReal :=
  dxG (V m c main_arg6) (dgG (V m c main_arg6) (V m c main_v25) (V m c main_v27) (V m c main_v33))
    (duG (V m c main_arg6) (V m c main_v25) (V m c main_v33)) (V m c main_v30) (V m c main_v32)

theorem o8 (c : Dev nD) (t : Fin cfg0.N) :
    (outsAt0 m c t.val t.isLt).2.2.1 = drB (xAt m c t) (iblk m c 3 t) (iblk m c 5 t) (iblk m c 4 t) := by
  by_cases h0 : t.val % 16 = 0
  · exact o8A m c t h0
  · exact o8B m c t h0

theorem xAt_eq (c : Dev nD) (t : Fin cfg0.N) (y : S512x1024.Idx) (i : S8192x1024.Idx) (h0 : (i 0).val = t.val * 512 + (y 0).val)
    (h1 : (i 1).val = (y 1).val) : xAt m c t y = xAll m c i := by
  pointwise [xAt, xAll, dxB, dxG, dgB, dgG, duB, duG, dhh, hidG]
  blk_point [iblk, idx t]

theorem final8 (c : Dev nD) : (dats m 0 c).arrAt 8 (cfgs 0).N
    = drG (xAll m c) (V m c main_v17) (V m c main_v28) (V m c main_v13) := by
  refine (dats m 0 c).arrAt_eq_of_covers 8 _ (by decide +kernel) fun t _ y => ?_
  blk_simp
  rw [after0_8, o8]
  pointwise [drB, drG, xAt, xAll, dxB, dxG, dgB, dgG, duB, duG, dhh, hidG]
  blk_point [iblk, idx t]

end Cert.KernelIdeal.Val

end

end
-- ==== Proof.SumArray.lean ====
module

public import proofs.«01_k».proof.Proof.RowArray
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)
/-- One point's part of the two sums. -/
def sterm (X N : S512x1024.Idx → EReal) : S8x1024.Idx → EReal := fun y =>
  if (y 0).val = 0 then ∑ p : Fin 512, X (ix2 p (y 1)) * N (ix2 p (y 1))
  else if (y 0).val = 1 then ∑ p : Fin 512, X (ix2 p (y 1)) else 0

theorem stB_eq (P : S8x1024.Idx → EReal) (X N : S512x1024.Idx → EReal) (y : S8x1024.Idx) :
    stB P X N y = P y + sterm X N y := by
  unfold stB sterm
  split
  · next h =>
    congr 2
    rw [eq_ix2 y]
    congr 1
    exact Fin.ext h.symm
  · split
    · next h =>
      congr 2
      rw [eq_ix2 y]
      congr 1
      exact Fin.ext h.symm
    · exact (add_zero _).symm

theorem final9 (c : Dev nD) : (dats m 0 c).arrAt 9 (cfgs 0).N = stG (xAll m c) (V m c main_v17) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0)
    (fun t => sterm (xAt m c t) (iblk m c 3 t))
    (fun t h j => by rw [o9A m c t h, stB_eq])
    (fun t h j => by rw [o9B m c t h, stB_eq])
    (le_of_eq N_0) t0_15 rfl j, zero_add]
  unfold sterm stG
  by_cases e0 : (j 0).val = 0
  · simp only [if_pos e0]
    refine Fin.sum_mul_add_congr (S := 16) fun s k hl => ?_
    rw [xAt_eq m c s (ix2 k (j 1)) (ix2 ⟨s.val * 512 + k.val, hl⟩ (j 1)) rfl rfl]
    blk_point [iblk, idx s]
  · by_cases e1 : (j 0).val = 1
    · simp only [if_neg e0, if_pos e1]
      refine Fin.sum_mul_add_congr (S := 16) fun s k hl => ?_
      exact xAt_eq m c s (ix2 k (j 1)) (ix2 ⟨s.val * 512 + k.val, hl⟩ (j 1)) rfl rfl
    · simp only [if_neg e0, if_neg e1]
      exact (Finset.sum_const_zero : (∑ _p : Fin cfg0.N, (0 : EReal)) = 0)

end Cert.KernelIdeal.Val

end

end
-- ==== Proof.Spec.lean ====
module

public import Idealize.ShloMosaic.Lib.Pointwise

@[expose] public section

noncomputable section

namespace Cert.Real

open Idealize.ShloMosaic

/-! ## Reals among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem div_real (x : ℝ) {y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.mpr h.le), if_neg h.ne']

/-! ## The constants -/

/-- The offset under the root. -/
def eps : ℝ := 10995116 / 2 ^ 40
/-- The weight of the residual. -/
def alpha : ℝ := 9975792 / 2 ^ 23

theorem word_1024 : Ideal.ofBits .f32 0x44800000#32 = ((1024 : ℝ) : EReal) := by
  simp [Ideal.ofBits, Ideal.ieee]; norm_num; rw [← EReal.coe_mul]; norm_num
theorem word_2 : Ideal.ofBits .f32 0x40000000#32 = ((2 : ℝ) : EReal) := by
  simp [Ideal.ofBits, Ideal.ieee]; norm_num; rw [← EReal.coe_mul]; norm_num
theorem word_1 : Ideal.ofBits .f32 0x3F800000#32 = ((1 : ℝ) : EReal) := by
  simp [Ideal.ofBits, Ideal.ieee]; norm_num; rw [← EReal.coe_mul]; norm_num
theorem word_neg_half : Ideal.ofBits .f32 0xBF000000#32 = ((-(1 / 2) : ℝ) : EReal) := by
  simp [Ideal.ofBits, Ideal.ieee]; norm_num; rw [← EReal.coe_mul]; norm_num
theorem word_eps : Ideal.ofBits .f32 0x3727C5AC#32 = (eps : EReal) := by
  simp [Ideal.ofBits, Ideal.ieee, eps]; norm_num; rw [← EReal.coe_mul]; norm_num
theorem word_alpha : Ideal.ofBits .f32 0x3F9837F0#32 = (alpha : EReal) := by
  simp [Ideal.ofBits, Ideal.ieee, alpha]; norm_num; rw [← EReal.coe_mul]; norm_num
theorem word_top : Ideal.ofBits .f32 0x7F800000#32 = (⊤ : EReal) := by
  simp [Ideal.ofBits, Ideal.ieee]
theorem word_zero : Ideal.ofBits .f32 0x00000000#32 = ((0 : ℝ) : EReal) := by
  simp [Ideal.ofBits, Ideal.ieee]

theorem eps_pos : 0 < eps := by unfold eps; norm_num

/-- A real matrix as the contents of a two-dimensional array. -/
def mat {a b : ℕ} (f : Fin a → Fin b → ℝ) : Shape.Idx ⟨2, ![a, b]⟩ → EReal := fun i => ((f (i 0) (i 1) : ℝ) : EReal)
/-- A real vector as the contents of a one-dimensional array. -/
def vec {a : ℕ} (f : Fin a → ℝ) : Shape.Idx ⟨1, ![a]⟩ → EReal := fun i => ((f (i 0) : ℝ) : EReal)

/-! ## The block's gradient over the reals -/

/-- The arguments: the residual rows, the layer norm's two vectors, the three weights and the rows' cotangent. -/
structure Inp where
  r : Fin 8192 → Fin 1024 → ℝ
  g : Fin 1024 → ℝ
  b : Fin 1024 → ℝ
  wg : Fin 1024 → Fin 2816 → ℝ
  wu : Fin 1024 → Fin 2816 → ℝ
  wd : Fin 2816 → Fin 1024 → ℝ
  d : Fin 8192 → Fin 1024 → ℝ

variable (I : Inp)

/-- The logistic function. -/
def sg (t : ℝ) : ℝ := (1 + Real.exp (-t))⁻¹

namespace Inp

def mu (i : Fin 8192) : ℝ := (∑ k, I.r i k) / 1024
def xc (i : Fin 8192) (k : Fin 1024) : ℝ := I.r i k - I.mu i
def vr (i : Fin 8192) : ℝ := (∑ k, I.xc i k * I.xc i k) / 1024
def s (i : Fin 8192) : ℝ := I.vr i + eps
def rs (i : Fin 8192) : ℝ := (Real.sqrt (I.s i))⁻¹
def n (i : Fin 8192) (k : Fin 1024) : ℝ := I.xc i k * I.rs i
def x (i : Fin 8192) (k : Fin 1024) : ℝ := I.n i k * I.g k + I.b k
def G (i : Fin 8192) (f : Fin 2816) : ℝ := ∑ k, I.x i k * I.wg k f
def U (i : Fin 8192) (f : Fin 2816) : ℝ := ∑ k, I.x i k * I.wu k f
def H (i : Fin 8192) (f : Fin 2816) : ℝ := ∑ k, I.d i k * I.wd f k
def dg (i : Fin 8192) (f : Fin 2816) : ℝ := I.H i f * I.U i f * (sg (I.G i f) * (1 + I.G i f * (1 - sg (I.G i f))))
def du (i : Fin 8192) (f : Fin 2816) : ℝ := I.H i f * (I.G i f * sg (I.G i f))
def dx (i : Fin 8192) (k : Fin 1024) : ℝ := alpha * I.d i k + (∑ f, I.dg i f * I.wg k f) + ∑ f, I.du i f * I.wu k f
def dr (i : Fin 8192) (k : Fin 1024) : ℝ :=
  I.rs i * (I.dx i k * I.g k - (∑ j, I.dx i j * I.g j) / 1024 - I.n i k * ((∑ j, I.dx i j * I.g j * I.n i j) / 1024))

theorem s_pos (i : Fin 8192) : 0 < I.s i := by
  have h : 0 ≤ I.vr i := div_nonneg (Finset.sum_nonneg fun k _ => mul_self_nonneg _) (by norm_num)
  exact add_pos_of_nonneg_of_pos h eps_pos

theorem rs_sq (i : Fin 8192) : I.rs i * I.rs i = 1 / I.s i := by
  unfold rs
  rw [← mul_inv, Real.mul_self_sqrt (I.s_pos i).le, one_div]

theorem sum_xc (i : Fin 8192) : ∑ k, I.xc i k = 0 := by
  unfold xc mu
  rw [Finset.sum_sub_distrib]
  simp
  ring

theorem du_eq (i : Fin 8192) (f : Fin 2816) : I.G i f * sg (I.G i f) * I.H i f = I.du i f := mul_comm _ _

theorem dg_eq (i : Fin 8192) (f : Fin 2816) :
    I.H i f * I.U i f * sg (I.G i f) + I.G i f * (I.H i f * I.U i f) * (sg (I.G i f) * (1 - sg (I.G i f))) = I.dg i f := by
  unfold dg; ring

theorem dx_eq (i : Fin 8192) (k : Fin 1024) :
    alpha * I.d i k + (∑ f, I.du i f * I.wu k f) + ∑ f, I.dg i f * I.wg k f = I.dx i k := add_right_comm _ _ _

end Inp

theorem sg_pos (t : ℝ) : 0 < 1 + Real.exp (-t) := by positivity

/-- The layer norm's backward pass, in the order differentiation by parts gives and in closed form. -/
theorem norm_back (xc y : Fin 1024 → ℝ) (rs s : ℝ) (hs : rs * rs = 1 / s) (h0 : ∑ k, xc k = 0) (k : Fin 1024) :
    y k * rs + (∑ j, xc j * y j) * (-(1 / 2) * (rs / s)) / 1024 * (2 * xc k)
      + ((∑ j, -(y j * rs)) + ∑ j, -((∑ l, xc l * y l) * (-(1 / 2) * (rs / s)) / 1024 * (2 * xc j))) / 1024
    = rs * (y k - (∑ j, y j) / 1024 - xc k * rs * ((∑ j, y j * (xc j * rs)) / 1024)) := by
  have e1 : ∑ j, -(y j * rs) = -((∑ j, y j) * rs) := by rw [Finset.sum_neg_distrib, Finset.sum_mul]
  have e2 : ∑ j, -((∑ l, xc l * y l) * (-(1 / 2) * (rs / s)) / 1024 * (2 * xc j)) = 0 := by
    rw [Finset.sum_neg_distrib, ← Finset.mul_sum, ← Finset.mul_sum, h0]; ring
  have e3 : ∑ j, y j * (xc j * rs) = (∑ j, xc j * y j) * rs := by
    rw [Finset.sum_mul]; exact Finset.sum_congr rfl fun j _ => by ring
  have e4 : rs / s = rs * (rs * rs) := by rw [hs]; ring
  rw [e1, e2, e3, e4]
  ring

namespace Inp

theorem dr_eq (i : Fin 8192) (k : Fin 1024) :
    I.dx i k * I.g k * I.rs i + (∑ j, I.xc i j * (I.dx i j * I.g j)) * (-(1 / 2) * (I.rs i / I.s i)) / 1024 * (2 * I.xc i k)
      + ((∑ j, -(I.dx i j * I.g j * I.rs i)) + ∑ j, -((∑ l, I.xc i l * (I.dx i l * I.g l)) * (-(1 / 2) * (I.rs i / I.s i)) / 1024 * (2 * I.xc i j))) / 1024
    = I.dr i k :=
  norm_back (I.xc i) (fun j => I.dx i j * I.g j) _ _ (I.rs_sq i) (I.sum_xc i) k

end Inp

end Cert.Real

end

end
-- ==== Proof.Entries.lean ====
module

public import proofs.«01_k».proof.Proof.Gen.KernelIdeal.Frame
public import proofs.«01_k».proof.Proof.Spec
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen Cert.Real

variable (m : (ℓ : Loc nD τ sig) → Buf (Elt Ideal) ℓ)

variable (I : Inp) (c : Dev nD)

/-! The arrays that the call reads, at arguments of real numbers. -/

/-- The one-column form of a vector over the rows. -/
def col (f : Fin 8192 → ℝ) : S8192x1.Idx → EReal := fun i => ((f (i 0) : ℝ) : EReal)

/-- The one-row form of a vector over the features. -/
def row (f : Fin 1024 → ℝ) : S1x1024.Idx → EReal := fun i => ((f (i 1) : ℝ) : EReal)

/-- A product of the normalised rows with a weight. -/
theorem prod_real (w : Fin 1024 → Fin 2816 → ℝ) (p : Fin 8192) (f : Fin 2816) :
    (∑ x : Fin 1024, (((I.xc p x : ℝ) : EReal) * Ideal.rsqrt ((I.s p : ℝ) : EReal) * ((I.g x : ℝ) : EReal) + ((I.b x : ℝ) : EReal))
      * ((w x f : ℝ) : EReal)) = ((∑ x, I.x p x * w x f : ℝ) : EReal) := by
  simp only [rsqrt_real (I.s_pos p), ← EReal.coe_mul, ← EReal.coe_add, ← coe_sum]
  rfl

variable (h0 : (m ((c.tc : Thread nD τ).loc main_arg0) : S8192x1024.Idx → EReal) = mat I.r)
  (h1 : (m ((c.tc : Thread nD τ).loc main_arg1) : S1024.Idx → EReal) = vec I.g)
  (h2 : (m ((c.tc : Thread nD τ).loc main_arg2) : S1024.Idx → EReal) = vec I.b)
  (h3 : (m ((c.tc : Thread nD τ).loc main_arg3) : S1024x2816.Idx → EReal) = mat I.wg)
  (h4 : (m ((c.tc : Thread nD τ).loc main_arg4) : S1024x2816.Idx → EReal) = mat I.wu)
  (h5 : (m ((c.tc : Thread nD τ).loc main_arg5) : S2816x1024.Idx → EReal) = mat I.wd)
  (h6 : (m ((c.tc : Thread nD τ).loc main_arg6) : S8192x1024.Idx → EReal) = mat I.d)

include h0 in
theorem e_v13 : (V m c main_v13 : S8192x1.Idx → EReal) = col I.rs := by
  funext y
  entry_read
  rw [h0]
  pointwise
  simp only [mat, vec, col, Ideal.addf_def, word_1024, word_eps, word_zero, ← EReal.coe_mul, ← EReal.coe_add, ← EReal.coe_sub, ← coe_sum, div_real _ (show (1024:ℝ) ≠ 0 by norm_num), zero_add, add_zero]
  exact rsqrt_real (I.s_pos _)

include h0 in
theorem e_v17 : (V m c main_v17 : S8192x1024.Idx → EReal) = mat I.n := by
  funext y
  entry_read
  rw [h0]
  pointwise
  simp only [mat, vec, Ideal.addf_def, word_1024, word_eps, word_zero, ← EReal.coe_mul, ← EReal.coe_add, ← EReal.coe_sub, ← coe_sum, div_real _ (show (1024:ℝ) ≠ 0 by norm_num), zero_add, add_zero]
  exact congrArg (_ * ·) (rsqrt_real (I.s_pos _))

include h0 h1 h2 h3 in
theorem e_v25 : (V m c main_v25 : S8192x2816.Idx → EReal) = mat I.G := by
  funext y
  entry_read
  rw [h0, h1, h2, h3]
  pointwise
  simp only [mat, vec, Ideal.addf_def, word_1024, word_eps, word_zero, ← EReal.coe_mul, ← EReal.coe_add, ← EReal.coe_sub, ← coe_sum, div_real _ (show (1024:ℝ) ≠ 0 by norm_num), zero_add, add_zero]
  exact prod_real I I.wg (y 0) (y 1)

include h0 h1 h2 h4 in
theorem e_v27 : (V m c main_v27 : S8192x2816.Idx → EReal) = mat I.U := by
  funext y
  entry_read
  rw [h0, h1, h2, h4]
  pointwise
  simp only [mat, vec, Ideal.addf_def, word_1024, word_eps, word_zero, ← EReal.coe_mul, ← EReal.coe_add, ← EReal.coe_sub, ← coe_sum, div_real _ (show (1024:ℝ) ≠ 0 by norm_num), zero_add, add_zero]
  exact prod_real I I.wu (y 0) (y 1)

include h1 in
theorem e_v28 : (V m c main_v28 : S1x1024.Idx → EReal) = row I.g := by
  funext y
  entry_read
  rw [h1]
  pointwise
  simp only [mat, vec, row, Ideal.addf_def, word_1024, word_eps, word_zero, ← EReal.coe_mul, ← EReal.coe_add, ← EReal.coe_sub, ← coe_sum, div_real _ (show (1024:ℝ) ≠ 0 by norm_num), zero_add, add_zero]
  rfl

include h3 in
theorem e_v30 : (V m c main_v30 : S2816x1024.Idx → EReal) = mat fun f k => I.wg k f := by
  funext y
  entry_read
  rw [h3]
  pointwise
  simp only [mat, vec, Ideal.addf_def, word_1024, word_eps, word_zero, ← EReal.coe_mul, ← EReal.coe_add, ← EReal.coe_sub, ← coe_sum, div_real _ (show (1024:ℝ) ≠ 0 by norm_num), zero_add, add_zero]
  rfl

include h4 in
theorem e_v32 : (V m c main_v32 : S2816x1024.Idx → EReal) = mat fun f k => I.wu k f := by
  funext y
  entry_read
  rw [h4]
  pointwise
  simp only [mat, vec, Ideal.addf_def, word_1024, word_eps, word_zero, ← EReal.coe_mul, ← EReal.coe_add, ← EReal.coe_sub, ← coe_sum, div_real _ (show (1024:ℝ) ≠ 0 by norm_num), zero_add, add_zero]
  rfl

include h5 in
theorem e_v33 : (V m c main_v33 : S2816x1024.Idx → EReal) = mat I.wd := by
  funext y
  entry_read
  rw [h5]
  pointwise

include h6 in
theorem e_arg6 : (V m c main_arg6 : S8192x1024.Idx → EReal) = mat I.d := by
  funext y
  entry_read
  rw [h6]

end Cert.KernelIdeal.Val
end
end
-- ==== Proof.Results.lean ====
module

public import proofs.«01_k».proof.Proof.SumArray
public import proofs.«01_k».proof.Proof.Entries

@[expose] public section

set_option maxRecDepth 16384

noncomputable section

namespace Cert.KernelIdeal.Val

open Idealize.ShloMosaic Idealize.ShloMosaic.TcCoe Idealize.SL.Sem
open Cert.KernelIdeal Cert.KernelIdeal.Gen Cert.Real

variable (I : Inp)

/-! The closed forms of the call's results, at arrays of real numbers. -/

theorem hid_real (p : Fin 8192) (f : Fin 2816) : hidG (mat I.d) (mat I.wd) p f = ((I.H p f : ℝ) : EReal) := by
  simp only [hidG, mat, ← EReal.coe_mul, ← coe_sum]
  rfl

theorem dg_real : dgG (mat I.d) (mat I.G) (mat I.U) (mat I.wd) = mat I.dg := by
  funext y
  simp only [dgG, hid_real, mat, Ideal.logistic_coe, ← EReal.coe_one, ← EReal.coe_mul, ← EReal.coe_add, ← EReal.coe_sub]
  rfl

theorem du_real : duG (mat I.d) (mat I.G) (mat I.wd) = mat I.du := by
  funext y
  simp only [duG, hid_real, mat, Ideal.logistic_coe, ← EReal.coe_mul]
  rfl

theorem dx_real : dxG (mat I.d) (mat I.dg) (mat I.du) (mat fun f k => I.wg k f) (mat fun f k => I.wu k f) = mat I.dx := by
  funext y
  simp only [dxG, mat, word_alpha, ← EReal.coe_mul, ← coe_sum, ← EReal.coe_add]
  rfl

theorem dr_real : drG (mat I.dx) (mat I.n) (row I.g) (col I.rs) = mat I.dr := by
  funext y
  simp only [drG, mat, row, col, word_1024, ← EReal.coe_mul, ← coe_sum, div_real _ (show (1024 : ℝ) ≠ 0 by norm_num), ← EReal.coe_sub]
  rfl

theorem st_real : stG (mat I.dx) (mat I.n)
    = mat fun j k => if j.val = 0 then ∑ p, I.n p k * I.dx p k else if j.val = 1 then ∑ p, I.dx p k else 0 := by
  funext y
  have e : ∀ k, (∑ p, I.n p k * I.dx p k) = ∑ p, I.dx p k * I.n p k := fun k => Finset.sum_congr rfl fun p _ => mul_comm _ _
  simp only [stG, mat]
  split_ifs
  · simp only [← EReal.coe_mul, ← coe_sum]; exact congrArg Real.toEReal (e (y 1)).symm
  · simp only [← coe_sum]; rfl
  · rfl

variable (m : (ℓ : Loc nD τ sig) → Buf (Elt Ideal) ℓ) (c : Dev nD)
  (h0 : (m ((c.tc : Thread nD τ).loc main_arg0) : S8192x1024.Idx → EReal) = mat I.r)
  (h1 : (m ((c.tc : Thread nD τ).loc main_arg1) : S1024.Idx → EReal) = vec I.g)
  (h2 : (m ((c.tc : Thread nD τ).loc main_arg2) : S1024.Idx → EReal) = vec I.b)
  (h3 : (m ((c.tc : Thread nD τ).loc main_arg3) : S1024x2816.Idx → EReal) = mat I.wg)
  (h4 : (m ((c.tc : Thread nD τ).loc main_arg4) : S1024x2816.Idx → EReal) = mat I.wu)
  (h5 : (m ((c.tc : Thread nD τ).loc main_arg5) : S2816x1024.Idx → EReal) = mat I.wd)
  (h6 : (m ((c.tc : Thread nD τ).loc main_arg6) : S8192x1024.Idx → EReal) = mat I.d)
include h0 h1 h2 h3 h4 h5 h6

/-- The gate's cotangent, as the call leaves it. -/
theorem out6 : ((dats m 0 c).arrAt 6 (cfgs 0).N : S8192x2816.Idx → EReal) = mat I.dg := by
  rw [final6, e_arg6 m I c h6, e_v25 m I c h0 h1 h2 h3, e_v27 m I c h0 h1 h2 h4, e_v33 m I c h5, dg_real]

omit h4 in
/-- The up branch's cotangent, as the call leaves it. -/
theorem out7 : ((dats m 0 c).arrAt 7 (cfgs 0).N : S8192x2816.Idx → EReal) = mat I.du := by
  rw [final7, e_arg6 m I c h6, e_v25 m I c h0 h1 h2 h3, e_v33 m I c h5, du_real]

theorem xAll_real : (xAll m c : S8192x1024.Idx → EReal) = mat I.dx := by
  unfold xAll
  rw [e_arg6 m I c h6, e_v25 m I c h0 h1 h2 h3, e_v27 m I c h0 h1 h2 h4, e_v33 m I c h5, e_v30 m I c h3, e_v32 m I c h4,
    dg_real, du_real, dx_real]

/-- The rows' cotangent, as the call leaves it. -/
theorem out8 : ((dats m 0 c).arrAt 8 (cfgs 0).N : S8192x1024.Idx → EReal) = mat I.dr := by
  rw [final8, xAll_real I m c h0 h1 h2 h3 h4 h5 h6, e_v17 m I c h0, e_v28 m I c h1, e_v13 m I c h0, dr_real]

/-- The layer norm's two gradients, as the call leaves them. -/
theorem out9 : ((dats m 0 c).arrAt 9 (cfgs 0).N : S8x1024.Idx → EReal)
    = mat fun j k => if j.val = 0 then ∑ p, I.n p k * I.dx p k else if j.val = 1 then ∑ p, I.dx p k else 0 := by
  rw [final9, xAll_real I m c h0 h1 h2 h3 h4 h5 h6, e_v17 m I c h0, st_real]

end Cert.KernelIdeal.Val
end
end
-- ==== Proof.CallRun.lean ====
module

public import proofs.«01_k».proof.Proof.Results
public import Idealize.ShloMosaic.Lib.Claim

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The call's run: the arrays of its four output windows after the last point, and the arguments unchanged. -/
theorem run_arrays :
    θ_run (defs (F := Ideal)) (onTc (τ := τ) (main (F := Ideal))) ⟨m, fun _ => 0, ρ⟩ fun r => ∀ c : Dev nD,
      r.2.mem ((c.tc : Thread nD τ).loc main_v34_0) = (dats m 0 c).arrAt 6 (cfgs 0).N
      ∧ r.2.mem ((c.tc : Thread nD τ).loc main_v34_1) = (dats m 0 c).arrAt 7 (cfgs 0).N
      ∧ r.2.mem ((c.tc : Thread nD τ).loc main_v34_2) = (dats m 0 c).arrAt 8 (cfgs 0).N
      ∧ r.2.mem ((c.tc : Thread nD τ).loc main_v34_3) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r hr c => ?_) (θ_run_and (run_main m ρ) (unchanged m ρ))
  exact ⟨(hr.1 c).1 6, (hr.1 c).1 7, (hr.1 c).1 8, (hr.1 c).1 9, hr.2 c⟩

end Cert.KernelIdeal.Val
end
end
-- ==== Proof.AdamFrameBody.lean ====
module

public import proofs.«01_k».proof.Proof.Gen.Kernel7.Frame
public import Idealize.ShloMosaic.Lib.Pipeline.KitQuiescent
public import Idealize.ShloMosaic.Lib.Pipeline.ValueKit
public import Idealize.ShloMosaic.Lib.LaneScatter.Tiles

@[expose] public section

noncomputable section

namespace Cert.Kernel7.Body

open Cert.Kernel7 Cert.Kernel7.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the proof: the pipeline's and the transfers' counters. -/
abbrev UU (nD : Nat) (τ : Topo) : Type := UR sig nD τ × Counters

local notation "𝕄" => MT nD τ sig Unit (Elt F) ℕ (UU nD τ) ℕ

/-- A buffer's contents on a core. -/
abbrev Bf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : Bf (F := F) c M) : sProp 𝕄 :=
  M.view.loc (c : Thread nD τ) ↦{fullShare} f

/-- Equal contents may be exchanged. -/
theorem ptOfEq (c : Dev nD) {sp : Space} {S : Shape} {e : EltTy} (M : Memref sig .tc sp S e) {f g : Bf (F := F) c M} (h : f = g) :
    (pt c M f : sProp 𝕄) ⊢ pt c M g := by rw [h]

/-- The kernel's own transfer semaphores. -/
abbrev osem (k : Fin 24) : SemLoc sig := .dma k

/-- All of them at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0
      ∗ semVal ((c : Thread nD τ), osem 8) 0 ∗ semVal ((c : Thread nD τ), osem 9) 0 ∗ semVal ((c : Thread nD τ), osem 10) 0 ∗ semVal ((c : Thread nD τ), osem 11) 0
      ∗ semVal ((c : Thread nD τ), osem 12) 0 ∗ semVal ((c : Thread nD τ), osem 13) 0 ∗ semVal ((c : Thread nD τ), osem 14) 0 ∗ semVal ((c : Thread nD τ), osem 15) 0
      ∗ semVal ((c : Thread nD τ), osem 16) 0 ∗ semVal ((c : Thread nD τ), osem 17) 0 ∗ semVal ((c : Thread nD τ), osem 18) 0 ∗ semVal ((c : Thread nD τ), osem 19) 0
      ∗ semVal ((c : Thread nD τ), osem 20) 0 ∗ semVal ((c : Thread nD τ), osem 21) 0 ∗ semVal ((c : Thread nD τ), osem 22) 0 ∗ semVal ((c : Thread nD τ), osem 23) 0)

/-- The kernel's operands. -/
abbrev inp (c : Dev nD)
    (f0 : Bf (F := F) c (Memref.whole main_arg0))
    (f1 : Bf (F := F) c (Memref.whole main_v0))
    (f2 : Bf (F := F) c (Memref.whole main_v1))
    (f3 : Bf (F := F) c (Memref.whole main_v2))
    (f4 : Bf (F := F) c (Memref.whole main_arg4))
    (f5 : Bf (F := F) c (Memref.whole main_v3))
    (f6 : Bf (F := F) c (Memref.whole main_v4))
    (f7 : Bf (F := F) c (Memref.whole main_v5))
    (f8 : Bf (F := F) c (Memref.whole main_arg8))
    (f9 : Bf (F := F) c (Memref.whole main_arg9))
    (f10 : Bf (F := F) c (Memref.whole main_arg10))
    (f11 : Bf (F := F) c (Memref.whole main_arg11))
    : sProp 𝕄 :=
  iprop(pt c (Memref.whole main_arg0) f0 ∗ pt c (Memref.whole main_v0) f1 ∗ pt c (Memref.whole main_v1) f2 ∗ pt c (Memref.whole main_v2) f3
      ∗ pt c (Memref.whole main_arg4) f4 ∗ pt c (Memref.whole main_v3) f5 ∗ pt c (Memref.whole main_v4) f6 ∗ pt c (Memref.whole main_v5) f7
      ∗ pt c (Memref.whole main_arg8) f8 ∗ pt c (Memref.whole main_arg9) f9 ∗ pt c (Memref.whole main_arg10) f10 ∗ pt c (Memref.whole main_arg11) f11)

/-- The kernel's results. -/
abbrev out (c : Dev nD)
    (f0 : Bf (F := F) c (Memref.whole main_v6_0))
    (f1 : Bf (F := F) c (Memref.whole main_v6_1))
    (f2 : Bf (F := F) c (Memref.whole main_v6_2))
    (f3 : Bf (F := F) c (Memref.whole main_v6_3))
    (f4 : Bf (F := F) c (Memref.whole main_v6_4))
    (f5 : Bf (F := F) c (Memref.whole main_v6_5))
    (f6 : Bf (F := F) c (Memref.whole main_v6_6))
    (f7 : Bf (F := F) c (Memref.whole main_v6_7))
    (f8 : Bf (F := F) c (Memref.whole main_v6_8))
    (f9 : Bf (F := F) c (Memref.whole main_v6_9))
    (f10 : Bf (F := F) c (Memref.whole main_v6_10))
    (f11 : Bf (F := F) c (Memref.whole main_v6_11))
    : sProp 𝕄 :=
  iprop(pt c (Memref.whole main_v6_0) f0 ∗ pt c (Memref.whole main_v6_1) f1 ∗ pt c (Memref.whole main_v6_2) f2 ∗ pt c (Memref.whole main_v6_3) f3
      ∗ pt c (Memref.whole main_v6_4) f4 ∗ pt c (Memref.whole main_v6_5) f5 ∗ pt c (Memref.whole main_v6_6) f6 ∗ pt c (Memref.whole main_v6_7) f7
      ∗ pt c (Memref.whole main_v6_8) f8 ∗ pt c (Memref.whole main_v6_9) f9 ∗ pt c (Memref.whole main_v6_10) f10 ∗ pt c (Memref.whole main_v6_11) f11)

/-- The kernel's scratch buffers, each at some contents. -/
abbrev scr (c : Dev nD) : sProp 𝕄 :=
  iprop((∃ f, pt c (Memref.whole cc0_scratch0) f) ∗ (∃ f, pt c (Memref.whole cc0_scratch1) f) ∗ (∃ f, pt c (Memref.whole cc0_scratch2) f) ∗ (∃ f, pt c (Memref.whole cc0_scratch3) f)
      ∗ (∃ f, pt c (Memref.whole cc0_scratch4) f) ∗ (∃ f, pt c (Memref.whole cc0_scratch5) f) ∗ (∃ f, pt c (Memref.whole cc0_scratch6) f) ∗ (∃ f, pt c (Memref.whole cc0_scratch7) f)
      ∗ (∃ f, pt c (Memref.whole cc0_scratch8) f) ∗ (∃ f, pt c (Memref.whole cc0_scratch9) f) ∗ (∃ f, pt c (Memref.whole cc0_scratch10) f) ∗ (∃ f, pt c (Memref.whole cc0_scratch11) f)
      ∗ (∃ f, pt c (Memref.whole cc0_scratch12) f) ∗ (∃ f, pt c (Memref.whole cc0_scratch13) f) ∗ (∃ f, pt c (Memref.whole cc0_scratch14) f) ∗ (∃ f, pt c (Memref.whole cc0_scratch15) f)
      ∗ (∃ f, pt c (Memref.whole cc0_scratch16) f) ∗ (∃ f, pt c (Memref.whole cc0_scratch17) f) ∗ (∃ f, pt c (Memref.whole cc0_scratch18) f) ∗ (∃ f, pt c (Memref.whole cc0_scratch19) f)
      ∗ (∃ f, pt c (Memref.whole cc0_scratch20) f) ∗ (∃ f, pt c (Memref.whole cc0_scratch21) f) ∗ (∃ f, pt c (Memref.whole cc0_scratch22) f) ∗ (∃ f, pt c (Memref.whole cc0_scratch23) f))

/-- These are the scoped buffers that no window stages. -/
theorem scr_eq (c : Dev nD) :
    (Pipeline.scopedRest (Ix := Unit) (Name := ℕ) (U := UU nD τ) (Lvl := ℕ) (Val := Elt F) (cfg0.spec) c : sProp 𝕄) = scr c :=
  scopedRest0_eq c

/-- The results at some contents. -/
abbrev res (c : Dev nD) : sProp 𝕄 :=
  iprop((∃ f, pt c (Memref.whole main_v6_0) f) ∗ (∃ f, pt c (Memref.whole main_v6_1) f) ∗ (∃ f, pt c (Memref.whole main_v6_2) f) ∗ (∃ f, pt c (Memref.whole main_v6_3) f)
      ∗ (∃ f, pt c (Memref.whole main_v6_4) f) ∗ (∃ f, pt c (Memref.whole main_v6_5) f) ∗ (∃ f, pt c (Memref.whole main_v6_6) f) ∗ (∃ f, pt c (Memref.whole main_v6_7) f)
      ∗ (∃ f, pt c (Memref.whole main_v6_8) f) ∗ (∃ f, pt c (Memref.whole main_v6_9) f) ∗ (∃ f, pt c (Memref.whole main_v6_10) f) ∗ (∃ f, pt c (Memref.whole main_v6_11) f))

set_option maxHeartbeats 4000000 in
/-- The kernel's body, from its operands, results, scratch buffers and semaphores held: it ends with the operands as they were. -/
theorem kernelRun (c : Dev nD)
    (f0 : Bf (F := F) c (Memref.whole main_arg0))
    (f1 : Bf (F := F) c (Memref.whole main_v0))
    (f2 : Bf (F := F) c (Memref.whole main_v1))
    (f3 : Bf (F := F) c (Memref.whole main_v2))
    (f4 : Bf (F := F) c (Memref.whole main_arg4))
    (f5 : Bf (F := F) c (Memref.whole main_v3))
    (f6 : Bf (F := F) c (Memref.whole main_v4))
    (f7 : Bf (F := F) c (Memref.whole main_v5))
    (f8 : Bf (F := F) c (Memref.whole main_arg8))
    (f9 : Bf (F := F) c (Memref.whole main_arg9))
    (f10 : Bf (F := F) c (Memref.whole main_arg10))
    (f11 : Bf (F := F) c (Memref.whole main_arg11))
    (o0 : Bf (F := F) c (Memref.whole main_v6_0))
    (o1 : Bf (F := F) c (Memref.whole main_v6_1))
    (o2 : Bf (F := F) c (Memref.whole main_v6_2))
    (o3 : Bf (F := F) c (Memref.whole main_v6_3))
    (o4 : Bf (F := F) c (Memref.whole main_v6_4))
    (o5 : Bf (F := F) c (Memref.whole main_v6_5))
    (o6 : Bf (F := F) c (Memref.whole main_v6_6))
    (o7 : Bf (F := F) c (Memref.whole main_v6_7))
    (o8 : Bf (F := F) c (Memref.whole main_v6_8))
    (o9 : Bf (F := F) c (Memref.whole main_v6_9))
    (o10 : Bf (F := F) c (Memref.whole main_v6_10))
    (o11 : Bf (F := F) c (Memref.whole main_v6_11))
    (W : Waits sig Unit) (Q : PUnit → sProp 𝕄) :
    iprop(inp c f0 f1 f2 f3 f4 f5 f6 f7 f8 f9 f10 f11 ∗ out c o0 o1 o2 o3 o4 o5 o6 o7 o8 o9 o10 o11 ∗ scr c ∗ sems0 c ∗ owes (c : Thread nD τ) 0 W
      ∗ (iprop(inp c f0 f1 f2 f3 f4 f5 f6 f7 f8 f9 f10 f11 ∗ res c ∗ scr c ∗ sems0 c ∗ ∃ W, owes (c : Thread nD τ) 0 W) -∗ Q ⟨⟩))
    ⊢ wp frame (wpE (defs₀ (F := F)) Variants.none c none) Set.univ (bodyAt0 t0_0) Q := by
  iintro ⟨⟨HI0, HI1, HI2, HI3, HI4, HI5, HI6, HI7, HI8, HI9, HI10, HI11⟩, ⟨HO0, HO1, HO2, HO3, HO4, HO5, HO6, HO7, HO8, HO9, HO10, HO11⟩, ⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s15, HS15⟩, ⟨%s16, HS16⟩, ⟨%s17, HS17⟩, ⟨%s18, HS18⟩, ⟨%s19, HS19⟩, ⟨%s20, HS20⟩, ⟨%s21, HS21⟩, ⟨%s22, HS22⟩, ⟨%s23, HS23⟩⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23⟩, HW, Hk⟩
  sl_exec!
  sl_step
  iapply Hk
  isplitl [HI0 HI1 HI2 HI3 HI4 HI5 HI6 HI7 HI8 HI9 HI10 HI11]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    iexact HI11
  isplitl [HO0 HO1 HO2 HO3 HO4 HO5 HO6 HO7 HO8 HO9 HO10 HO11]
  · isplitl [HO0]; · iexists _; iexact HO0
    isplitl [HO1]; · iexists _; iexact HO1
    isplitl [HO2]; · iexists _; iexact HO2
    isplitl [HO3]; · iexists _; iexact HO3
    isplitl [HO4]; · iexists _; iexact HO4
    isplitl [HO5]; · iexists _; iexact HO5
    isplitl [HO6]; · iexists _; iexact HO6
    isplitl [HO7]; · iexists _; iexact HO7
    isplitl [HO8]; · iexists _; iexact HO8
    isplitl [HO9]; · iexists _; iexact HO9
    isplitl [HO10]; · iexists _; iexact HO10
    iexists _; iexact HO11
  isplitl [HS0 HS1 HS2 HS3 HS4 HS5 HS6 HS7 HS8 HS9 HS10 HS11 HS12 HS13 HS14 HS15 HS16 HS17 HS18 HS19 HS20 HS21 HS22 HS23]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    isplitl [HS15]; · iexists _; iexact HS15
    isplitl [HS16]; · iexists _; iexact HS16
    isplitl [HS17]; · iexists _; iexact HS17
    isplitl [HS18]; · iexists _; iexact HS18
    isplitl [HS19]; · iexists _; iexact HS19
    isplitl [HS20]; · iexists _; iexact HS20
    isplitl [HS21]; · iexists _; iexact HS21
    isplitl [HS22]; · iexists _; iexact HS22
    iexists _; iexact HS23
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    iexact Hd23
  iexists _; iexact HW

end Cert.Kernel7.Body

end

end
-- ==== Proof.AdamFrame.lean ====
module

public import proofs.«01_k».proof.Proof.AdamFrameBody
public import Idealize.ShloMosaic.Lib.Pipeline.Frame

@[expose] public section

noncomputable section

namespace Cert.Kernel7.Body

open Cert.Kernel7 Cert.Kernel7.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline's algebra is the left component. -/
abbrev EP : Emb (UR sig nD τ) (MT nD τ sig Unit (Elt F) ℕ (UU nD τ) ℕ) := embL

variable (m : (ℓ : Loc nD τ sig) → Buf (Elt F) ℓ) (ρ : Dev nD → PrngReg)

/-- The arguments that the kernel does not take itself. -/
abbrev others (c : Dev nD) : sProp 𝕄 :=
  iprop(pt c (Memref.whole main_arg1) (V m c main_arg1) ∗ pt c (Memref.whole main_arg2) (V m c main_arg2) ∗ pt c (Memref.whole main_arg3) (V m c main_arg3) ∗ pt c (Memref.whole main_arg5) (V m c main_arg5)
      ∗ pt c (Memref.whole main_arg6) (V m c main_arg6) ∗ pt c (Memref.whole main_arg7) (V m c main_arg7))

/-- What is held outside the scoped buffers before the kernel. -/
abbrev before (c : Dev nD) : sProp 𝕄 :=
  iprop(inp c (V m c main_arg0) (V m c main_v0) (V m c main_v1) (V m c main_v2) (V m c main_arg4) (V m c main_v3) (V m c main_v4) (V m c main_v5) (V m c main_arg8) (V m c main_arg9) (V m c main_arg10) (V m c main_arg11)
    ∗ out c (V m c main_v6_0) (V m c main_v6_1) (V m c main_v6_2) (V m c main_v6_3) (V m c main_v6_4) (V m c main_v6_5) (V m c main_v6_6) (V m c main_v6_7) (V m c main_v6_8) (V m c main_v6_9) (V m c main_v6_10) (V m c main_v6_11)
    ∗ others m c)

/-- What is held there after it. -/
abbrev after (c : Dev nD) : sProp 𝕄 :=
  iprop(inp c (V m c main_arg0) (V m c main_v0) (V m c main_v1) (V m c main_v2) (V m c main_arg4) (V m c main_v3) (V m c main_v4) (V m c main_v5) (V m c main_arg8) (V m c main_arg9) (V m c main_arg10) (V m c main_arg11)
    ∗ res c
    ∗ others m c)

set_option maxHeartbeats 4000000 in
/-- The buffers that are neither scoped nor a window's array, listed. -/
theorem rest_eq (c : Dev nD) (X : (b : Ref sig .tc) → Buf (Elt F) ((c : Thread nD τ).loc b)) :
    (Pipeline.unscopedRest (Ix := Unit) (Name := ℕ) (U := UU nD τ) (Lvl := ℕ) (cfg0.spec) c X : sProp 𝕄)
      = iprop(pt c (Memref.whole main_arg0) (X main_arg0) ∗ pt c (Memref.whole main_v0) (X main_v0) ∗ pt c (Memref.whole main_v1) (X main_v1) ∗ pt c (Memref.whole main_v2) (X main_v2)
      ∗ pt c (Memref.whole main_arg4) (X main_arg4) ∗ pt c (Memref.whole main_v3) (X main_v3) ∗ pt c (Memref.whole main_v4) (X main_v4) ∗ pt c (Memref.whole main_v5) (X main_v5)
      ∗ pt c (Memref.whole main_arg8) (X main_arg8) ∗ pt c (Memref.whole main_arg9) (X main_arg9) ∗ pt c (Memref.whole main_arg10) (X main_arg10) ∗ pt c (Memref.whole main_arg11) (X main_arg11)
      ∗ pt c (Memref.whole main_v6_0) (X main_v6_0) ∗ pt c (Memref.whole main_v6_1) (X main_v6_1) ∗ pt c (Memref.whole main_v6_2) (X main_v6_2) ∗ pt c (Memref.whole main_v6_3) (X main_v6_3)
      ∗ pt c (Memref.whole main_v6_4) (X main_v6_4) ∗ pt c (Memref.whole main_v6_5) (X main_v6_5) ∗ pt c (Memref.whole main_v6_6) (X main_v6_6) ∗ pt c (Memref.whole main_v6_7) (X main_v6_7)
      ∗ pt c (Memref.whole main_v6_8) (X main_v6_8) ∗ pt c (Memref.whole main_v6_9) (X main_v6_9) ∗ pt c (Memref.whole main_v6_10) (X main_v6_10) ∗ pt c (Memref.whole main_v6_11) (X main_v6_11)
      ∗ pt c (Memref.whole main_arg1) (X main_arg1) ∗ pt c (Memref.whole main_arg2) (X main_arg2) ∗ pt c (Memref.whole main_arg3) (X main_arg3) ∗ pt c (Memref.whole main_arg5) (X main_arg5)
      ∗ pt c (Memref.whole main_arg6) (X main_arg6) ∗ pt c (Memref.whole main_arg7) (X main_arg7)) :=
  Pipeline.unscopedRest_eq_of_list (cfg0.spec) c X
    [main_arg0, main_v0, main_v1, main_v2, main_arg4, main_v3, main_v4, main_v5, main_arg8, main_arg9, main_arg10, main_arg11, main_v6_0, main_v6_1, main_v6_2, main_v6_3, main_v6_4, main_v6_5, main_v6_6, main_v6_7, main_v6_8, main_v6_9, main_v6_10, main_v6_11, main_arg1, main_arg2, main_arg3, main_arg5, main_arg6, main_arg7]
    (by decide) (by decide)

/-- The kernel's semaphores at zero, listed. -/
theorem sems_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15, 16, 17, 18, 19, 20, 21, 22, 23] (by decide) (by decide)

/-- What holds at the region's two ends. -/
def Φc (c : Dev nD) : ℕ → sProp 𝕄
  | 0 => iprop(before m c ∗ sems0 c ∗ scr c)
  | _ + 1 => iprop(after m c ∗ sems0 c ∗ scr c)

/-- The proof data: no window; nothing owed. -/
def dats (_ : Fin 1) (c : Dev nD) : Dat τ (Elt F) Unit ℕ (UU nD τ) ℕ cfg0 c where
  A w := w.elim0
  after w := w.elim0
  Φ t := Φc m c t.val
  q _ := fullShare
  owed _ := 0

set_option maxHeartbeats 4000000 in
/-- The body's obligation. -/
theorem body_obligation (c : Dev nD) : BodyObligation (dats m 0 c) (defs₀ (F := F)) Variants.none () Set.univ := fun t => by
  obtain rfl := fin_N0 t
  have e0 : ∀ Φ : Fin cfg0.W → sProp 𝕄, (BI.emp : sProp 𝕄) ⊢ bigSep Finset.univ Φ := fun Φ => by
    rw [show (Finset.univ : Finset (Fin cfg0.W)) = ∅ from rfl, BI.bigSep_empty]
  rw [show (dats m 0 c).Φ t0_0.castSucc = iprop(before m c ∗ sems0 c ∗ scr c) from rfl,
    show (dats m 0 c).Φ t0_0.succ = iprop(after m c ∗ sems0 c ∗ scr c) from rfl]
  unfold Dat.owesAt Pipeline.owesWithin
  rw [show (dats m 0 c).owed t0_0.castSucc = 0 from rfl, show (dats m 0 c).owed t0_0.succ = 0 from rfl]
  iintro ⟨⟨⟨HI, HO, HR⟩, Hd, HS⟩, ⟨%W, %hW, HW⟩, -⟩
  iapply (kernelRun c (V m c main_arg0) (V m c main_v0) (V m c main_v1) (V m c main_v2) (V m c main_arg4) (V m c main_v3) (V m c main_v4) (V m c main_v5) (V m c main_arg8) (V m c main_arg9) (V m c main_arg10) (V m c main_arg11)
    (V m c main_v6_0) (V m c main_v6_1) (V m c main_v6_2) (V m c main_v6_3) (V m c main_v6_4) (V m c main_v6_5) (V m c main_v6_6) (V m c main_v6_7) (V m c main_v6_8) (V m c main_v6_9) (V m c main_v6_10) (V m c main_v6_11) W)
  isplitl [HI]; · iexact HI
  isplitl [HO]; · iexact HO
  isplitl [HS]; · iexact HS
  isplitl [Hd]; · iexact Hd
  isplitl [HW]; · iexact HW
  iintro ⟨HI, HO, HS, Hd, ⟨%W', HW⟩⟩
  isplitl [HI HO HR Hd HS]
  · isplitl [HI HO HR]
    · isplitl [HI]; · iexact HI
      isplitl [HO]; · iexact HO
      iexact HR
    isplitl [Hd]; · iexact Hd
    iexact HS
  isplitl [HW]
  · iexists W'; isplitr; · ipureintro; exact fun _ _ => Or.inl trivial
    iexact HW
  iapply (e0 _)
  iempintro

/-- The kernel's semaphores are its own. -/
theorem ownSemFacts : Pipeline.OwnSemFacts (cfg0.spec) osem := by decide

/-- The algebra at launch. -/
def u₀ : UU nD τ := (initOf (Pipeline.cells cfgs cellOf_inj) (Pipeline.launchToks cfgs cellOf_inj), 1)

/-- What a core's memory holds at the end. -/
def QY (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)

set_option maxHeartbeats 4000000 in
/-- The launch hands the region what it starts from. -/
theorem hX (c : Dev nD) : iprop(Pipeline.unscopedRest (Ix := Unit) (Name := ℕ) (U := UU nD τ) (Lvl := ℕ) (cfg0.spec) c (V m c)) ⊢ before m c := by
  rw [rest_eq]
  iintro ⟨HI0, HI1, HI2, HI3, HI4, HI5, HI6, HI7, HI8, HI9, HI10, HI11, HO0, HO1, HO2, HO3, HO4, HO5, HO6, HO7, HO8, HO9, HO10, HO11, HR0, HR1, HR2, HR3, HR4, HR5⟩
  isplitl [HI0 HI1 HI2 HI3 HI4 HI5 HI6 HI7 HI8 HI9 HI10 HI11]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    iexact HI11
  isplitl [HO0 HO1 HO2 HO3 HO4 HO5 HO6 HO7 HO8 HO9 HO10 HO11]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    iexact HO11
  isplitl [HR0]; · iexact HR0
  isplitl [HR1]; · iexact HR1
  isplitl [HR2]; · iexact HR2
  isplitl [HR3]; · iexact HR3
  isplitl [HR4]; · iexact HR4
  iexact HR5

set_option maxHeartbeats 4000000 in
/-- What is held at the end is read off the memory. -/
theorem hY (c : Dev nD) (s' : Phys nD τ sig (Elt F)) :
    iprop(after m c ∗ SI (Ix := Unit) (Name := ℕ) (U := UU nD τ) (Lvl := ℕ) s') ⊢ |={Set.univ}=> iprop(⌜QY m c s'.mem⌝ ∗ SI (Ix := Unit) (Name := ℕ) (U := UU nD τ) (Lvl := ℕ) s') := by
  iintro ⟨⟨⟨HI0, HI1, HI2, HI3, HI4, HI5, HI6, HI7, HI8, HI9, HI10, HI11⟩, ⟨HO0, HO1, HO2, HO3, HO4, HO5, HO6, HO7, HO8, HO9, HO10, HO11⟩, ⟨HR0, HR1, HR2, HR3, HR4, HR5⟩⟩, HSI⟩
  icombine HSI HI0 gives %h_main_arg0
  icombine HSI HR0 gives %h_main_arg1
  icombine HSI HR1 gives %h_main_arg2
  icombine HSI HR2 gives %h_main_arg3
  icombine HSI HI4 gives %h_main_arg4
  icombine HSI HR3 gives %h_main_arg5
  icombine HSI HR4 gives %h_main_arg6
  icombine HSI HR5 gives %h_main_arg7
  icombine HSI HI8 gives %h_main_arg8
  icombine HSI HI9 gives %h_main_arg9
  icombine HSI HI10 gives %h_main_arg10
  icombine HSI HI11 gives %h_main_arg11
  imodintro
  isplitr
  · ipureintro
    exact ⟨(Buf.eq_of_forall_mem_univ h_main_arg0).trans (V_main_arg0 m c),
      (Buf.eq_of_forall_mem_univ h_main_arg1).trans (V_main_arg1 m c),
      (Buf.eq_of_forall_mem_univ h_main_arg2).trans (V_main_arg2 m c),
      (Buf.eq_of_forall_mem_univ h_main_arg3).trans (V_main_arg3 m c),
      (Buf.eq_of_forall_mem_univ h_main_arg4).trans (V_main_arg4 m c),
      (Buf.eq_of_forall_mem_univ h_main_arg5).trans (V_main_arg5 m c),
      (Buf.eq_of_forall_mem_univ h_main_arg6).trans (V_main_arg6 m c),
      (Buf.eq_of_forall_mem_univ h_main_arg7).trans (V_main_arg7 m c),
      (Buf.eq_of_forall_mem_univ h_main_arg8).trans (V_main_arg8 m c),
      (Buf.eq_of_forall_mem_univ h_main_arg9).trans (V_main_arg9 m c),
      (Buf.eq_of_forall_mem_univ h_main_arg10).trans (V_main_arg10 m c),
      (Buf.eq_of_forall_mem_univ h_main_arg11).trans (V_main_arg11 m c)⟩
  iexact HSI

set_option backward.isDefEq.respectTransparency.types false in
/-- The call's run, from any memory with every counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ Variants.none m ρ main
    (hbody := fun c => (body_obligation m c).loose) (hshare := fun _ w => w.elim0) (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := fun _ w => w.elim0)
    (X := fun c => iprop(before m c ∗ sems0 c)) (Y := fun c => after m c) (Z := fun _ => iprop(emp))
    (hX := fun c => by
      rw [sems_eq]
      iintro ⟨HR, Hd, -, -, -⟩
      imodintro
      isplitl [HR Hd]
      · isplitl [HR]; · iapply (hX m c); iexact HR
        iexact Hd
      iempintro)
    (hin := fun c => by
      rw [show (dats m 0 c).Φ 0 = iprop(before m c ∗ sems0 c ∗ scr c) from rfl, ← scr_eq]
      iintro ⟨⟨HB, Hd⟩, HS⟩
      isplitl [HB]; · iexact HB
      isplitl [Hd]; · iexact Hd
      iexact HS)
    (hout := fun c => by
      rw [sems_eq, show (dats m 0 c).Φ (Fin.last cfg0.N) = iprop(after m c ∗ sems0 c ∗ scr c) from rfl, ← scr_eq])
    (QY := QY m)
    (hY := fun c s' => by
      iintro ⟨HA, -, HSI⟩
      iapply (hY m c s')
      isplitl [HA]; · iexact HA
      iexact HSI)
    (hQ := fun _ h hz => ⟨fun c => (h c).2, hz⟩)

/-- The call terminates with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0) :=
  run_main m ρ

end Cert.Kernel7.Body

end

end
-- ==== Proof.AdamBody.lean ====
module

public import proofs.«01_k».proof.Proof.Gen.Kernel7Ideal.Frame
public import Idealize.ShloMosaic.Lib.Pipeline.KitQuiescent
public import Idealize.ShloMosaic.Lib.Pipeline.ValueKit
public import Idealize.ShloMosaic.Lib.LaneScatter.Tiles

@[expose] public section

noncomputable section

namespace Cert.Kernel7Ideal.Body

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One device's part of a gradient, as f32. -/
def slab (p : Vec F S8x352x1024 .bf16) (k : Fin 8) : FVec F S352x1024 .f32 :=
  extf .f32 (fun i => p (ix3 k (i 0) (i 1))) bitsLt_bf16_f32

/-- The gradient: the eight devices' parts, added in order. -/
def grad (p : Vec F S8x352x1024 .bf16) : FVec F S352x1024 .f32 :=
  addf (addf (addf (addf (addf (addf (addf (slab p 0) (slab p 1)) (slab p 2)) (slab p 3)) (slab p 4)) (slab p 5)) (slab p 6)) (slab p 7)

/-- A constant at every position. -/
abbrev cst (b : BitVec 32) : FVec F S352x1024 .f32 := broadcast S352x1024 (Scalar.ofBits .f32 b : F .f32)

/-- The new first moment. -/
def mom (m g : FVec F S352x1024 .f32) : FVec F S352x1024 .f32 :=
  addf (mulf (cst 0x3F666666#32) m) (mulf (cst 0x3DCCCCCD#32) g)

/-- The new second moment. -/
def sec (v g : FVec F S352x1024 .f32) : FVec F S352x1024 .f32 :=
  addf (mulf (cst 0x3F7FBE77#32) v) (mulf (cst 0x3A83126F#32) (mulf g g))

/-- The weight's step. -/
def delta (w m v g : FVec F S352x1024 .f32) : FVec F S352x1024 .f32 :=
  mulf (cst 0xBA83126F#32) (addf (divf (divf (mom m g) (cst 0x3F26BD02#32)) (addf (sqrt (divf (sec v g) (cst 0x3C231ACC#32))) (cst 0x322BCC77#32)))
    (mulf (cst 0x3C23D70A#32) w))

/-- The same part, as the kernel loads it: a block of the stacked parts, without its leading axis. -/
def slabL (p : Vec F S8x352x1024 .bf16) (k : ℕ) (inb : ∀ a, (![k, 0, 0] : Fin 3 → ℕ) a + S1x352x1024.size a ≤ S8x352x1024.size a) : FVec F S352x1024 .f32 :=
  extf .f32 (shapeCast S352x1024 (fun j => p ((Rect.unit (s := S8x352x1024) ![k, 0, 0] S1x352x1024.size inb).emb j)) shapeCasts_S1x352x1024_S352x1024) bitsLt_bf16_f32

/-- The loaded part is the part. -/
theorem slabL_eq (p : Vec F S8x352x1024 .bf16) (k : ℕ) (hk : k < 8) (inb) : slabL p k inb = slab p ⟨k, hk⟩ := by
  unfold slab slabL
  congr 1
  funext i
  refine (shapeCast_dropUnit_apply _ _ _ i).trans (congrArg p ?_)
  funext a
  refine Fin.ext ?_
  match a with
  | ⟨0, _⟩ => simp [ix3]
  | ⟨1, _⟩ => simp [ix3]; rfl
  | ⟨2, _⟩ => simp [ix3]; rfl

/-- The gradient from the parts as loaded. -/
def gradL (p : Vec F S8x352x1024 .bf16) : FVec F S352x1024 .f32 :=
  addf (addf (addf (addf (addf (addf (addf (slabL p 0 inb_S8x352x1024_S1x352x1024_0_0_0) (slabL p 1 inb_S8x352x1024_S1x352x1024_1_0_0))
    (slabL p 2 inb_S8x352x1024_S1x352x1024_2_0_0)) (slabL p 3 inb_S8x352x1024_S1x352x1024_3_0_0)) (slabL p 4 inb_S8x352x1024_S1x352x1024_4_0_0))
    (slabL p 5 inb_S8x352x1024_S1x352x1024_5_0_0)) (slabL p 6 inb_S8x352x1024_S1x352x1024_6_0_0)) (slabL p 7 inb_S8x352x1024_S1x352x1024_7_0_0)

/-- Both gradients agree. -/
theorem gradL_eq (p : Vec F S8x352x1024 .bf16) : gradL p = grad p := by
  unfold gradL grad
  rw [slabL_eq p 0 (by decide), slabL_eq p 1 (by decide), slabL_eq p 2 (by decide), slabL_eq p 3 (by decide), slabL_eq p 4 (by decide),
    slabL_eq p 5 (by decide), slabL_eq p 6 (by decide), slabL_eq p 7 (by decide)]
  rfl

/-- The offset at the origin. -/
theorem zeros : (![0, 0] : Fin 2 → ℕ) = fun _ => 0 := by funext a; match a with | 0 => rfl | 1 => rfl

/-- An array stored whole reads back as what was stored. -/
theorem stored {b : Ref sig .tc} {off : Fin b.ty.shape.rank → ℕ} (h0 : off = fun _ => 0) (f : b.ty.Contents (Elt F))
    (h : ∀ a, off a + b.ty.shape.size a ≤ b.ty.shape.size a) (w : b.ty.Contents (Elt F)) :
    ReadAs.same.apply ((Memref.whole b).view.read (Elt F) ((Memref.whole b).view.writes (Elt F) f [⟨Rect.unit off b.ty.shape.size h, w⟩])) = w :=
  LaneScatter.read_whole_store (Memref.whole b).view f (fun a => congrFun h0 a) h w

/-- A buffer filled whole and loaded whole reads as what filled it. -/
theorem loaded {b : Ref sig .tc} {off : Fin b.ty.shape.rank → ℕ} (h0 : off = fun _ => 0) (f g : b.ty.Contents (Elt F))
    (h : ∀ a, off a + b.ty.shape.size a ≤ b.ty.shape.size a) :
    View.readAt (Elt F) (Memref.whole b).view (Rect.unit off b.ty.shape.size h).toLoadRect (View.write (Elt F) (Memref.whole b).view f g Finset.univ) = g :=
  (Memref.readAt_unit_zero (Elt F) b h0 h _).trans (View.write_whole_univ b f g)

/-- Equal parts give equal gradients, whichever way they are loaded. -/
theorem loadedGrad {p q : Vec F S8x352x1024 .bf16} (h : p = q) : gradL p = grad q := (congrArg gradL h).trans (gradL_eq q)

/-- Equal operands give equal steps. -/
theorem deltaCongr {w w' m m' v v' g g' : FVec F S352x1024 .f32} (hw : w = w') (hm : m = m') (hv : v = v') (hg : g = g') :
    delta w m v g = delta w' m' v' g' := by rw [hw, hm, hv, hg]

/-- The algebra of the proof: the pipeline's and the transfers' counters. -/
abbrev UU (nD : Nat) (τ : Topo) : Type := UR sig nD τ × Counters

local notation "𝕄" => MT nD τ sig Unit (Elt F) ℕ (UU nD τ) ℕ

/-- A buffer's contents on a core. -/
abbrev Bf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : Bf (F := F) c M) : sProp 𝕄 :=
  M.view.loc (c : Thread nD τ) ↦{fullShare} f

/-- Equal contents may be exchanged. -/
theorem ptOfEq (c : Dev nD) {sp : Space} {S : Shape} {e : EltTy} (M : Memref sig .tc sp S e) {f g : Bf (F := F) c M} (h : f = g) :
    (pt c M f : sProp 𝕄) ⊢ pt c M g := by rw [h]

/-- The kernel's own transfer semaphores. -/
abbrev osem (k : Fin 24) : SemLoc sig := .dma k

/-- All of them at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0
      ∗ semVal ((c : Thread nD τ), osem 8) 0 ∗ semVal ((c : Thread nD τ), osem 9) 0 ∗ semVal ((c : Thread nD τ), osem 10) 0 ∗ semVal ((c : Thread nD τ), osem 11) 0
      ∗ semVal ((c : Thread nD τ), osem 12) 0 ∗ semVal ((c : Thread nD τ), osem 13) 0 ∗ semVal ((c : Thread nD τ), osem 14) 0 ∗ semVal ((c : Thread nD τ), osem 15) 0
      ∗ semVal ((c : Thread nD τ), osem 16) 0 ∗ semVal ((c : Thread nD τ), osem 17) 0 ∗ semVal ((c : Thread nD τ), osem 18) 0 ∗ semVal ((c : Thread nD τ), osem 19) 0
      ∗ semVal ((c : Thread nD τ), osem 20) 0 ∗ semVal ((c : Thread nD τ), osem 21) 0 ∗ semVal ((c : Thread nD τ), osem 22) 0 ∗ semVal ((c : Thread nD τ), osem 23) 0)

/-- The kernel's operands. -/
abbrev inp (c : Dev nD)
    (f0 : Bf (F := F) c (Memref.whole main_arg0))
    (f1 : Bf (F := F) c (Memref.whole main_v0))
    (f2 : Bf (F := F) c (Memref.whole main_v1))
    (f3 : Bf (F := F) c (Memref.whole main_v2))
    (f4 : Bf (F := F) c (Memref.whole main_arg4))
    (f5 : Bf (F := F) c (Memref.whole main_v3))
    (f6 : Bf (F := F) c (Memref.whole main_v4))
    (f7 : Bf (F := F) c (Memref.whole main_v5))
    (f8 : Bf (F := F) c (Memref.whole main_arg8))
    (f9 : Bf (F := F) c (Memref.whole main_arg9))
    (f10 : Bf (F := F) c (Memref.whole main_arg10))
    (f11 : Bf (F := F) c (Memref.whole main_arg11))
    : sProp 𝕄 :=
  iprop(pt c (Memref.whole main_arg0) f0 ∗ pt c (Memref.whole main_v0) f1 ∗ pt c (Memref.whole main_v1) f2 ∗ pt c (Memref.whole main_v2) f3
      ∗ pt c (Memref.whole main_arg4) f4 ∗ pt c (Memref.whole main_v3) f5 ∗ pt c (Memref.whole main_v4) f6 ∗ pt c (Memref.whole main_v5) f7
      ∗ pt c (Memref.whole main_arg8) f8 ∗ pt c (Memref.whole main_arg9) f9 ∗ pt c (Memref.whole main_arg10) f10 ∗ pt c (Memref.whole main_arg11) f11)

/-- The kernel's results. -/
abbrev out (c : Dev nD)
    (f0 : Bf (F := F) c (Memref.whole main_v6_0))
    (f1 : Bf (F := F) c (Memref.whole main_v6_1))
    (f2 : Bf (F := F) c (Memref.whole main_v6_2))
    (f3 : Bf (F := F) c (Memref.whole main_v6_3))
    (f4 : Bf (F := F) c (Memref.whole main_v6_4))
    (f5 : Bf (F := F) c (Memref.whole main_v6_5))
    (f6 : Bf (F := F) c (Memref.whole main_v6_6))
    (f7 : Bf (F := F) c (Memref.whole main_v6_7))
    (f8 : Bf (F := F) c (Memref.whole main_v6_8))
    (f9 : Bf (F := F) c (Memref.whole main_v6_9))
    (f10 : Bf (F := F) c (Memref.whole main_v6_10))
    (f11 : Bf (F := F) c (Memref.whole main_v6_11))
    : sProp 𝕄 :=
  iprop(pt c (Memref.whole main_v6_0) f0 ∗ pt c (Memref.whole main_v6_1) f1 ∗ pt c (Memref.whole main_v6_2) f2 ∗ pt c (Memref.whole main_v6_3) f3
      ∗ pt c (Memref.whole main_v6_4) f4 ∗ pt c (Memref.whole main_v6_5) f5 ∗ pt c (Memref.whole main_v6_6) f6 ∗ pt c (Memref.whole main_v6_7) f7
      ∗ pt c (Memref.whole main_v6_8) f8 ∗ pt c (Memref.whole main_v6_9) f9 ∗ pt c (Memref.whole main_v6_10) f10 ∗ pt c (Memref.whole main_v6_11) f11)

/-- The kernel's scratch buffers, each at some contents. -/
abbrev scr (c : Dev nD) : sProp 𝕄 :=
  iprop((∃ f, pt c (Memref.whole cc0_scratch0) f) ∗ (∃ f, pt c (Memref.whole cc0_scratch1) f) ∗ (∃ f, pt c (Memref.whole cc0_scratch2) f) ∗ (∃ f, pt c (Memref.whole cc0_scratch3) f)
      ∗ (∃ f, pt c (Memref.whole cc0_scratch4) f) ∗ (∃ f, pt c (Memref.whole cc0_scratch5) f) ∗ (∃ f, pt c (Memref.whole cc0_scratch6) f) ∗ (∃ f, pt c (Memref.whole cc0_scratch7) f)
      ∗ (∃ f, pt c (Memref.whole cc0_scratch8) f) ∗ (∃ f, pt c (Memref.whole cc0_scratch9) f) ∗ (∃ f, pt c (Memref.whole cc0_scratch10) f) ∗ (∃ f, pt c (Memref.whole cc0_scratch11) f)
      ∗ (∃ f, pt c (Memref.whole cc0_scratch12) f) ∗ (∃ f, pt c (Memref.whole cc0_scratch13) f) ∗ (∃ f, pt c (Memref.whole cc0_scratch14) f) ∗ (∃ f, pt c (Memref.whole cc0_scratch15) f)
      ∗ (∃ f, pt c (Memref.whole cc0_scratch16) f) ∗ (∃ f, pt c (Memref.whole cc0_scratch17) f) ∗ (∃ f, pt c (Memref.whole cc0_scratch18) f) ∗ (∃ f, pt c (Memref.whole cc0_scratch19) f)
      ∗ (∃ f, pt c (Memref.whole cc0_scratch20) f) ∗ (∃ f, pt c (Memref.whole cc0_scratch21) f) ∗ (∃ f, pt c (Memref.whole cc0_scratch22) f) ∗ (∃ f, pt c (Memref.whole cc0_scratch23) f))

/-- These are the scoped buffers that no window stages. -/
theorem scr_eq (c : Dev nD) :
    (Pipeline.scopedRest (Ix := Unit) (Name := ℕ) (U := UU nD τ) (Lvl := ℕ) (Val := Elt F) (cfg0.spec) c : sProp 𝕄) = scr c :=
  scopedRest0_eq c

/-- The results the kernel leaves. -/
abbrev res (c : Dev nD)
    (f0 : Bf (F := F) c (Memref.whole main_arg0))
    (f1 : Bf (F := F) c (Memref.whole main_v0))
    (f2 : Bf (F := F) c (Memref.whole main_v1))
    (f3 : Bf (F := F) c (Memref.whole main_v2))
    (f4 : Bf (F := F) c (Memref.whole main_arg4))
    (f5 : Bf (F := F) c (Memref.whole main_v3))
    (f6 : Bf (F := F) c (Memref.whole main_v4))
    (f7 : Bf (F := F) c (Memref.whole main_v5))
    (f8 : Bf (F := F) c (Memref.whole main_arg8))
    (f9 : Bf (F := F) c (Memref.whole main_arg9))
    (f10 : Bf (F := F) c (Memref.whole main_arg10))
    (f11 : Bf (F := F) c (Memref.whole main_arg11))
    : sProp 𝕄 :=
  out c (grad f0) (delta f1 f2 f3 (grad f0)) (mom f2 (grad f0)) (sec f3 (grad f0)) (grad f4) (delta f5 f6 f7 (grad f4)) (mom f6 (grad f4)) (sec f7 (grad f4)) (grad f8) (delta f9 f10 f11 (grad f8)) (mom f10 (grad f8)) (sec f11 (grad f8))

set_option maxHeartbeats 4000000 in
/-- The kernel's body, from its operands, results, scratch buffers and semaphores held: it ends with the operands as they were, the results at the gradients, steps and moments. -/
theorem kernelRun (c : Dev nD)
    (f0 : Bf (F := F) c (Memref.whole main_arg0))
    (f1 : Bf (F := F) c (Memref.whole main_v0))
    (f2 : Bf (F := F) c (Memref.whole main_v1))
    (f3 : Bf (F := F) c (Memref.whole main_v2))
    (f4 : Bf (F := F) c (Memref.whole main_arg4))
    (f5 : Bf (F := F) c (Memref.whole main_v3))
    (f6 : Bf (F := F) c (Memref.whole main_v4))
    (f7 : Bf (F := F) c (Memref.whole main_v5))
    (f8 : Bf (F := F) c (Memref.whole main_arg8))
    (f9 : Bf (F := F) c (Memref.whole main_arg9))
    (f10 : Bf (F := F) c (Memref.whole main_arg10))
    (f11 : Bf (F := F) c (Memref.whole main_arg11))
    (o0 : Bf (F := F) c (Memref.whole main_v6_0))
    (o1 : Bf (F := F) c (Memref.whole main_v6_1))
    (o2 : Bf (F := F) c (Memref.whole main_v6_2))
    (o3 : Bf (F := F) c (Memref.whole main_v6_3))
    (o4 : Bf (F := F) c (Memref.whole main_v6_4))
    (o5 : Bf (F := F) c (Memref.whole main_v6_5))
    (o6 : Bf (F := F) c (Memref.whole main_v6_6))
    (o7 : Bf (F := F) c (Memref.whole main_v6_7))
    (o8 : Bf (F := F) c (Memref.whole main_v6_8))
    (o9 : Bf (F := F) c (Memref.whole main_v6_9))
    (o10 : Bf (F := F) c (Memref.whole main_v6_10))
    (o11 : Bf (F := F) c (Memref.whole main_v6_11))
    (W : Waits sig Unit) (Q : PUnit → sProp 𝕄) :
    iprop(inp c f0 f1 f2 f3 f4 f5 f6 f7 f8 f9 f10 f11 ∗ out c o0 o1 o2 o3 o4 o5 o6 o7 o8 o9 o10 o11 ∗ scr c ∗ sems0 c ∗ owes (c : Thread nD τ) 0 W
      ∗ (iprop(inp c f0 f1 f2 f3 f4 f5 f6 f7 f8 f9 f10 f11 ∗ res c f0 f1 f2 f3 f4 f5 f6 f7 f8 f9 f10 f11 ∗ scr c ∗ sems0 c ∗ ∃ W, owes (c : Thread nD τ) 0 W) -∗ Q ⟨⟩))
    ⊢ wp frame (wpE (defs₀ (F := F)) Variants.none c none) Set.univ (bodyAt0 t0_0) Q := by
  iintro ⟨⟨HI0, HI1, HI2, HI3, HI4, HI5, HI6, HI7, HI8, HI9, HI10, HI11⟩, ⟨HO0, HO1, HO2, HO3, HO4, HO5, HO6, HO7, HO8, HO9, HO10, HO11⟩, ⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s15, HS15⟩, ⟨%s16, HS16⟩, ⟨%s17, HS17⟩, ⟨%s18, HS18⟩, ⟨%s19, HS19⟩, ⟨%s20, HS20⟩, ⟨%s21, HS21⟩, ⟨%s22, HS22⟩, ⟨%s23, HS23⟩⟩, ⟨Hd0, Hd1, Hd2, Hd3, Hd4, Hd5, Hd6, Hd7, Hd8, Hd9, Hd10, Hd11, Hd12, Hd13, Hd14, Hd15, Hd16, Hd17, Hd18, Hd19, Hd20, Hd21, Hd22, Hd23⟩, HW, Hk⟩
  sl_exec!
  sl_step
  iapply Hk
  isplitl [HI0 HI1 HI2 HI3 HI4 HI5 HI6 HI7 HI8 HI9 HI10 HI11]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    iexact HI11
  isplitl [HO0 HO1 HO2 HO3 HO4 HO5 HO6 HO7 HO8 HO9 HO10 HO11]
  · isplitl [HO0]; · iapply (ptOfEq c (Memref.whole main_v6_0) (show View.write (Elt F) (Memref.whole main_v6_0).view o0 (kernelRun.sl.dma19 c f0 s0 s12) Finset.univ = (grad f0) from by
        refine (View.write_whole_univ main_v6_0 _ _).trans ?_
        unfold kernelRun.sl.dma19 kernelRun.sl.HS12_1
        refine (stored (b := cc0_scratch12) (off := ![0, 0]) zeros s12 inb_S352x1024_S352x1024_0_0 _).trans ?_
        refine (shapeCast_self _ _).trans ?_
        exact loadedGrad (View.write_whole_univ cc0_scratch0 s0 f0))); iexact HO0
    isplitl [HO1]; · iapply (ptOfEq c (Memref.whole main_v6_1) (show View.write (Elt F) (Memref.whole main_v6_1).view o1 (kernelRun.sl.dma19_1 c f0 f1 f2 f3 s0 s1 s2 s3 s13) Finset.univ = (delta f1 f2 f3 (grad f0)) from by
        refine (View.write_whole_univ main_v6_1 _ _).trans ?_
        unfold kernelRun.sl.dma19_1 kernelRun.sl.HS13_1
        refine (stored (b := cc0_scratch13) (off := ![0, 0]) zeros s13 inb_S352x1024_S352x1024_0_0 _).trans ?_
        refine (shapeCast_self _ _).trans ?_
        exact deltaCongr (loaded (b := cc0_scratch1) (off := ![0, 0]) zeros s1 f1 inb_S352x1024_S352x1024_0_0) (loaded (b := cc0_scratch2) (off := ![0, 0]) zeros s2 f2 inb_S352x1024_S352x1024_0_0) (loaded (b := cc0_scratch3) (off := ![0, 0]) zeros s3 f3 inb_S352x1024_S352x1024_0_0) (loadedGrad (View.write_whole_univ cc0_scratch0 s0 f0)))); iexact HO1
    isplitl [HO2]; · iapply (ptOfEq c (Memref.whole main_v6_2) (show View.write (Elt F) (Memref.whole main_v6_2).view o2 (kernelRun.sl.dma19_2 c f0 f2 s0 s2 s14) Finset.univ = (mom f2 (grad f0)) from by
        refine (View.write_whole_univ main_v6_2 _ _).trans ?_
        unfold kernelRun.sl.dma19_2 kernelRun.sl.HS14_1
        refine (stored (b := cc0_scratch14) (off := ![0, 0]) zeros s14 inb_S352x1024_S352x1024_0_0 _).trans ?_
        refine (shapeCast_self _ _).trans ?_
        exact congrArg₂ mom (loaded (b := cc0_scratch2) (off := ![0, 0]) zeros s2 f2 inb_S352x1024_S352x1024_0_0) (loadedGrad (View.write_whole_univ cc0_scratch0 s0 f0)))); iexact HO2
    isplitl [HO3]; · iapply (ptOfEq c (Memref.whole main_v6_3) (show View.write (Elt F) (Memref.whole main_v6_3).view o3 (kernelRun.sl.dma19_3 c f0 f3 s0 s3 s15) Finset.univ = (sec f3 (grad f0)) from by
        refine (View.write_whole_univ main_v6_3 _ _).trans ?_
        unfold kernelRun.sl.dma19_3 kernelRun.sl.HS15_1
        refine (stored (b := cc0_scratch15) (off := ![0, 0]) zeros s15 inb_S352x1024_S352x1024_0_0 _).trans ?_
        refine (shapeCast_self _ _).trans ?_
        exact congrArg₂ sec (loaded (b := cc0_scratch3) (off := ![0, 0]) zeros s3 f3 inb_S352x1024_S352x1024_0_0) (loadedGrad (View.write_whole_univ cc0_scratch0 s0 f0)))); iexact HO3
    isplitl [HO4]; · iapply (ptOfEq c (Memref.whole main_v6_4) (show View.write (Elt F) (Memref.whole main_v6_4).view o4 (kernelRun.sl.dma38 c f4 s4 s16) Finset.univ = (grad f4) from by
        refine (View.write_whole_univ main_v6_4 _ _).trans ?_
        unfold kernelRun.sl.dma38 kernelRun.sl.HS16_1
        refine (stored (b := cc0_scratch16) (off := ![0, 0]) zeros s16 inb_S352x1024_S352x1024_0_0 _).trans ?_
        refine (shapeCast_self _ _).trans ?_
        exact loadedGrad (View.write_whole_univ cc0_scratch4 s4 f4))); iexact HO4
    isplitl [HO5]; · iapply (ptOfEq c (Memref.whole main_v6_5) (show View.write (Elt F) (Memref.whole main_v6_5).view o5 (kernelRun.sl.dma38_1 c f4 f5 f6 f7 s4 s5 s6 s7 s17) Finset.univ = (delta f5 f6 f7 (grad f4)) from by
        refine (View.write_whole_univ main_v6_5 _ _).trans ?_
        unfold kernelRun.sl.dma38_1 kernelRun.sl.HS17_1
        refine (stored (b := cc0_scratch17) (off := ![0, 0]) zeros s17 inb_S352x1024_S352x1024_0_0 _).trans ?_
        refine (shapeCast_self _ _).trans ?_
        exact deltaCongr (loaded (b := cc0_scratch5) (off := ![0, 0]) zeros s5 f5 inb_S352x1024_S352x1024_0_0) (loaded (b := cc0_scratch6) (off := ![0, 0]) zeros s6 f6 inb_S352x1024_S352x1024_0_0) (loaded (b := cc0_scratch7) (off := ![0, 0]) zeros s7 f7 inb_S352x1024_S352x1024_0_0) (loadedGrad (View.write_whole_univ cc0_scratch4 s4 f4)))); iexact HO5
    isplitl [HO6]; · iapply (ptOfEq c (Memref.whole main_v6_6) (show View.write (Elt F) (Memref.whole main_v6_6).view o6 (kernelRun.sl.dma38_2 c f4 f6 s4 s6 s18) Finset.univ = (mom f6 (grad f4)) from by
        refine (View.write_whole_univ main_v6_6 _ _).trans ?_
        unfold kernelRun.sl.dma38_2 kernelRun.sl.HS18_1
        refine (stored (b := cc0_scratch18) (off := ![0, 0]) zeros s18 inb_S352x1024_S352x1024_0_0 _).trans ?_
        refine (shapeCast_self _ _).trans ?_
        exact congrArg₂ mom (loaded (b := cc0_scratch6) (off := ![0, 0]) zeros s6 f6 inb_S352x1024_S352x1024_0_0) (loadedGrad (View.write_whole_univ cc0_scratch4 s4 f4)))); iexact HO6
    isplitl [HO7]; · iapply (ptOfEq c (Memref.whole main_v6_7) (show View.write (Elt F) (Memref.whole main_v6_7).view o7 (kernelRun.sl.dma38_3 c f4 f7 s4 s7 s19) Finset.univ = (sec f7 (grad f4)) from by
        refine (View.write_whole_univ main_v6_7 _ _).trans ?_
        unfold kernelRun.sl.dma38_3 kernelRun.sl.HS19_1
        refine (stored (b := cc0_scratch19) (off := ![0, 0]) zeros s19 inb_S352x1024_S352x1024_0_0 _).trans ?_
        refine (shapeCast_self _ _).trans ?_
        exact congrArg₂ sec (loaded (b := cc0_scratch7) (off := ![0, 0]) zeros s7 f7 inb_S352x1024_S352x1024_0_0) (loadedGrad (View.write_whole_univ cc0_scratch4 s4 f4)))); iexact HO7
    isplitl [HO8]; · iapply (ptOfEq c (Memref.whole main_v6_8) (show View.write (Elt F) (Memref.whole main_v6_8).view o8 (kernelRun.sl.dma57 c f8 s8 s20) Finset.univ = (grad f8) from by
        refine (View.write_whole_univ main_v6_8 _ _).trans ?_
        unfold kernelRun.sl.dma57 kernelRun.sl.HS20_1
        refine (stored (b := cc0_scratch20) (off := ![0, 0]) zeros s20 inb_S352x1024_S352x1024_0_0 _).trans ?_
        refine (shapeCast_self _ _).trans ?_
        exact loadedGrad (View.write_whole_univ cc0_scratch8 s8 f8))); iexact HO8
    isplitl [HO9]; · iapply (ptOfEq c (Memref.whole main_v6_9) (show View.write (Elt F) (Memref.whole main_v6_9).view o9 (kernelRun.sl.dma57_1 c f8 f9 f10 f11 s8 s9 s10 s11 s21) Finset.univ = (delta f9 f10 f11 (grad f8)) from by
        refine (View.write_whole_univ main_v6_9 _ _).trans ?_
        unfold kernelRun.sl.dma57_1 kernelRun.sl.HS21_1
        refine (stored (b := cc0_scratch21) (off := ![0, 0]) zeros s21 inb_S352x1024_S352x1024_0_0 _).trans ?_
        refine (shapeCast_self _ _).trans ?_
        exact deltaCongr (loaded (b := cc0_scratch9) (off := ![0, 0]) zeros s9 f9 inb_S352x1024_S352x1024_0_0) (loaded (b := cc0_scratch10) (off := ![0, 0]) zeros s10 f10 inb_S352x1024_S352x1024_0_0) (loaded (b := cc0_scratch11) (off := ![0, 0]) zeros s11 f11 inb_S352x1024_S352x1024_0_0) (loadedGrad (View.write_whole_univ cc0_scratch8 s8 f8)))); iexact HO9
    isplitl [HO10]; · iapply (ptOfEq c (Memref.whole main_v6_10) (show View.write (Elt F) (Memref.whole main_v6_10).view o10 (kernelRun.sl.dma57_2 c f8 f10 s8 s10 s22) Finset.univ = (mom f10 (grad f8)) from by
        refine (View.write_whole_univ main_v6_10 _ _).trans ?_
        unfold kernelRun.sl.dma57_2 kernelRun.sl.HS22_1
        refine (stored (b := cc0_scratch22) (off := ![0, 0]) zeros s22 inb_S352x1024_S352x1024_0_0 _).trans ?_
        refine (shapeCast_self _ _).trans ?_
        exact congrArg₂ mom (loaded (b := cc0_scratch10) (off := ![0, 0]) zeros s10 f10 inb_S352x1024_S352x1024_0_0) (loadedGrad (View.write_whole_univ cc0_scratch8 s8 f8)))); iexact HO10
    iapply (ptOfEq c (Memref.whole main_v6_11) (show View.write (Elt F) (Memref.whole main_v6_11).view o11 (kernelRun.sl.dma57_3 c f8 f11 s8 s11 s23) Finset.univ = (sec f11 (grad f8)) from by
        refine (View.write_whole_univ main_v6_11 _ _).trans ?_
        unfold kernelRun.sl.dma57_3 kernelRun.sl.HS23_1
        refine (stored (b := cc0_scratch23) (off := ![0, 0]) zeros s23 inb_S352x1024_S352x1024_0_0 _).trans ?_
        refine (shapeCast_self _ _).trans ?_
        exact congrArg₂ sec (loaded (b := cc0_scratch11) (off := ![0, 0]) zeros s11 f11 inb_S352x1024_S352x1024_0_0) (loadedGrad (View.write_whole_univ cc0_scratch8 s8 f8)))); iexact HO11
  isplitl [HS0 HS1 HS2 HS3 HS4 HS5 HS6 HS7 HS8 HS9 HS10 HS11 HS12 HS13 HS14 HS15 HS16 HS17 HS18 HS19 HS20 HS21 HS22 HS23]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    isplitl [HS15]; · iexists _; iexact HS15
    isplitl [HS16]; · iexists _; iexact HS16
    isplitl [HS17]; · iexists _; iexact HS17
    isplitl [HS18]; · iexists _; iexact HS18
    isplitl [HS19]; · iexists _; iexact HS19
    isplitl [HS20]; · iexists _; iexact HS20
    isplitl [HS21]; · iexists _; iexact HS21
    isplitl [HS22]; · iexists _; iexact HS22
    iexists _; iexact HS23
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    iexact Hd23
  iexists _; iexact HW

end Cert.Kernel7Ideal.Body

end

end
-- ==== Proof.AdamRun.lean ====
module

public import proofs.«01_k».proof.Proof.AdamBody
public import Idealize.ShloMosaic.Lib.Pipeline.Frame

@[expose] public section

noncomputable section

namespace Cert.Kernel7Ideal.Body

open Cert.Kernel7Ideal Cert.Kernel7Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline's algebra is the left component. -/
abbrev EP : Emb (UR sig nD τ) (MT nD τ sig Unit (Elt F) ℕ (UU nD τ) ℕ) := embL

variable (m : (ℓ : Loc nD τ sig) → Buf (Elt F) ℓ) (ρ : Dev nD → PrngReg)

/-- The arguments that the kernel does not take itself. -/
abbrev others (c : Dev nD) : sProp 𝕄 :=
  iprop(pt c (Memref.whole main_arg1) (V m c main_arg1) ∗ pt c (Memref.whole main_arg2) (V m c main_arg2) ∗ pt c (Memref.whole main_arg3) (V m c main_arg3) ∗ pt c (Memref.whole main_arg5) (V m c main_arg5)
      ∗ pt c (Memref.whole main_arg6) (V m c main_arg6) ∗ pt c (Memref.whole main_arg7) (V m c main_arg7))

/-- What is held outside the scoped buffers before the kernel. -/
abbrev before (c : Dev nD) : sProp 𝕄 :=
  iprop(inp c (V m c main_arg0) (V m c main_v0) (V m c main_v1) (V m c main_v2) (V m c main_arg4) (V m c main_v3) (V m c main_v4) (V m c main_v5) (V m c main_arg8) (V m c main_arg9) (V m c main_arg10) (V m c main_arg11)
    ∗ out c (V m c main_v6_0) (V m c main_v6_1) (V m c main_v6_2) (V m c main_v6_3) (V m c main_v6_4) (V m c main_v6_5) (V m c main_v6_6) (V m c main_v6_7) (V m c main_v6_8) (V m c main_v6_9) (V m c main_v6_10) (V m c main_v6_11)
    ∗ others m c)

/-- What is held there after it. -/
abbrev after (c : Dev nD) : sProp 𝕄 :=
  iprop(inp c (V m c main_arg0) (V m c main_v0) (V m c main_v1) (V m c main_v2) (V m c main_arg4) (V m c main_v3) (V m c main_v4) (V m c main_v5) (V m c main_arg8) (V m c main_arg9) (V m c main_arg10) (V m c main_arg11)
    ∗ res c (V m c main_arg0) (V m c main_v0) (V m c main_v1) (V m c main_v2) (V m c main_arg4) (V m c main_v3) (V m c main_v4) (V m c main_v5) (V m c main_arg8) (V m c main_arg9) (V m c main_arg10) (V m c main_arg11)
    ∗ others m c)

set_option maxHeartbeats 4000000 in
/-- The buffers that are neither scoped nor a window's array, listed. -/
theorem rest_eq (c : Dev nD) (X : (b : Ref sig .tc) → Buf (Elt F) ((c : Thread nD τ).loc b)) :
    (Pipeline.unscopedRest (Ix := Unit) (Name := ℕ) (U := UU nD τ) (Lvl := ℕ) (cfg0.spec) c X : sProp 𝕄)
      = iprop(pt c (Memref.whole main_arg0) (X main_arg0) ∗ pt c (Memref.whole main_v0) (X main_v0) ∗ pt c (Memref.whole main_v1) (X main_v1) ∗ pt c (Memref.whole main_v2) (X main_v2)
      ∗ pt c (Memref.whole main_arg4) (X main_arg4) ∗ pt c (Memref.whole main_v3) (X main_v3) ∗ pt c (Memref.whole main_v4) (X main_v4) ∗ pt c (Memref.whole main_v5) (X main_v5)
      ∗ pt c (Memref.whole main_arg8) (X main_arg8) ∗ pt c (Memref.whole main_arg9) (X main_arg9) ∗ pt c (Memref.whole main_arg10) (X main_arg10) ∗ pt c (Memref.whole main_arg11) (X main_arg11)
      ∗ pt c (Memref.whole main_v6_0) (X main_v6_0) ∗ pt c (Memref.whole main_v6_1) (X main_v6_1) ∗ pt c (Memref.whole main_v6_2) (X main_v6_2) ∗ pt c (Memref.whole main_v6_3) (X main_v6_3)
      ∗ pt c (Memref.whole main_v6_4) (X main_v6_4) ∗ pt c (Memref.whole main_v6_5) (X main_v6_5) ∗ pt c (Memref.whole main_v6_6) (X main_v6_6) ∗ pt c (Memref.whole main_v6_7) (X main_v6_7)
      ∗ pt c (Memref.whole main_v6_8) (X main_v6_8) ∗ pt c (Memref.whole main_v6_9) (X main_v6_9) ∗ pt c (Memref.whole main_v6_10) (X main_v6_10) ∗ pt c (Memref.whole main_v6_11) (X main_v6_11)
      ∗ pt c (Memref.whole main_arg1) (X main_arg1) ∗ pt c (Memref.whole main_arg2) (X main_arg2) ∗ pt c (Memref.whole main_arg3) (X main_arg3) ∗ pt c (Memref.whole main_arg5) (X main_arg5)
      ∗ pt c (Memref.whole main_arg6) (X main_arg6) ∗ pt c (Memref.whole main_arg7) (X main_arg7)) :=
  Pipeline.unscopedRest_eq_of_list (cfg0.spec) c X
    [main_arg0, main_v0, main_v1, main_v2, main_arg4, main_v3, main_v4, main_v5, main_arg8, main_arg9, main_arg10, main_arg11, main_v6_0, main_v6_1, main_v6_2, main_v6_3, main_v6_4, main_v6_5, main_v6_6, main_v6_7, main_v6_8, main_v6_9, main_v6_10, main_v6_11, main_arg1, main_arg2, main_arg3, main_arg5, main_arg6, main_arg7]
    (by decide) (by decide)

/-- The kernel's semaphores at zero, listed. -/
theorem sems_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15, 16, 17, 18, 19, 20, 21, 22, 23] (by decide) (by decide)

/-- What holds at the region's two ends. -/
def Φc (c : Dev nD) : ℕ → sProp 𝕄
  | 0 => iprop(before m c ∗ sems0 c ∗ scr c)
  | _ + 1 => iprop(after m c ∗ sems0 c ∗ scr c)

/-- The proof data: no window; nothing owed. -/
def dats (_ : Fin 1) (c : Dev nD) : Dat τ (Elt F) Unit ℕ (UU nD τ) ℕ cfg0 c where
  A w := w.elim0
  after w := w.elim0
  Φ t := Φc m c t.val
  q _ := fullShare
  owed _ := 0

set_option maxHeartbeats 4000000 in
/-- The body's obligation. -/
theorem body_obligation (c : Dev nD) : BodyObligation (dats m 0 c) (defs₀ (F := F)) Variants.none () Set.univ := fun t => by
  obtain rfl := fin_N0 t
  have e0 : ∀ Φ : Fin cfg0.W → sProp 𝕄, (BI.emp : sProp 𝕄) ⊢ bigSep Finset.univ Φ := fun Φ => by
    rw [show (Finset.univ : Finset (Fin cfg0.W)) = ∅ from rfl, BI.bigSep_empty]
  rw [show (dats m 0 c).Φ t0_0.castSucc = iprop(before m c ∗ sems0 c ∗ scr c) from rfl,
    show (dats m 0 c).Φ t0_0.succ = iprop(after m c ∗ sems0 c ∗ scr c) from rfl]
  unfold Dat.owesAt Pipeline.owesWithin
  rw [show (dats m 0 c).owed t0_0.castSucc = 0 from rfl, show (dats m 0 c).owed t0_0.succ = 0 from rfl]
  iintro ⟨⟨⟨HI, HO, HR⟩, Hd, HS⟩, ⟨%W, %hW, HW⟩, -⟩
  iapply (kernelRun c (V m c main_arg0) (V m c main_v0) (V m c main_v1) (V m c main_v2) (V m c main_arg4) (V m c main_v3) (V m c main_v4) (V m c main_v5) (V m c main_arg8) (V m c main_arg9) (V m c main_arg10) (V m c main_arg11)
    (V m c main_v6_0) (V m c main_v6_1) (V m c main_v6_2) (V m c main_v6_3) (V m c main_v6_4) (V m c main_v6_5) (V m c main_v6_6) (V m c main_v6_7) (V m c main_v6_8) (V m c main_v6_9) (V m c main_v6_10) (V m c main_v6_11) W)
  isplitl [HI]; · iexact HI
  isplitl [HO]; · iexact HO
  isplitl [HS]; · iexact HS
  isplitl [Hd]; · iexact Hd
  isplitl [HW]; · iexact HW
  iintro ⟨HI, HO, HS, Hd, ⟨%W', HW⟩⟩
  isplitl [HI HO HR Hd HS]
  · isplitl [HI HO HR]
    · isplitl [HI]; · iexact HI
      isplitl [HO]; · iexact HO
      iexact HR
    isplitl [Hd]; · iexact Hd
    iexact HS
  isplitl [HW]
  · iexists W'; isplitr; · ipureintro; exact fun _ _ => Or.inl trivial
    iexact HW
  iapply (e0 _)
  iempintro

/-- The kernel's semaphores are its own. -/
theorem ownSemFacts : Pipeline.OwnSemFacts (cfg0.spec) osem := by decide

/-- The algebra at launch. -/
def u₀ : UU nD τ := (initOf (Pipeline.cells cfgs cellOf_inj) (Pipeline.launchToks cfgs cellOf_inj), 1)

/-- What a core's memory holds at the end. -/
def QY (c : Dev nD) (s : MemSt nD τ sig (Elt F)) : Prop :=
  s.mem ((c.tc : Thread nD τ).loc main_v6_0) = grad (V m c main_arg0)
    ∧ s.mem ((c.tc : Thread nD τ).loc main_v6_1) = delta (V m c main_v0) (V m c main_v1) (V m c main_v2) (grad (V m c main_arg0))
    ∧ s.mem ((c.tc : Thread nD τ).loc main_v6_2) = mom (V m c main_v1) (grad (V m c main_arg0))
    ∧ s.mem ((c.tc : Thread nD τ).loc main_v6_3) = sec (V m c main_v2) (grad (V m c main_arg0))
    ∧ s.mem ((c.tc : Thread nD τ).loc main_v6_4) = grad (V m c main_arg4)
    ∧ s.mem ((c.tc : Thread nD τ).loc main_v6_5) = delta (V m c main_v3) (V m c main_v4) (V m c main_v5) (grad (V m c main_arg4))
    ∧ s.mem ((c.tc : Thread nD τ).loc main_v6_6) = mom (V m c main_v4) (grad (V m c main_arg4))
    ∧ s.mem ((c.tc : Thread nD τ).loc main_v6_7) = sec (V m c main_v5) (grad (V m c main_arg4))
    ∧ s.mem ((c.tc : Thread nD τ).loc main_v6_8) = grad (V m c main_arg8)
    ∧ s.mem ((c.tc : Thread nD τ).loc main_v6_9) = delta (V m c main_arg9) (V m c main_arg10) (V m c main_arg11) (grad (V m c main_arg8))
    ∧ s.mem ((c.tc : Thread nD τ).loc main_v6_10) = mom (V m c main_arg10) (grad (V m c main_arg8))
    ∧ s.mem ((c.tc : Thread nD τ).loc main_v6_11) = sec (V m c main_arg11) (grad (V m c main_arg8))
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)

set_option maxHeartbeats 4000000 in
/-- The launch hands the region what it starts from. -/
theorem hX (c : Dev nD) : iprop(Pipeline.unscopedRest (Ix := Unit) (Name := ℕ) (U := UU nD τ) (Lvl := ℕ) (cfg0.spec) c (V m c)) ⊢ before m c := by
  rw [rest_eq]
  iintro ⟨HI0, HI1, HI2, HI3, HI4, HI5, HI6, HI7, HI8, HI9, HI10, HI11, HO0, HO1, HO2, HO3, HO4, HO5, HO6, HO7, HO8, HO9, HO10, HO11, HR0, HR1, HR2, HR3, HR4, HR5⟩
  isplitl [HI0 HI1 HI2 HI3 HI4 HI5 HI6 HI7 HI8 HI9 HI10 HI11]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    iexact HI11
  isplitl [HO0 HO1 HO2 HO3 HO4 HO5 HO6 HO7 HO8 HO9 HO10 HO11]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    iexact HO11
  isplitl [HR0]; · iexact HR0
  isplitl [HR1]; · iexact HR1
  isplitl [HR2]; · iexact HR2
  isplitl [HR3]; · iexact HR3
  isplitl [HR4]; · iexact HR4
  iexact HR5

set_option maxHeartbeats 4000000 in
/-- What is held at the end is read off the memory. -/
theorem hY (c : Dev nD) (s' : Phys nD τ sig (Elt F)) :
    iprop(after m c ∗ SI (Ix := Unit) (Name := ℕ) (U := UU nD τ) (Lvl := ℕ) s') ⊢ |={Set.univ}=> iprop(⌜QY m c s'.mem⌝ ∗ SI (Ix := Unit) (Name := ℕ) (U := UU nD τ) (Lvl := ℕ) s') := by
  iintro ⟨⟨⟨HI0, HI1, HI2, HI3, HI4, HI5, HI6, HI7, HI8, HI9, HI10, HI11⟩, ⟨HO0, HO1, HO2, HO3, HO4, HO5, HO6, HO7, HO8, HO9, HO10, HO11⟩, ⟨HR0, HR1, HR2, HR3, HR4, HR5⟩⟩, HSI⟩
  icombine HSI HO0 gives %h_main_v6_0
  icombine HSI HO1 gives %h_main_v6_1
  icombine HSI HO2 gives %h_main_v6_2
  icombine HSI HO3 gives %h_main_v6_3
  icombine HSI HO4 gives %h_main_v6_4
  icombine HSI HO5 gives %h_main_v6_5
  icombine HSI HO6 gives %h_main_v6_6
  icombine HSI HO7 gives %h_main_v6_7
  icombine HSI HO8 gives %h_main_v6_8
  icombine HSI HO9 gives %h_main_v6_9
  icombine HSI HO10 gives %h_main_v6_10
  icombine HSI HO11 gives %h_main_v6_11
  icombine HSI HI0 gives %h_main_arg0
  icombine HSI HR0 gives %h_main_arg1
  icombine HSI HR1 gives %h_main_arg2
  icombine HSI HR2 gives %h_main_arg3
  icombine HSI HI4 gives %h_main_arg4
  icombine HSI HR3 gives %h_main_arg5
  icombine HSI HR4 gives %h_main_arg6
  icombine HSI HR5 gives %h_main_arg7
  icombine HSI HI8 gives %h_main_arg8
  icombine HSI HI9 gives %h_main_arg9
  icombine HSI HI10 gives %h_main_arg10
  icombine HSI HI11 gives %h_main_arg11
  imodintro
  isplitr
  · ipureintro
    exact ⟨Buf.eq_of_forall_mem_univ h_main_v6_0,
      Buf.eq_of_forall_mem_univ h_main_v6_1,
      Buf.eq_of_forall_mem_univ h_main_v6_2,
      Buf.eq_of_forall_mem_univ h_main_v6_3,
      Buf.eq_of_forall_mem_univ h_main_v6_4,
      Buf.eq_of_forall_mem_univ h_main_v6_5,
      Buf.eq_of_forall_mem_univ h_main_v6_6,
      Buf.eq_of_forall_mem_univ h_main_v6_7,
      Buf.eq_of_forall_mem_univ h_main_v6_8,
      Buf.eq_of_forall_mem_univ h_main_v6_9,
      Buf.eq_of_forall_mem_univ h_main_v6_10,
      Buf.eq_of_forall_mem_univ h_main_v6_11,
      (Buf.eq_of_forall_mem_univ h_main_arg0).trans (V_main_arg0 m c),
      (Buf.eq_of_forall_mem_univ h_main_arg1).trans (V_main_arg1 m c),
      (Buf.eq_of_forall_mem_univ h_main_arg2).trans (V_main_arg2 m c),
      (Buf.eq_of_forall_mem_univ h_main_arg3).trans (V_main_arg3 m c),
      (Buf.eq_of_forall_mem_univ h_main_arg4).trans (V_main_arg4 m c),
      (Buf.eq_of_forall_mem_univ h_main_arg5).trans (V_main_arg5 m c),
      (Buf.eq_of_forall_mem_univ h_main_arg6).trans (V_main_arg6 m c),
      (Buf.eq_of_forall_mem_univ h_main_arg7).trans (V_main_arg7 m c),
      (Buf.eq_of_forall_mem_univ h_main_arg8).trans (V_main_arg8 m c),
      (Buf.eq_of_forall_mem_univ h_main_arg9).trans (V_main_arg9 m c),
      (Buf.eq_of_forall_mem_univ h_main_arg10).trans (V_main_arg10 m c),
      (Buf.eq_of_forall_mem_univ h_main_arg11).trans (V_main_arg11 m c)⟩
  iexact HSI

set_option backward.isDefEq.respectTransparency.types false in
/-- The call's run, from any memory with every counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ Variants.none m ρ main
    (hbody := fun c => (body_obligation m c).loose) (hshare := fun _ w => w.elim0) (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := fun _ w => w.elim0)
    (X := fun c => iprop(before m c ∗ sems0 c)) (Y := fun c => after m c) (Z := fun _ => iprop(emp))
    (hX := fun c => by
      rw [sems_eq]
      iintro ⟨HR, Hd, -, -, -⟩
      imodintro
      isplitl [HR Hd]
      · isplitl [HR]; · iapply (hX m c); iexact HR
        iexact Hd
      iempintro)
    (hin := fun c => by
      rw [show (dats m 0 c).Φ 0 = iprop(before m c ∗ sems0 c ∗ scr c) from rfl, ← scr_eq]
      iintro ⟨⟨HB, Hd⟩, HS⟩
      isplitl [HB]; · iexact HB
      isplitl [Hd]; · iexact Hd
      iexact HS)
    (hout := fun c => by
      rw [sems_eq, show (dats m 0 c).Φ (Fin.last cfg0.N) = iprop(after m c ∗ sems0 c ∗ scr c) from rfl, ← scr_eq])
    (QY := QY m)
    (hY := fun c s' => by
      iintro ⟨HA, -, HSI⟩
      iapply (hY m c s')
      isplitl [HA]; · iexact HA
      iexact HSI)
    (hQ := fun _ h hz => ⟨fun c => (h c).2, hz⟩)

end Cert.Kernel7Ideal.Body

end

end
-- ==== Proof.AdamCall.lean ====
module

public import proofs.«01_k».proof.Defs
public import proofs.«01_k».proof.Proof.AdamRun
public import proofs.«01_k».proof.Proof.Gen.Reference7Ideal.Read
public import proofs.«01_k».proof.Proof.Gen.Reference7Ideal.Run
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.Val

open Idealize.ShloMosaic Idealize.ShloMosaic.TcCoe Idealize.SL.Sem
open Cert.Kernel7Ideal Cert.Kernel7Ideal.Gen Cert.Kernel7Ideal.Body
open Cert.Reference7Ideal.Read

variable (m : (ℓ : Loc nD τ sig) → Buf (Elt Ideal) ℓ)

/-- A matrix with its axes exchanged. -/
def flip (x : Vec Ideal S1024x352 .f32) : FVec Ideal S352x1024 .f32 := fun y => x (idx_main_v80 y)

/-- The kernel's gradient is the sum over the devices. -/
theorem grad_apply (p : Vec Ideal S8x352x1024 .bf16) (y : S352x1024.Idx) : grad p y = ∑ k : Fin 8, (p (ix3 k (y 0) (y 1)) : EReal) := by
  rw [Fin.sum_univ_eight]
  rfl

/-- The reference's sum over the devices is the kernel's gradient. -/
theorem sum1 (x : Vec Ideal S8x352x1024 .bf16) : val_main_v1 (F := Ideal) x = grad x := by
  funext y
  rw [val_main_v1_apply, grad_apply]
  refine Eq.trans ?_ (zero_add _)
  refine congrArg₂ (· + ·) (val_main_cst_apply _ |>.trans Ideal.ofBits_zero_f32) (Finset.sum_congr rfl fun k _ => ?_)
  refine congrArg x (funext fun a => ?_)
  match a with
  | ⟨0, _⟩ => rfl
  | ⟨1, _⟩ => rfl
  | ⟨2, _⟩ => rfl

/-- The reference's sum over the devices is the kernel's gradient. -/
theorem sum4 (x : Vec Ideal S8x352x1024 .bf16) : val_main_v4 (F := Ideal) x = grad x := by
  funext y
  rw [val_main_v4_apply, grad_apply]
  refine Eq.trans ?_ (zero_add _)
  refine congrArg₂ (· + ·) (val_main_cst_0_apply _ |>.trans Ideal.ofBits_zero_f32) (Finset.sum_congr rfl fun k _ => ?_)
  refine congrArg x (funext fun a => ?_)
  match a with
  | ⟨0, _⟩ => rfl
  | ⟨1, _⟩ => rfl
  | ⟨2, _⟩ => rfl

/-- The reference's sum over the devices is the kernel's gradient. -/
theorem sum7 (x : Vec Ideal S8x352x1024 .bf16) : val_main_v7 (F := Ideal) x = grad x := by
  funext y
  rw [val_main_v7_apply, grad_apply]
  refine Eq.trans ?_ (zero_add _)
  refine congrArg₂ (· + ·) (val_main_cst_1_apply _ |>.trans Ideal.ofBits_zero_f32) (Finset.sum_congr rfl fun k _ => ?_)
  refine congrArg x (funext fun a => ?_)
  match a with
  | ⟨0, _⟩ => rfl
  | ⟨1, _⟩ => rfl
  | ⟨2, _⟩ => rfl

/-- The gradient, transposed back. -/
theorem grad0 (x : Vec Ideal S8x352x1024 .bf16) : val_main_v80 (F := Ideal) x = grad x := by
  funext y
  rw [val_main_v80_apply, val_main_v2_apply, sum1]
  refine congrArg (grad x) (funext fun a => ?_)
  match a with
  | ⟨0, _⟩ => rfl
  | ⟨1, _⟩ => rfl

/-- The transposed gradient, read at exchanged coordinates. -/
theorem back0 (x : Vec Ideal S8x352x1024 .bf16) (y : S352x1024.Idx) : val_main_v2 (F := Ideal) x (idx_main_v80 y) = grad x y := by
  rw [val_main_v2_apply, sum1]
  refine congrArg (grad x) (funext fun a => ?_)
  match a with
  | ⟨0, _⟩ => rfl
  | ⟨1, _⟩ => rfl

/-- The reference's result is the kernel's. -/
theorem delta0 (x : Vec Ideal S8x352x1024 .bf16) (w a b : Vec Ideal S1024x352 .f32) : val_main_v81 (F := Ideal) x w a b = delta (flip w) (flip a) (flip b) (grad x) := by
  funext y
  simp only [val_main_v81_apply, val_main_v31_apply, val_main_v29_apply, val_main_v28_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v27_apply, val_main_v30_apply]
  rw [show val_main_v2 (F := Ideal) x (idx_main_v81 y) = grad x y from back0 x y]
  rfl

/-- The reference's result is the kernel's. -/
theorem mom0 (x : Vec Ideal S8x352x1024 .bf16) (a : Vec Ideal S1024x352 .f32) : val_main_v82 (F := Ideal) x a = mom (flip a) (grad x) := by
  funext y
  simp only [val_main_v82_apply, val_main_v12_apply, val_main_v11_apply, val_main_v10_apply, val_main_v9_apply, val_main_v8_apply]
  rw [show val_main_v2 (F := Ideal) x (idx_main_v82 y) = grad x y from back0 x y]
  rfl

/-- The reference's result is the kernel's. -/
theorem sec0 (x : Vec Ideal S8x352x1024 .bf16) (b : Vec Ideal S1024x352 .f32) : val_main_v83 (F := Ideal) x b = sec (flip b) (grad x) := by
  funext y
  simp only [val_main_v83_apply, val_main_v18_apply, val_main_v17_apply, val_main_v16_apply, val_main_v15_apply, val_main_v14_apply, val_main_v13_apply]
  rw [show val_main_v2 (F := Ideal) x (idx_main_v83 y) = grad x y from back0 x y]
  rfl

/-- The gradient, transposed back. -/
theorem grad1 (x : Vec Ideal S8x352x1024 .bf16) : val_main_v84 (F := Ideal) x = grad x := by
  funext y
  rw [val_main_v84_apply, val_main_v5_apply, sum4]
  refine congrArg (grad x) (funext fun a => ?_)
  match a with
  | ⟨0, _⟩ => rfl
  | ⟨1, _⟩ => rfl

/-- The transposed gradient, read at exchanged coordinates. -/
theorem back1 (x : Vec Ideal S8x352x1024 .bf16) (y : S352x1024.Idx) : val_main_v5 (F := Ideal) x (idx_main_v80 y) = grad x y := by
  rw [val_main_v5_apply, sum4]
  refine congrArg (grad x) (funext fun a => ?_)
  match a with
  | ⟨0, _⟩ => rfl
  | ⟨1, _⟩ => rfl

/-- The reference's result is the kernel's. -/
theorem delta1 (x : Vec Ideal S8x352x1024 .bf16) (w a b : Vec Ideal S1024x352 .f32) : val_main_v85 (F := Ideal) x w a b = delta (flip w) (flip a) (flip b) (grad x) := by
  funext y
  simp only [val_main_v85_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply]
  rw [show val_main_v5 (F := Ideal) x (idx_main_v85 y) = grad x y from back1 x y]
  rfl

/-- The reference's result is the kernel's. -/
theorem mom1 (x : Vec Ideal S8x352x1024 .bf16) (a : Vec Ideal S1024x352 .f32) : val_main_v86 (F := Ideal) x a = mom (flip a) (grad x) := by
  funext y
  simp only [val_main_v86_apply, val_main_v36_apply, val_main_v35_apply, val_main_v34_apply, val_main_v33_apply, val_main_v32_apply]
  rw [show val_main_v5 (F := Ideal) x (idx_main_v86 y) = grad x y from back1 x y]
  rfl

/-- The reference's result is the kernel's. -/
theorem sec1 (x : Vec Ideal S8x352x1024 .bf16) (b : Vec Ideal S1024x352 .f32) : val_main_v87 (F := Ideal) x b = sec (flip b) (grad x) := by
  funext y
  simp only [val_main_v87_apply, val_main_v42_apply, val_main_v41_apply, val_main_v40_apply, val_main_v39_apply, val_main_v38_apply, val_main_v37_apply]
  rw [show val_main_v5 (F := Ideal) x (idx_main_v87 y) = grad x y from back1 x y]
  rfl

/-- The reference's result is the kernel's. -/
theorem delta2 (x : Vec Ideal S8x352x1024 .bf16) (w a b : Vec Ideal S352x1024 .f32) : val_main_v79 (F := Ideal) x w a b = delta w a b (grad x) := by
  funext y
  simp only [val_main_v79_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_v77_apply, val_main_v78_apply]
  rw [sum7]
  rfl

/-- The reference's result is the kernel's. -/
theorem mom2 (x : Vec Ideal S8x352x1024 .bf16) (a : Vec Ideal S352x1024 .f32) : val_main_v60 (F := Ideal) x a = mom a (grad x) := by
  funext y
  simp only [val_main_v60_apply, val_main_v56_apply, val_main_v57_apply, val_main_v58_apply, val_main_v59_apply]
  rw [sum7]
  rfl

/-- The reference's result is the kernel's. -/
theorem sec2 (x : Vec Ideal S8x352x1024 .bf16) (b : Vec Ideal S352x1024 .f32) : val_main_v66 (F := Ideal) x b = sec b (grad x) := by
  funext y
  simp only [val_main_v66_apply, val_main_v61_apply, val_main_v62_apply, val_main_v63_apply, val_main_v64_apply, val_main_v65_apply]
  rw [sum7]
  rfl

/-- The operand is the argument with its axes exchanged. -/
theorem e_v0 (c : Dev nD) : (V m c main_v0 : S352x1024.Idx → EReal) = flip (m ((c.tc : Thread nD τ).loc main_arg1)) := by
  funext y
  entry_read
  pointwise [flip]
  refine congrArg (m ((c.tc : Thread nD τ).loc main_arg1)) (funext fun a => ?_)
  match a with
  | ⟨0, _⟩ => rfl
  | ⟨1, _⟩ => rfl

/-- The operand is the argument with its axes exchanged. -/
theorem e_v1 (c : Dev nD) : (V m c main_v1 : S352x1024.Idx → EReal) = flip (m ((c.tc : Thread nD τ).loc main_arg2)) := by
  funext y
  entry_read
  pointwise [flip]
  refine congrArg (m ((c.tc : Thread nD τ).loc main_arg2)) (funext fun a => ?_)
  match a with
  | ⟨0, _⟩ => rfl
  | ⟨1, _⟩ => rfl

/-- The operand is the argument with its axes exchanged. -/
theorem e_v2 (c : Dev nD) : (V m c main_v2 : S352x1024.Idx → EReal) = flip (m ((c.tc : Thread nD τ).loc main_arg3)) := by
  funext y
  entry_read
  pointwise [flip]
  refine congrArg (m ((c.tc : Thread nD τ).loc main_arg3)) (funext fun a => ?_)
  match a with
  | ⟨0, _⟩ => rfl
  | ⟨1, _⟩ => rfl

/-- The operand is the argument with its axes exchanged. -/
theorem e_v3 (c : Dev nD) : (V m c main_v3 : S352x1024.Idx → EReal) = flip (m ((c.tc : Thread nD τ).loc main_arg5)) := by
  funext y
  entry_read
  pointwise [flip]
  refine congrArg (m ((c.tc : Thread nD τ).loc main_arg5)) (funext fun a => ?_)
  match a with
  | ⟨0, _⟩ => rfl
  | ⟨1, _⟩ => rfl

/-- The operand is the argument with its axes exchanged. -/
theorem e_v4 (c : Dev nD) : (V m c main_v4 : S352x1024.Idx → EReal) = flip (m ((c.tc : Thread nD τ).loc main_arg6)) := by
  funext y
  entry_read
  pointwise [flip]
  refine congrArg (m ((c.tc : Thread nD τ).loc main_arg6)) (funext fun a => ?_)
  match a with
  | ⟨0, _⟩ => rfl
  | ⟨1, _⟩ => rfl

/-- The operand is the argument with its axes exchanged. -/
theorem e_v5 (c : Dev nD) : (V m c main_v5 : S352x1024.Idx → EReal) = flip (m ((c.tc : Thread nD τ).loc main_arg7)) := by
  funext y
  entry_read
  pointwise [flip]
  refine congrArg (m ((c.tc : Thread nD τ).loc main_arg7)) (funext fun a => ?_)
  match a with
  | ⟨0, _⟩ => rfl
  | ⟨1, _⟩ => rfl

/-- The ideal program terminates with its arguments unchanged and every counter at zero. -/
theorem frame : Cert.quiescent_Kernel7Ideal := fun m ρ _ =>
  (θ_run _ _ _).mono (fun r h => ⟨fun c => by
    obtain ⟨-, -, -, -, -, -, -, -, -, -, -, -, h⟩ := h.1 c
    exact h, h.2⟩) (run_main m ρ)

/-- The reference terminates with its arguments unchanged and every counter at zero. -/
theorem frame_ref : Cert.quiescent_Reference7Ideal := fun m ρ _ =>
  (θ_run Cert.Reference7Ideal.defs _ _).mono (fun r h => ⟨fun c => by
    obtain ⟨-, -, -, -, -, -, -, -, -, -, -, -, h⟩ := h c
    exact h, sem_eq_zero_of_no_sems (by decide) r.2⟩)
    (Cert.Reference7Ideal.Value.run m ρ)

/-- The call's run: the results, and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v6_0) = grad (V m c main_arg0)
      ∧ r.2.mem ((c.tc : Thread nD τ).loc main_v6_1) = delta (V m c main_v0) (V m c main_v1) (V m c main_v2) (grad (V m c main_arg0))
      ∧ r.2.mem ((c.tc : Thread nD τ).loc main_v6_2) = mom (V m c main_v1) (grad (V m c main_arg0))
      ∧ r.2.mem ((c.tc : Thread nD τ).loc main_v6_3) = sec (V m c main_v2) (grad (V m c main_arg0))
      ∧ r.2.mem ((c.tc : Thread nD τ).loc main_v6_4) = grad (V m c main_arg4)
      ∧ r.2.mem ((c.tc : Thread nD τ).loc main_v6_5) = delta (V m c main_v3) (V m c main_v4) (V m c main_v5) (grad (V m c main_arg4))
      ∧ r.2.mem ((c.tc : Thread nD τ).loc main_v6_6) = mom (V m c main_v4) (grad (V m c main_arg4))
      ∧ r.2.mem ((c.tc : Thread nD τ).loc main_v6_7) = sec (V m c main_v5) (grad (V m c main_arg4))
      ∧ r.2.mem ((c.tc : Thread nD τ).loc main_v6_8) = grad (V m c main_arg8)
      ∧ r.2.mem ((c.tc : Thread nD τ).loc main_v6_9) = delta (V m c main_arg9) (V m c main_arg10) (V m c main_arg11) (grad (V m c main_arg8))
      ∧ r.2.mem ((c.tc : Thread nD τ).loc main_v6_10) = mom (V m c main_arg10) (grad (V m c main_arg8))
      ∧ r.2.mem ((c.tc : Thread nD τ).loc main_v6_11) = sec (V m c main_arg11) (grad (V m c main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run _ _ _).mono (fun r h c => h.1 c) (run_main m ρ)

/-- The call and the reference leave the same gradients, steps and moments. -/
theorem algebraic : Cert.algebraic_Kernel7Ideal_Reference7Ideal := by
  pair_intro
  · exact run m g
  · refine (θ_run _ _ _).mono (fun r hr c => ?_) (Cert.Reference7Ideal.Value.run m' g')
    obtain ⟨h0, h1, h2, h3, h4, h5, h6, h7, h8, h9, h10, h11, ha⟩ := hr c
    obtain ⟨k0, k1, k2, k3, k4, k5, k6, k7, k8, k9, k10, k11⟩ := hagree c
    refine ⟨h0.trans ?_, h1.trans ?_, h2.trans ?_, h3.trans ?_, h4.trans ?_, h5.trans ?_, h6.trans ?_, h7.trans ?_, h8.trans ?_, h9.trans ?_, h10.trans ?_, h11.trans ?_, ha⟩
    · rw [val_main_v80_eq, k0]
      refine (grad0 _).trans ?_
      rw [V_main_arg0]
    · rw [val_main_v81_eq, k0, k1, k2, k3]
      refine (delta0 _ _ _ _).trans ?_
      rw [V_main_arg0, e_v0, e_v1, e_v2]
    · rw [val_main_v82_eq, k0, k2]
      refine (mom0 _ _).trans ?_
      rw [V_main_arg0, e_v1]
    · rw [val_main_v83_eq, k0, k3]
      refine (sec0 _ _).trans ?_
      rw [V_main_arg0, e_v2]
    · rw [val_main_v84_eq, k4]
      refine (grad1 _).trans ?_
      rw [V_main_arg4]
    · rw [val_main_v85_eq, k4, k5, k6, k7]
      refine (delta1 _ _ _ _).trans ?_
      rw [V_main_arg4, e_v3, e_v4, e_v5]
    · rw [val_main_v86_eq, k4, k6]
      refine (mom1 _ _).trans ?_
      rw [V_main_arg4, e_v4]
    · rw [val_main_v87_eq, k4, k7]
      refine (sec1 _ _).trans ?_
      rw [V_main_arg4, e_v5]
    · rw [val_main_v7_eq, k8]
      refine (sum7 _).trans ?_
      rw [V_main_arg8]
    · rw [val_main_v79_eq, k8, k9, k10, k11]
      refine (delta2 _ _ _ _).trans ?_
      rw [V_main_arg8, V_main_arg9, V_main_arg10, V_main_arg11]
    · rw [val_main_v60_eq, k8, k10]
      refine (mom2 _ _).trans ?_
      rw [V_main_arg8, V_main_arg10]
    · rw [val_main_v66_eq, k8, k11]
      refine (sec2 _ _).trans ?_
      rw [V_main_arg8, V_main_arg11]

end Cert.Kernel7Ideal.Val

end

end
-- ==== Proof.PrepFrameBody.lean ====
module

public import proofs.«01_k».proof.Proof.Gen.Kernel8.Frame
public import Idealize.ShloMosaic.Lib.Pipeline.KitQuiescent

@[expose] public section

noncomputable section

namespace Cert.Kernel8.Body

open Cert.Kernel8 Cert.Kernel8.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the proof: the pipeline's and the transfers' counters. -/
abbrev UU (nD : Nat) (τ : Topo) : Type := UR sig nD τ × Counters

local notation "𝕄" => MT nD τ sig Unit (Elt F) ℕ (UU nD τ) ℕ

/-- A buffer's contents on a core. -/
abbrev Bf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : Bf (F := F) c M) : sProp 𝕄 :=
  M.view.loc (c : Thread nD τ) ↦{fullShare} f

/-- The kernel's own transfer semaphores. -/
abbrev osem (k : Fin 17) : SemLoc sig := .dma k

/-- All of them at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0
      ∗ semVal ((c : Thread nD τ), osem 8) 0 ∗ semVal ((c : Thread nD τ), osem 9) 0 ∗ semVal ((c : Thread nD τ), osem 10) 0 ∗ semVal ((c : Thread nD τ), osem 11) 0
      ∗ semVal ((c : Thread nD τ), osem 12) 0 ∗ semVal ((c : Thread nD τ), osem 13) 0 ∗ semVal ((c : Thread nD τ), osem 14) 0 ∗ semVal ((c : Thread nD τ), osem 15) 0
      ∗ semVal ((c : Thread nD τ), osem 16) 0)

/-- The kernel's operands. -/
abbrev inp (c : Dev nD)
    (f0 : Bf (F := F) c (Memref.whole main_arg0))
    (f1 : Bf (F := F) c (Memref.whole main_arg1))
    (f2 : Bf (F := F) c (Memref.whole main_v0))
    (f3 : Bf (F := F) c (Memref.whole main_v1))
    (f4 : Bf (F := F) c (Memref.whole main_arg4))
    (f5 : Bf (F := F) c (Memref.whole main_arg5))
    (f6 : Bf (F := F) c (Memref.whole main_arg6))
    (f7 : Bf (F := F) c (Memref.whole main_arg7))
    : sProp 𝕄 :=
  iprop(pt c (Memref.whole main_arg0) f0 ∗ pt c (Memref.whole main_arg1) f1 ∗ pt c (Memref.whole main_v0) f2 ∗ pt c (Memref.whole main_v1) f3
      ∗ pt c (Memref.whole main_arg4) f4 ∗ pt c (Memref.whole main_arg5) f5 ∗ pt c (Memref.whole main_arg6) f6 ∗ pt c (Memref.whole main_arg7) f7)

/-- The kernel's results. -/
abbrev out (c : Dev nD)
    (f0 : Bf (F := F) c (Memref.whole main_v2_0))
    (f1 : Bf (F := F) c (Memref.whole main_v2_1))
    (f2 : Bf (F := F) c (Memref.whole main_v2_2))
    (f3 : Bf (F := F) c (Memref.whole main_v2_3))
    (f4 : Bf (F := F) c (Memref.whole main_v2_4))
    (f5 : Bf (F := F) c (Memref.whole main_v2_5))
    (f6 : Bf (F := F) c (Memref.whole main_v2_6))
    (f7 : Bf (F := F) c (Memref.whole main_v2_7))
    (f8 : Bf (F := F) c (Memref.whole main_v2_8))
    : sProp 𝕄 :=
  iprop(pt c (Memref.whole main_v2_0) f0 ∗ pt c (Memref.whole main_v2_1) f1 ∗ pt c (Memref.whole main_v2_2) f2 ∗ pt c (Memref.whole main_v2_3) f3
      ∗ pt c (Memref.whole main_v2_4) f4 ∗ pt c (Memref.whole main_v2_5) f5 ∗ pt c (Memref.whole main_v2_6) f6 ∗ pt c (Memref.whole main_v2_7) f7
      ∗ pt c (Memref.whole main_v2_8) f8)

/-- The kernel's scratch buffers, each at some contents. -/
abbrev scr (c : Dev nD) : sProp 𝕄 :=
  iprop((∃ f, pt c (Memref.whole cc0_scratch0) f) ∗ (∃ f, pt c (Memref.whole cc0_scratch1) f) ∗ (∃ f, pt c (Memref.whole cc0_scratch2) f) ∗ (∃ f, pt c (Memref.whole cc0_scratch3) f)
      ∗ (∃ f, pt c (Memref.whole cc0_scratch4) f) ∗ (∃ f, pt c (Memref.whole cc0_scratch5) f) ∗ (∃ f, pt c (Memref.whole cc0_scratch6) f) ∗ (∃ f, pt c (Memref.whole cc0_scratch7) f)
      ∗ (∃ f, pt c (Memref.whole cc0_scratch8) f) ∗ (∃ f, pt c (Memref.whole cc0_scratch9) f) ∗ (∃ f, pt c (Memref.whole cc0_scratch10) f) ∗ (∃ f, pt c (Memref.whole cc0_scratch11) f)
      ∗ (∃ f, pt c (Memref.whole cc0_scratch12) f) ∗ (∃ f, pt c (Memref.whole cc0_scratch13) f) ∗ (∃ f, pt c (Memref.whole cc0_scratch14) f) ∗ (∃ f, pt c (Memref.whole cc0_scratch15) f)
      ∗ (∃ f, pt c (Memref.whole cc0_scratch16) f))

/-- These are the scoped buffers that no window stages. -/
theorem scr_eq (c : Dev nD) :
    (Pipeline.scopedRest (Ix := Unit) (Name := ℕ) (U := UU nD τ) (Lvl := ℕ) (Val := Elt F) (cfg0.spec) c : sProp 𝕄) = scr c :=
  scopedRest0_eq c

/-- The results at some contents. -/
abbrev res (c : Dev nD) : sProp 𝕄 :=
  iprop((∃ f, pt c (Memref.whole main_v2_0) f) ∗ (∃ f, pt c (Memref.whole main_v2_1) f) ∗ (∃ f, pt c (Memref.whole main_v2_2) f) ∗ (∃ f, pt c (Memref.whole main_v2_3) f)
      ∗ (∃ f, pt c (Memref.whole main_v2_4) f) ∗ (∃ f, pt c (Memref.whole main_v2_5) f) ∗ (∃ f, pt c (Memref.whole main_v2_6) f) ∗ (∃ f, pt c (Memref.whole main_v2_7) f)
      ∗ (∃ f, pt c (Memref.whole main_v2_8) f))

set_option maxHeartbeats 4000000 in
/-- The kernel's body, from its operands, results, scratch buffers and semaphores held: it ends with the operands as they were. -/
theorem kernelRun (c : Dev nD)
    (f0 : Bf (F := F) c (Memref.whole main_arg0))
    (f1 : Bf (F := F) c (Memref.whole main_arg1))
    (f2 : Bf (F := F) c (Memref.whole main_v0))
    (f3 : Bf (F := F) c (Memref.whole main_v1))
    (f4 : Bf (F := F) c (Memref.whole main_arg4))
    (f5 : Bf (F := F) c (Memref.whole main_arg5))
    (f6 : Bf (F := F) c (Memref.whole main_arg6))
    (f7 : Bf (F := F) c (Memref.whole main_arg7))
    (o0 : Bf (F := F) c (Memref.whole main_v2_0))
    (o1 : Bf (F := F) c (Memref.whole main_v2_1))
    (o2 : Bf (F := F) c (Memref.whole main_v2_2))
    (o3 : Bf (F := F) c (Memref.whole main_v2_3))
    (o4 : Bf (F := F) c (Memref.whole main_v2_4))
    (o5 : Bf (F := F) c (Memref.whole main_v2_5))
    (o6 : Bf (F := F) c (Memref.whole main_v2_6))
    (o7 : Bf (F := F) c (Memref.whole main_v2_7))
    (o8 : Bf (F := F) c (Memref.whole main_v2_8))
    (W : Waits sig Unit) (Q : PUnit → sProp 𝕄) :
    iprop(inp c f0 f1 f2 f3 f4 f5 f6 f7 ∗ out c o0 o1 o2 o3 o4 o5 o6 o7 o8 ∗ scr c ∗ sems0 c ∗ owes (c : Thread nD τ) 0 W
      ∗ (iprop(inp c f0 f1 f2 f3 f4 f5 f6 f7 ∗ res c ∗ scr c ∗ sems0 c ∗ ∃ W, owes (c : Thread nD τ) 0 W) -∗ Q ⟨⟩))
    ⊢ wp frame (wpE (defs₀ (F := F)) Variants.none c none) Set.univ (bodyAt0 t0_0) Q := by
  iintro ⟨⟨HI0, HI1, HI2, HI3, HI4, HI5, HI6, HI7⟩, ⟨HO0, HO1, HO2, HO3, HO4, HO5, HO6, HO7, HO8⟩, ⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s15, HS15⟩, ⟨%s16, HS16⟩⟩, ⟨Hd0, Hd1, Hd2, Hd3, Hd4, Hd5, Hd6, Hd7, Hd8, Hd9, Hd10, Hd11, Hd12, Hd13, Hd14, Hd15, Hd16⟩, HW, Hk⟩
  sl_exec!
  sl_step
  iapply Hk
  isplitl [HI0 HI1 HI2 HI3 HI4 HI5 HI6 HI7]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    iexact HI7
  isplitl [HO0 HO1 HO2 HO3 HO4 HO5 HO6 HO7 HO8]
  · isplitl [HO0]; · iexists _; iexact HO0
    isplitl [HO1]; · iexists _; iexact HO1
    isplitl [HO2]; · iexists _; iexact HO2
    isplitl [HO3]; · iexists _; iexact HO3
    isplitl [HO4]; · iexists _; iexact HO4
    isplitl [HO5]; · iexists _; iexact HO5
    isplitl [HO6]; · iexists _; iexact HO6
    isplitl [HO7]; · iexists _; iexact HO7
    iexists _; iexact HO8
  isplitl [HS0 HS1 HS2 HS3 HS4 HS5 HS6 HS7 HS8 HS9 HS10 HS11 HS12 HS13 HS14 HS15 HS16]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    isplitl [HS15]; · iexists _; iexact HS15
    iexists _; iexact HS16
  isplitl [Hd0 Hd1 Hd2 Hd3 Hd4 Hd5 Hd6 Hd7 Hd8 Hd9 Hd10 Hd11 Hd12 Hd13 Hd14 Hd15 Hd16]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    iexact Hd16
  iexists _; iexact HW

end Cert.Kernel8.Body

end

end
-- ==== Proof.PrepFrame.lean ====
module

public import proofs.«01_k».proof.Proof.PrepFrameBody
public import Idealize.ShloMosaic.Lib.Pipeline.Frame

@[expose] public section

noncomputable section

namespace Cert.Kernel8.Body

open Cert.Kernel8 Cert.Kernel8.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline's algebra is the left component. -/
abbrev EP : Emb (UR sig nD τ) (MT nD τ sig Unit (Elt F) ℕ (UU nD τ) ℕ) := embL

variable (m : (ℓ : Loc nD τ sig) → Buf (Elt F) ℓ) (ρ : Dev nD → PrngReg)

/-- The arguments that the kernel does not take itself. -/
abbrev others (c : Dev nD) : sProp 𝕄 :=
  iprop(pt c (Memref.whole main_arg2) (V m c main_arg2) ∗ pt c (Memref.whole main_arg3) (V m c main_arg3))

/-- What is held outside the scoped buffers before the kernel. -/
abbrev before (c : Dev nD) : sProp 𝕄 :=
  iprop(inp c (V m c main_arg0) (V m c main_arg1) (V m c main_v0) (V m c main_v1) (V m c main_arg4) (V m c main_arg5) (V m c main_arg6) (V m c main_arg7)
    ∗ out c (V m c main_v2_0) (V m c main_v2_1) (V m c main_v2_2) (V m c main_v2_3) (V m c main_v2_4) (V m c main_v2_5) (V m c main_v2_6) (V m c main_v2_7) (V m c main_v2_8)
    ∗ others m c)

/-- What is held there after it. -/
abbrev after (c : Dev nD) : sProp 𝕄 :=
  iprop(inp c (V m c main_arg0) (V m c main_arg1) (V m c main_v0) (V m c main_v1) (V m c main_arg4) (V m c main_arg5) (V m c main_arg6) (V m c main_arg7)
    ∗ res c
    ∗ others m c)

set_option maxHeartbeats 4000000 in
/-- The buffers that are neither scoped nor a window's array, listed. -/
theorem rest_eq (c : Dev nD) (X : (b : Ref sig .tc) → Buf (Elt F) ((c : Thread nD τ).loc b)) :
    (Pipeline.unscopedRest (Ix := Unit) (Name := ℕ) (U := UU nD τ) (Lvl := ℕ) (cfg0.spec) c X : sProp 𝕄)
      = iprop(pt c (Memref.whole main_arg0) (X main_arg0) ∗ pt c (Memref.whole main_arg1) (X main_arg1) ∗ pt c (Memref.whole main_v0) (X main_v0) ∗ pt c (Memref.whole main_v1) (X main_v1)
      ∗ pt c (Memref.whole main_arg4) (X main_arg4) ∗ pt c (Memref.whole main_arg5) (X main_arg5) ∗ pt c (Memref.whole main_arg6) (X main_arg6) ∗ pt c (Memref.whole main_arg7) (X main_arg7)
      ∗ pt c (Memref.whole main_v2_0) (X main_v2_0) ∗ pt c (Memref.whole main_v2_1) (X main_v2_1) ∗ pt c (Memref.whole main_v2_2) (X main_v2_2) ∗ pt c (Memref.whole main_v2_3) (X main_v2_3)
      ∗ pt c (Memref.whole main_v2_4) (X main_v2_4) ∗ pt c (Memref.whole main_v2_5) (X main_v2_5) ∗ pt c (Memref.whole main_v2_6) (X main_v2_6) ∗ pt c (Memref.whole main_v2_7) (X main_v2_7)
      ∗ pt c (Memref.whole main_v2_8) (X main_v2_8) ∗ pt c (Memref.whole main_arg2) (X main_arg2) ∗ pt c (Memref.whole main_arg3) (X main_arg3)) :=
  Pipeline.unscopedRest_eq_of_list (cfg0.spec) c X
    [main_arg0, main_arg1, main_v0, main_v1, main_arg4, main_arg5, main_arg6, main_arg7, main_v2_0, main_v2_1, main_v2_2, main_v2_3, main_v2_4, main_v2_5, main_v2_6, main_v2_7, main_v2_8, main_arg2, main_arg3]
    (by decide) (by decide)

/-- The kernel's semaphores at zero, listed. -/
theorem sems_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15, 16] (by decide) (by decide)

/-- What holds at the region's two ends. -/
def Φc (c : Dev nD) : ℕ → sProp 𝕄
  | 0 => iprop(before m c ∗ sems0 c ∗ scr c)
  | _ + 1 => iprop(after m c ∗ sems0 c ∗ scr c)

/-- The proof data: no window; nothing owed. -/
def dats (_ : Fin 1) (c : Dev nD) : Dat τ (Elt F) Unit ℕ (UU nD τ) ℕ cfg0 c where
  A w := w.elim0
  after w := w.elim0
  Φ t := Φc m c t.val
  q _ := fullShare
  owed _ := 0

set_option maxHeartbeats 4000000 in
/-- The body's obligation. -/
theorem body_obligation (c : Dev nD) : BodyObligation (dats m 0 c) (defs₀ (F := F)) Variants.none () Set.univ := fun t => by
  obtain rfl := fin_N0 t
  have e0 : ∀ Φ : Fin cfg0.W → sProp 𝕄, (BI.emp : sProp 𝕄) ⊢ bigSep Finset.univ Φ := fun Φ => by
    rw [show (Finset.univ : Finset (Fin cfg0.W)) = ∅ from rfl, BI.bigSep_empty]
  rw [show (dats m 0 c).Φ t0_0.castSucc = iprop(before m c ∗ sems0 c ∗ scr c) from rfl,
    show (dats m 0 c).Φ t0_0.succ = iprop(after m c ∗ sems0 c ∗ scr c) from rfl]
  unfold Dat.owesAt Pipeline.owesWithin
  rw [show (dats m 0 c).owed t0_0.castSucc = 0 from rfl, show (dats m 0 c).owed t0_0.succ = 0 from rfl]
  iintro ⟨⟨⟨HI, HO, HR⟩, Hd, HS⟩, ⟨%W, %hW, HW⟩, -⟩
  iapply (kernelRun c (V m c main_arg0) (V m c main_arg1) (V m c main_v0) (V m c main_v1) (V m c main_arg4) (V m c main_arg5) (V m c main_arg6) (V m c main_arg7)
    (V m c main_v2_0) (V m c main_v2_1) (V m c main_v2_2) (V m c main_v2_3) (V m c main_v2_4) (V m c main_v2_5) (V m c main_v2_6) (V m c main_v2_7) (V m c main_v2_8) W)
  isplitl [HI]; · iexact HI
  isplitl [HO]; · iexact HO
  isplitl [HS]; · iexact HS
  isplitl [Hd]; · iexact Hd
  isplitl [HW]; · iexact HW
  iintro ⟨HI, HO, HS, Hd, ⟨%W', HW⟩⟩
  isplitl [HI HO HR Hd HS]
  · isplitl [HI HO HR]
    · isplitl [HI]; · iexact HI
      isplitl [HO]; · iexact HO
      iexact HR
    isplitl [Hd]; · iexact Hd
    iexact HS
  isplitl [HW]
  · iexists W'; isplitr; · ipureintro; exact fun _ _ => Or.inl trivial
    iexact HW
  iapply (e0 _)
  iempintro

/-- The kernel's semaphores are its own. -/
theorem ownSemFacts : Pipeline.OwnSemFacts (cfg0.spec) osem := by decide

/-- The algebra at launch. -/
def u₀ : UU nD τ := (initOf (Pipeline.cells cfgs cellOf_inj) (Pipeline.launchToks cfgs cellOf_inj), 1)

/-- What a core's memory holds at the end. -/
def QY (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)

set_option maxHeartbeats 4000000 in
/-- The launch hands the region what it starts from. -/
theorem hX (c : Dev nD) : iprop(Pipeline.unscopedRest (Ix := Unit) (Name := ℕ) (U := UU nD τ) (Lvl := ℕ) (cfg0.spec) c (V m c)) ⊢ before m c := by
  rw [rest_eq]
  iintro ⟨HI0, HI1, HI2, HI3, HI4, HI5, HI6, HI7, HO0, HO1, HO2, HO3, HO4, HO5, HO6, HO7, HO8, HR0, HR1⟩
  isplitl [HI0 HI1 HI2 HI3 HI4 HI5 HI6 HI7]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    iexact HI7
  isplitl [HO0 HO1 HO2 HO3 HO4 HO5 HO6 HO7 HO8]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    iexact HO8
  isplitl [HR0]; · iexact HR0
  iexact HR1

set_option maxHeartbeats 4000000 in
/-- What is held at the end is read off the memory. -/
theorem hY (c : Dev nD) (s' : Phys nD τ sig (Elt F)) :
    iprop(after m c ∗ SI (Ix := Unit) (Name := ℕ) (U := UU nD τ) (Lvl := ℕ) s') ⊢ |={Set.univ}=> iprop(⌜QY m c s'.mem⌝ ∗ SI (Ix := Unit) (Name := ℕ) (U := UU nD τ) (Lvl := ℕ) s') := by
  iintro ⟨⟨⟨HI0, HI1, HI2, HI3, HI4, HI5, HI6, HI7⟩, -, ⟨HR0, HR1⟩⟩, HSI⟩
  icombine HSI HI0 gives %h_main_arg0
  icombine HSI HI1 gives %h_main_arg1
  icombine HSI HR0 gives %h_main_arg2
  icombine HSI HR1 gives %h_main_arg3
  icombine HSI HI4 gives %h_main_arg4
  icombine HSI HI5 gives %h_main_arg5
  icombine HSI HI6 gives %h_main_arg6
  icombine HSI HI7 gives %h_main_arg7
  imodintro
  isplitr
  · ipureintro
    exact ⟨(Buf.eq_of_forall_mem_univ h_main_arg0).trans (V_main_arg0 m c),
      (Buf.eq_of_forall_mem_univ h_main_arg1).trans (V_main_arg1 m c),
      (Buf.eq_of_forall_mem_univ h_main_arg2).trans (V_main_arg2 m c),
      (Buf.eq_of_forall_mem_univ h_main_arg3).trans (V_main_arg3 m c),
      (Buf.eq_of_forall_mem_univ h_main_arg4).trans (V_main_arg4 m c),
      (Buf.eq_of_forall_mem_univ h_main_arg5).trans (V_main_arg5 m c),
      (Buf.eq_of_forall_mem_univ h_main_arg6).trans (V_main_arg6 m c),
      (Buf.eq_of_forall_mem_univ h_main_arg7).trans (V_main_arg7 m c)⟩
  iexact HSI

set_option backward.isDefEq.respectTransparency.types false in
/-- The call's run, from any memory with every counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ Variants.none m ρ main
    (hbody := fun c => (body_obligation m c).loose) (hshare := fun _ w => w.elim0) (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := fun _ w => w.elim0)
    (X := fun c => iprop(before m c ∗ sems0 c)) (Y := fun c => after m c) (Z := fun _ => iprop(emp))
    (hX := fun c => by
      rw [sems_eq]
      iintro ⟨HR, Hd, -, -, -⟩
      imodintro
      isplitl [HR Hd]
      · isplitl [HR]; · iapply (hX m c); iexact HR
        iexact Hd
      iempintro)
    (hin := fun c => by
      rw [show (dats m 0 c).Φ 0 = iprop(before m c ∗ sems0 c ∗ scr c) from rfl, ← scr_eq]
      iintro ⟨⟨HB, Hd⟩, HS⟩
      isplitl [HB]; · iexact HB
      isplitl [Hd]; · iexact Hd
      iexact HS)
    (hout := fun c => by
      rw [sems_eq, show (dats m 0 c).Φ (Fin.last cfg0.N) = iprop(after m c ∗ sems0 c ∗ scr c) from rfl, ← scr_eq])
    (QY := QY m)
    (hY := fun c s' => by
      iintro ⟨HA, -, HSI⟩
      iapply (hY m c s')
      isplitl [HA]; · iexact HA
      iexact HSI)
    (hQ := fun _ h hz => ⟨fun c => (h c).2, hz⟩)

/-- The call terminates with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  run_main m ρ

end Cert.Kernel8.Body

end

end
-- ==== Proof.PrepBody.lean ====
module

public import proofs.«01_k».proof.Proof.Gen.Kernel8Ideal.Frame
public import Idealize.ShloMosaic.Lib.Pipeline.KitQuiescent
public import Idealize.ShloMosaic.Lib.Pipeline.ValueKit
public import Idealize.ShloMosaic.Lib.LaneScatter.Tiles

@[expose] public section

noncomputable section

namespace Cert.Kernel8Ideal.Body

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The positions on and below the diagonal. -/
def lowMask : IVec S128x128 1 :=
  cmpi .sge (iota .tc S128x128 32 [0] iota_S128x128_d0_w32) (iota .tc S128x128 32 [1] iota_S128x128_d1_w32)

/-- One head's matrix, zero above the diagonal. -/
def low (w : Vec F S8x128x128 .f32) (h : Fin 8) : FVec F S128x128 .f32 :=
  select lowMask (fun i => w (ix3 h (i 0) (i 1))) (broadcast S128x128 (Scalar.ofBits .f32 0x00000000#32 : F .f32))

/-- The same, in bf16. -/
def lowB (w : Vec F S8x128x128 .f32) (h : Fin 8) : FVec F S128x128 .bf16 := truncf .bf16 (low w h) bitsLt_bf16_f32

/-- The same, transposed. -/
def lowT (w : Vec F S8x128x128 .f32) (h : Fin 8) : FVec F S128x128 .bf16 :=
  truncf .bf16 (transpose S128x128 [1, 0] (low w h) transposes_S128x128_p1_0_S128x128) bitsLt_bf16_f32

/-- Eight matrices side by side, two in a row. -/
def pair (M : Fin 8 → FVec F S128x128 .bf16) : FVec F S4x128x256 .bf16 := fun y =>
  M ⟨2 * (y 0).val + (y 2).val / 128, by
    have h0 : (y 0).val < 4 := (y 0).isLt
    have h2 : (y 2).val < 256 := (y 2).isLt
    omega⟩ (ix2 (y 1) ⟨(y 2).val % 128, Nat.mod_lt _ (by decide)⟩)

/-- A matrix in the corner of a larger one that is zero elsewhere. -/
def padded (w : Vec F S31x64 .f32) : FVec F S32x128 .f32 := fun y =>
  if h : (y 0).val < 31 ∧ (y 1).val < 64 then w (ix2 ⟨(y 0).val, h.1⟩ ⟨(y 1).val, h.2⟩) else Scalar.ofBits .f32 0x00000000#32

/-- Which channels belong to which head: a one where they do. -/
def heads : FVec F S8x512 .f32 :=
  sitofp .f32 (extui 32 (andi
    (cmpi .sge (iota .tc S8x512 32 [1] iota_S8x512_d1_w32) (muli (iota .tc S8x512 32 [0] iota_S8x512_d0_w32) (broadcast S8x512 (64#32 : BitVec 32))))
    (cmpi .slt (iota .tc S8x512 32 [1] iota_S8x512_d1_w32)
      (muli (addi (iota .tc S8x512 32 [0] iota_S8x512_d0_w32) (broadcast S8x512 (1#32 : BitVec 32))) (broadcast S8x512 (64#32 : BitVec 32))))) natLt_1_32)

/-- The heads' biases spread over their channels. -/
def spread (b : Vec F S8x128 .f32) : FVec F S128x512 .f32 :=
  matmul dot_S8x128_S8x512_S128x512_0_0_1_1_n_n (some .fp32) b heads (constant S128x512 .f32 0x00000000#32)

/-- One head's matrix as the kernel loads it: a block of the stacked ones, without its leading axis. -/
def lowL (w : Vec F S8x128x128 .f32) (h : ℕ) (inb : ∀ a, (![h, 0, 0] : Fin 3 → ℕ) a + S1x128x128.size a ≤ S8x128x128.size a) : FVec F S128x128 .f32 :=
  select lowMask (shapeCast S128x128 (fun j => w ((Rect.unit (s := S8x128x128) ![h, 0, 0] S1x128x128.size inb).emb j)) shapeCasts_S1x128x128_S128x128)
    (broadcast S128x128 (Scalar.ofBits .f32 0x00000000#32 : F .f32))

/-- The loaded matrix is the head's. -/
theorem lowL_eq (w : Vec F S8x128x128 .f32) (h : ℕ) (hk : h < 8) (inb) : lowL w h inb = low w ⟨h, hk⟩ := by
  unfold low lowL
  refine congrArg (fun z => select lowMask z _) ?_
  funext i
  refine (shapeCast_dropUnit_apply _ _ _ i).trans (congrArg w ?_)
  funext a
  refine Fin.ext ?_
  match a with
  | ⟨0, _⟩ => simp [ix3]
  | ⟨1, _⟩ => simp [ix3]; rfl
  | ⟨2, _⟩ => simp [ix3]; rfl

/-- What the kernel stores of a head. -/
theorem storedB {p w : Vec F S8x128x128 .f32} (e : p = w) (h : ℕ) (hk : h < 8) (inb) :
    shapeCast S1x128x128 (truncf .bf16 (lowL p h inb) bitsLt_bf16_f32) shapeCasts_S128x128_S1x128x128
      = shapeCast S1x128x128 (lowB w ⟨h, hk⟩) shapeCasts_S128x128_S1x128x128 := by
  rw [e, lowL_eq w h hk]
  rfl

/-- What the kernel stores of a head, transposed. -/
theorem storedT {p w : Vec F S8x128x128 .f32} (e : p = w) (h : ℕ) (hk : h < 8) (inb) :
    shapeCast S1x128x128 (truncf .bf16 (transpose S128x128 [1, 0] (lowL p h inb) transposes_S128x128_p1_0_S128x128) bitsLt_bf16_f32) shapeCasts_S128x128_S1x128x128
      = shapeCast S1x128x128 (lowT w ⟨h, hk⟩) shapeCasts_S128x128_S1x128x128 := by
  rw [e, lowL_eq w h hk]
  rfl

/-- A stored block holds its part of the matrices side by side. -/
theorem piece (M : Fin 8 → FVec F S128x128 .bf16) (p s o : ℕ) (hs : s < 2) (ho : o = 128 * s) (inb) (k : Fin 8) (hk : k.val = 2 * p + s)
    (w : FVec F S1x128x128 .bf16) (hw : w = shapeCast S1x128x128 (M k) shapeCasts_S128x128_S1x128x128) (x : S1x128x128.Idx) :
    w x = pair M ((Rect.unit (s := S4x128x256) ![p, 0, o] S1x128x128.size inb).emb x) := by
  subst hw
  refine (shapeCast_addUnit_apply _ _ _ x).trans ?_
  have e0 : ((Rect.unit (s := S4x128x256) ![p, 0, o] S1x128x128.size inb).emb x 0).val = p := by
    have : (x 0).val < 1 := (x 0).isLt
    show p + 1 * (x 0).val = p
    omega
  have e1 : ((Rect.unit (s := S4x128x256) ![p, 0, o] S1x128x128.size inb).emb x 1).val = (x 1).val := by
    show 0 + 1 * (x 1).val = (x 1).val
    omega
  have e2 : ((Rect.unit (s := S4x128x256) ![p, 0, o] S1x128x128.size inb).emb x 2).val = o + (x 2).val := by
    show o + 1 * (x 2).val = o + (x 2).val
    omega
  have l2 : (x 2).val < 128 := (x 2).isLt
  unfold pair
  refine congrArg₂ M (Fin.ext ?_) (funext fun a => Fin.ext ?_)
  · show k.val = 2 * _ + _ / 128
    rw [e0, e2]
    omega
  · match a with
    | ⟨0, _⟩ => exact e1.symm
    | ⟨1, _⟩ =>
      show (x 2).val = _ % 128
      rw [e2]
      omega

/-- A place within a block. -/
theorem memPiece (y : S4x128x256.Idx) (p o : ℕ) (inb) (h0 : (y 0).val = p) (hl : o ≤ (y 2).val) (hr : (y 2).val < o + 128) :
    y ∈ (Rect.unit (s := S4x128x256) ![p, 0, o] S1x128x128.size inb).set := by
  refine (Rect.unit (s := S4x128x256) ![p, 0, o] S1x128x128.size inb).mem_set.mpr fun a => ?_
  match a with
  | ⟨0, _⟩ => exact ⟨0, Nat.one_pos, by show (y 0).val = p + 1 * 0; omega⟩
  | ⟨1, _⟩ => exact ⟨(y 1).val, (y 1).isLt, by show (y 1).val = 0 + 1 * (y 1).val; omega⟩
  | ⟨2, _⟩ => exact ⟨(y 2).val - o, by show (y 2).val - o < 128; omega, by show (y 2).val = o + 1 * ((y 2).val - o); omega⟩

/-- Eight blocks stored side by side read back as the matrices side by side. -/
theorem tiles {sp : Space} (v : View sig .tc sp S4x128x256 .bf16) (f : v.ty.Contents (Elt F)) (M : Fin 8 → FVec F S128x128 .bf16)
    {w0 w1 w2 w3 w4 w5 w6 w7 : FVec F S1x128x128 .bf16}
    (h0 : w0 = shapeCast S1x128x128 (M 0) shapeCasts_S128x128_S1x128x128)
    (h1 : w1 = shapeCast S1x128x128 (M 1) shapeCasts_S128x128_S1x128x128)
    (h2 : w2 = shapeCast S1x128x128 (M 2) shapeCasts_S128x128_S1x128x128)
    (h3 : w3 = shapeCast S1x128x128 (M 3) shapeCasts_S128x128_S1x128x128)
    (h4 : w4 = shapeCast S1x128x128 (M 4) shapeCasts_S128x128_S1x128x128)
    (h5 : w5 = shapeCast S1x128x128 (M 5) shapeCasts_S128x128_S1x128x128)
    (h6 : w6 = shapeCast S1x128x128 (M 6) shapeCasts_S128x128_S1x128x128)
    (h7 : w7 = shapeCast S1x128x128 (M 7) shapeCasts_S128x128_S1x128x128)
    : v.read (Elt F) (v.writes (Elt F) f
      [⟨Rect.unit (s := S4x128x256) ![3, 0, 128] S1x128x128.size inb_S4x128x256_S1x128x128_3_0_128, w7⟩,
        ⟨Rect.unit (s := S4x128x256) ![3, 0, 0] S1x128x128.size inb_S4x128x256_S1x128x128_3_0_0, w6⟩,
        ⟨Rect.unit (s := S4x128x256) ![2, 0, 128] S1x128x128.size inb_S4x128x256_S1x128x128_2_0_128, w5⟩,
        ⟨Rect.unit (s := S4x128x256) ![2, 0, 0] S1x128x128.size inb_S4x128x256_S1x128x128_2_0_0, w4⟩,
        ⟨Rect.unit (s := S4x128x256) ![1, 0, 128] S1x128x128.size inb_S4x128x256_S1x128x128_1_0_128, w3⟩,
        ⟨Rect.unit (s := S4x128x256) ![1, 0, 0] S1x128x128.size inb_S4x128x256_S1x128x128_1_0_0, w2⟩,
        ⟨Rect.unit (s := S4x128x256) ![0, 0, 128] S1x128x128.size inb_S4x128x256_S1x128x128_0_0_128, w1⟩,
        ⟨Rect.unit (s := S4x128x256) ![0, 0, 0] S1x128x128.size inb_S4x128x256_S1x128x128_0_0_0, w0⟩]) = pair M := by
  funext y
  refine View.read_writes_apply_of_pieces v f (pair M) _ ?_ y ?_
  · intro p hp x
    simp only [List.mem_cons, List.not_mem_nil, or_false] at hp
    rcases hp with rfl | rfl | rfl | rfl | rfl | rfl | rfl | rfl
    · exact piece M 3 1 128 (by decide) rfl inb_S4x128x256_S1x128x128_3_0_128 7 rfl w7 h7 x
    · exact piece M 3 0 0 (by decide) rfl inb_S4x128x256_S1x128x128_3_0_0 6 rfl w6 h6 x
    · exact piece M 2 1 128 (by decide) rfl inb_S4x128x256_S1x128x128_2_0_128 5 rfl w5 h5 x
    · exact piece M 2 0 0 (by decide) rfl inb_S4x128x256_S1x128x128_2_0_0 4 rfl w4 h4 x
    · exact piece M 1 1 128 (by decide) rfl inb_S4x128x256_S1x128x128_1_0_128 3 rfl w3 h3 x
    · exact piece M 1 0 0 (by decide) rfl inb_S4x128x256_S1x128x128_1_0_0 2 rfl w2 h2 x
    · exact piece M 0 1 128 (by decide) rfl inb_S4x128x256_S1x128x128_0_0_128 1 rfl w1 h1 x
    · exact piece M 0 0 0 (by decide) rfl inb_S4x128x256_S1x128x128_0_0_0 0 rfl w0 h0 x
  · have l0 : (y 0).val < 4 := (y 0).isLt
    have l2 : (y 2).val < 256 := (y 2).isLt
    have c0 : (y 0).val = 0 ∨ (y 0).val = 1 ∨ (y 0).val = 2 ∨ (y 0).val = 3 := by omega
    have c2 : (y 2).val < 128 ∨ 128 ≤ (y 2).val := by omega
    rcases c0 with c0 | c0 | c0 | c0 <;> rcases c2 with c2 | c2
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), memPiece y 0 0 inb_S4x128x256_S1x128x128_0_0_0 c0 (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), memPiece y 0 128 inb_S4x128x256_S1x128x128_0_0_128 c0 (by omega) (by omega)⟩
    · exact ⟨_, (List.mem_cons_of_mem _ (List.mem_cons_of_mem _ (List.mem_cons_of_mem _ (List.mem_cons_of_mem _ (List.mem_cons_of_mem _ List.mem_cons_self))))), memPiece y 1 0 inb_S4x128x256_S1x128x128_1_0_0 c0 (by omega) (by omega)⟩
    · exact ⟨_, (List.mem_cons_of_mem _ (List.mem_cons_of_mem _ (List.mem_cons_of_mem _ (List.mem_cons_of_mem _ List.mem_cons_self)))), memPiece y 1 128 inb_S4x128x256_S1x128x128_1_0_128 c0 (by omega) (by omega)⟩
    · exact ⟨_, (List.mem_cons_of_mem _ (List.mem_cons_of_mem _ (List.mem_cons_of_mem _ List.mem_cons_self))), memPiece y 2 0 inb_S4x128x256_S1x128x128_2_0_0 c0 (by omega) (by omega)⟩
    · exact ⟨_, (List.mem_cons_of_mem _ (List.mem_cons_of_mem _ List.mem_cons_self)), memPiece y 2 128 inb_S4x128x256_S1x128x128_2_0_128 c0 (by omega) (by omega)⟩
    · exact ⟨_, (List.mem_cons_of_mem _ List.mem_cons_self), memPiece y 3 0 inb_S4x128x256_S1x128x128_3_0_0 c0 (by omega) (by omega)⟩
    · exact ⟨_, List.mem_cons_self, memPiece y 3 128 inb_S4x128x256_S1x128x128_3_0_128 c0 (by omega) (by omega)⟩

/-- The corner stored over a zero array reads back as the padded matrix. -/
theorem corner {sp : Space} (v : View sig .tc sp S32x128 .f32) (f : v.ty.Contents (Elt F)) {a w : FVec F S31x64 .f32} {z : FVec F S32x128 .f32}
    (ha : a = w) (hz : z = fun _ => Scalar.ofBits .f32 0x00000000#32) :
    v.read (Elt F) (v.writes (Elt F) f
      [⟨Rect.unit (s := S32x128) ![0, 0] S31x64.size inb_S32x128_S31x64_0_0, a⟩, ⟨Rect.unit (s := S32x128) ![0, 0] S32x128.size inb_S32x128_S32x128_0_0, z⟩])
      = padded w := by
  subst ha hz
  funext y
  unfold padded
  by_cases h : (y 0).val < 31 ∧ (y 1).val < 64
  · rw [dif_pos h]
    refine View.read_writes_cons_hit_of_coords v f (Rect.unit (s := S32x128) ![0, 0] S31x64.size inb_S32x128_S31x64_0_0) a _ (ix2 ⟨(y 0).val, h.1⟩ ⟨(y 1).val, h.2⟩) y fun a => ?_
    match a with
    | ⟨0, _⟩ => show (y 0).val = 0 + 1 * (y 0).val; omega
    | ⟨1, _⟩ => show (y 1).val = 0 + 1 * (y 1).val; omega
  · rw [dif_neg h]
    have miss : v.read (Elt F) (v.writes (Elt F) f
        [⟨Rect.unit (s := S32x128) ![0, 0] S31x64.size inb_S32x128_S31x64_0_0, a⟩, ⟨Rect.unit (s := S32x128) ![0, 0] S32x128.size inb_S32x128_S32x128_0_0, fun _ => Scalar.ofBits .f32 0x00000000#32⟩]) y
        = v.read (Elt F) (v.writes (Elt F) f [⟨Rect.unit (s := S32x128) ![0, 0] S32x128.size inb_S32x128_S32x128_0_0, fun _ => Scalar.ofBits .f32 0x00000000#32⟩]) y := by
      by_cases h0 : (y 0).val < 31
      · exact View.read_writes_cons_miss_of_axis v f _ _ y 1 0 64 rfl rfl rfl (by have : ¬ (y 1).val < 64 := fun h1 => h ⟨h0, h1⟩; omega)
      · exact View.read_writes_cons_miss_of_axis v f _ _ y 0 0 31 rfl rfl rfl (by omega)
    refine miss.trans ?_
    refine View.read_writes_cons_hit_of_coords v f (Rect.unit (s := S32x128) ![0, 0] S32x128.size inb_S32x128_S32x128_0_0) _ _ y y fun a => ?_
    match a with
    | ⟨0, _⟩ => show (y 0).val = 0 + 1 * (y 0).val; omega
    | ⟨1, _⟩ => show (y 1).val = 0 + 1 * (y 1).val; omega

/-- The offset at the origin. -/
theorem zeros : (![0, 0] : Fin 2 → ℕ) = fun _ => 0 := by funext a; match a with | 0 => rfl | 1 => rfl

/-- An array stored whole reads back as what was stored. -/
theorem stored {b : Ref sig .tc} {off : Fin b.ty.shape.rank → ℕ} (h0 : off = fun _ => 0) (f : b.ty.Contents (Elt F))
    (h : ∀ a, off a + b.ty.shape.size a ≤ b.ty.shape.size a) (w : b.ty.Contents (Elt F)) :
    ReadAs.same.apply ((Memref.whole b).view.read (Elt F) ((Memref.whole b).view.writes (Elt F) f [⟨Rect.unit off b.ty.shape.size h, w⟩])) = w :=
  LaneScatter.read_whole_store (Memref.whole b).view f (fun a => congrFun h0 a) h w

/-- A buffer filled whole and loaded whole reads as what filled it. -/
theorem loaded {b : Ref sig .tc} {off : Fin b.ty.shape.rank → ℕ} (h0 : off = fun _ => 0) (f g : b.ty.Contents (Elt F))
    (h : ∀ a, off a + b.ty.shape.size a ≤ b.ty.shape.size a) :
    View.readAt (Elt F) (Memref.whole b).view (Rect.unit off b.ty.shape.size h).toLoadRect (View.write (Elt F) (Memref.whole b).view f g Finset.univ) = g :=
  (Memref.readAt_unit_zero (Elt F) b h0 h _).trans (View.write_whole_univ b f g)

/-- The algebra of the proof: the pipeline's and the transfers' counters. -/
abbrev UU (nD : Nat) (τ : Topo) : Type := UR sig nD τ × Counters

local notation "𝕄" => MT nD τ sig Unit (Elt F) ℕ (UU nD τ) ℕ

/-- A buffer's contents on a core. -/
abbrev Bf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : Bf (F := F) c M) : sProp 𝕄 :=
  M.view.loc (c : Thread nD τ) ↦{fullShare} f

/-- Equal contents may be exchanged. -/
theorem ptOfEq (c : Dev nD) {sp : Space} {S : Shape} {e : EltTy} (M : Memref sig .tc sp S e) {f g : Bf (F := F) c M} (h : f = g) :
    (pt c M f : sProp 𝕄) ⊢ pt c M g := by rw [h]

/-- The kernel's own transfer semaphores. -/
abbrev osem (k : Fin 17) : SemLoc sig := .dma k

/-- All of them at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0
      ∗ semVal ((c : Thread nD τ), osem 8) 0 ∗ semVal ((c : Thread nD τ), osem 9) 0 ∗ semVal ((c : Thread nD τ), osem 10) 0 ∗ semVal ((c : Thread nD τ), osem 11) 0
      ∗ semVal ((c : Thread nD τ), osem 12) 0 ∗ semVal ((c : Thread nD τ), osem 13) 0 ∗ semVal ((c : Thread nD τ), osem 14) 0 ∗ semVal ((c : Thread nD τ), osem 15) 0
      ∗ semVal ((c : Thread nD τ), osem 16) 0)

/-- The kernel's operands. -/
abbrev inp (c : Dev nD)
    (f0 : Bf (F := F) c (Memref.whole main_arg0))
    (f1 : Bf (F := F) c (Memref.whole main_arg1))
    (f2 : Bf (F := F) c (Memref.whole main_v0))
    (f3 : Bf (F := F) c (Memref.whole main_v1))
    (f4 : Bf (F := F) c (Memref.whole main_arg4))
    (f5 : Bf (F := F) c (Memref.whole main_arg5))
    (f6 : Bf (F := F) c (Memref.whole main_arg6))
    (f7 : Bf (F := F) c (Memref.whole main_arg7))
    : sProp 𝕄 :=
  iprop(pt c (Memref.whole main_arg0) f0 ∗ pt c (Memref.whole main_arg1) f1 ∗ pt c (Memref.whole main_v0) f2 ∗ pt c (Memref.whole main_v1) f3
      ∗ pt c (Memref.whole main_arg4) f4 ∗ pt c (Memref.whole main_arg5) f5 ∗ pt c (Memref.whole main_arg6) f6 ∗ pt c (Memref.whole main_arg7) f7)

/-- The kernel's results. -/
abbrev out (c : Dev nD)
    (f0 : Bf (F := F) c (Memref.whole main_v2_0))
    (f1 : Bf (F := F) c (Memref.whole main_v2_1))
    (f2 : Bf (F := F) c (Memref.whole main_v2_2))
    (f3 : Bf (F := F) c (Memref.whole main_v2_3))
    (f4 : Bf (F := F) c (Memref.whole main_v2_4))
    (f5 : Bf (F := F) c (Memref.whole main_v2_5))
    (f6 : Bf (F := F) c (Memref.whole main_v2_6))
    (f7 : Bf (F := F) c (Memref.whole main_v2_7))
    (f8 : Bf (F := F) c (Memref.whole main_v2_8))
    : sProp 𝕄 :=
  iprop(pt c (Memref.whole main_v2_0) f0 ∗ pt c (Memref.whole main_v2_1) f1 ∗ pt c (Memref.whole main_v2_2) f2 ∗ pt c (Memref.whole main_v2_3) f3
      ∗ pt c (Memref.whole main_v2_4) f4 ∗ pt c (Memref.whole main_v2_5) f5 ∗ pt c (Memref.whole main_v2_6) f6 ∗ pt c (Memref.whole main_v2_7) f7
      ∗ pt c (Memref.whole main_v2_8) f8)

/-- The kernel's scratch buffers, each at some contents. -/
abbrev scr (c : Dev nD) : sProp 𝕄 :=
  iprop((∃ f, pt c (Memref.whole cc0_scratch0) f) ∗ (∃ f, pt c (Memref.whole cc0_scratch1) f) ∗ (∃ f, pt c (Memref.whole cc0_scratch2) f) ∗ (∃ f, pt c (Memref.whole cc0_scratch3) f)
      ∗ (∃ f, pt c (Memref.whole cc0_scratch4) f) ∗ (∃ f, pt c (Memref.whole cc0_scratch5) f) ∗ (∃ f, pt c (Memref.whole cc0_scratch6) f) ∗ (∃ f, pt c (Memref.whole cc0_scratch7) f)
      ∗ (∃ f, pt c (Memref.whole cc0_scratch8) f) ∗ (∃ f, pt c (Memref.whole cc0_scratch9) f) ∗ (∃ f, pt c (Memref.whole cc0_scratch10) f) ∗ (∃ f, pt c (Memref.whole cc0_scratch11) f)
      ∗ (∃ f, pt c (Memref.whole cc0_scratch12) f) ∗ (∃ f, pt c (Memref.whole cc0_scratch13) f) ∗ (∃ f, pt c (Memref.whole cc0_scratch14) f) ∗ (∃ f, pt c (Memref.whole cc0_scratch15) f)
      ∗ (∃ f, pt c (Memref.whole cc0_scratch16) f))

/-- These are the scoped buffers that no window stages. -/
theorem scr_eq (c : Dev nD) :
    (Pipeline.scopedRest (Ix := Unit) (Name := ℕ) (U := UU nD τ) (Lvl := ℕ) (Val := Elt F) (cfg0.spec) c : sProp 𝕄) = scr c :=
  scopedRest0_eq c

/-- The results the kernel leaves. -/
abbrev res (c : Dev nD)
    (f0 : Bf (F := F) c (Memref.whole main_arg0))
    (f1 : Bf (F := F) c (Memref.whole main_arg1))
    (f2 : Bf (F := F) c (Memref.whole main_v0))
    (f3 : Bf (F := F) c (Memref.whole main_v1))
    (f4 : Bf (F := F) c (Memref.whole main_arg4))
    (f5 : Bf (F := F) c (Memref.whole main_arg5))
    (f6 : Bf (F := F) c (Memref.whole main_arg6))
    (f7 : Bf (F := F) c (Memref.whole main_arg7))
    : sProp 𝕄 :=
  out c (truncf .bf16 (transpose S256x1024 [1, 0] f0 transposes_S1024x256_p1_0_S256x1024) bitsLt_bf16_f32)
    (truncf .bf16 f1 bitsLt_bf16_f32)
    (truncf .bf16 f2 bitsLt_bf16_f32)
    (truncf .bf16 f3 bitsLt_bf16_f32)
    (truncf .bf16 f4 bitsLt_bf16_f32)
    (padded f5)
    (pair (lowB f6))
    (pair (lowT f6))
    (spread f7)

set_option maxHeartbeats 4000000 in
/-- The kernel's body, from its operands, results, scratch buffers and semaphores held: it ends with the operands as they were, the results at their values. -/
theorem kernelRun (c : Dev nD)
    (f0 : Bf (F := F) c (Memref.whole main_arg0))
    (f1 : Bf (F := F) c (Memref.whole main_arg1))
    (f2 : Bf (F := F) c (Memref.whole main_v0))
    (f3 : Bf (F := F) c (Memref.whole main_v1))
    (f4 : Bf (F := F) c (Memref.whole main_arg4))
    (f5 : Bf (F := F) c (Memref.whole main_arg5))
    (f6 : Bf (F := F) c (Memref.whole main_arg6))
    (f7 : Bf (F := F) c (Memref.whole main_arg7))
    (o0 : Bf (F := F) c (Memref.whole main_v2_0))
    (o1 : Bf (F := F) c (Memref.whole main_v2_1))
    (o2 : Bf (F := F) c (Memref.whole main_v2_2))
    (o3 : Bf (F := F) c (Memref.whole main_v2_3))
    (o4 : Bf (F := F) c (Memref.whole main_v2_4))
    (o5 : Bf (F := F) c (Memref.whole main_v2_5))
    (o6 : Bf (F := F) c (Memref.whole main_v2_6))
    (o7 : Bf (F := F) c (Memref.whole main_v2_7))
    (o8 : Bf (F := F) c (Memref.whole main_v2_8))
    (W : Waits sig Unit) (Q : PUnit → sProp 𝕄) :
    iprop(inp c f0 f1 f2 f3 f4 f5 f6 f7 ∗ out c o0 o1 o2 o3 o4 o5 o6 o7 o8 ∗ scr c ∗ sems0 c ∗ owes (c : Thread nD τ) 0 W
      ∗ (iprop(inp c f0 f1 f2 f3 f4 f5 f6 f7 ∗ res c f0 f1 f2 f3 f4 f5 f6 f7 ∗ scr c ∗ sems0 c ∗ ∃ W, owes (c : Thread nD τ) 0 W) -∗ Q ⟨⟩))
    ⊢ wp frame (wpE (defs₀ (F := F)) Variants.none c none) Set.univ (bodyAt0 t0_0) Q := by
  iintro ⟨⟨HI0, HI1, HI2, HI3, HI4, HI5, HI6, HI7⟩, ⟨HO0, HO1, HO2, HO3, HO4, HO5, HO6, HO7, HO8⟩, ⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s15, HS15⟩, ⟨%s16, HS16⟩⟩, ⟨Hd0, Hd1, Hd2, Hd3, Hd4, Hd5, Hd6, Hd7, Hd8, Hd9, Hd10, Hd11, Hd12, Hd13, Hd14, Hd15, Hd16⟩, HW, Hk⟩
  sl_exec!
  sl_step
  iapply Hk
  isplitl [HI0 HI1 HI2 HI3 HI4 HI5 HI6 HI7]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    iexact HI7
  isplitl [HO0 HO1 HO2 HO3 HO4 HO5 HO6 HO7 HO8]
  · isplitl [HO0]; · iapply (ptOfEq c (Memref.whole main_v2_0) (show View.write (Elt F) (Memref.whole main_v2_0).view o0 (kernelRun.sl.dma63 c f0 s0 s8) Finset.univ = (truncf .bf16 (transpose S256x1024 [1, 0] f0 transposes_S1024x256_p1_0_S256x1024) bitsLt_bf16_f32) from by
        refine (View.write_whole_univ main_v2_0 _ _).trans ?_
        unfold kernelRun.sl.dma63 kernelRun.sl.HS8_1
        refine (stored (b := cc0_scratch8) (off := ![0, 0]) zeros s8 inb_S256x1024_S256x1024_0_0 _).trans ?_
        refine (shapeCast_self _ _).trans ?_
        exact congrArg (fun z => truncf .bf16 (transpose S256x1024 [1, 0] z transposes_S1024x256_p1_0_S256x1024) bitsLt_bf16_f32) (loaded (b := cc0_scratch0) (off := ![0, 0]) zeros s0 f0 inb_S1024x256_S1024x256_0_0))); iexact HO0
    isplitl [HO1]; · iapply (ptOfEq c (Memref.whole main_v2_1) (show View.write (Elt F) (Memref.whole main_v2_1).view o1 (kernelRun.sl.dma63_1 c f1 s1 s9) Finset.univ = (truncf .bf16 f1 bitsLt_bf16_f32) from by
        refine (View.write_whole_univ main_v2_1 _ _).trans ?_
        unfold kernelRun.sl.dma63_1 kernelRun.sl.HS9_1
        refine (stored (b := cc0_scratch9) (off := ![0, 0]) zeros s9 inb_S128x1024_S128x1024_0_0 _).trans ?_
        refine (shapeCast_self _ _).trans ?_
        exact congrArg (fun z => truncf .bf16 z bitsLt_bf16_f32) (loaded (b := cc0_scratch1) (off := ![0, 0]) zeros s1 f1 inb_S128x1024_S128x1024_0_0))); iexact HO1
    isplitl [HO2]; · iapply (ptOfEq c (Memref.whole main_v2_2) (show View.write (Elt F) (Memref.whole main_v2_2).view o2 (kernelRun.sl.dma63_2 c f2 s2 s10) Finset.univ = (truncf .bf16 f2 bitsLt_bf16_f32) from by
        refine (View.write_whole_univ main_v2_2 _ _).trans ?_
        unfold kernelRun.sl.dma63_2 kernelRun.sl.HS10_1
        refine (stored (b := cc0_scratch10) (off := ![0, 0]) zeros s10 inb_S352x1024_S352x1024_0_0 _).trans ?_
        refine (shapeCast_self _ _).trans ?_
        exact congrArg (fun z => truncf .bf16 z bitsLt_bf16_f32) (loaded (b := cc0_scratch2) (off := ![0, 0]) zeros s2 f2 inb_S352x1024_S352x1024_0_0))); iexact HO2
    isplitl [HO3]; · iapply (ptOfEq c (Memref.whole main_v2_3) (show View.write (Elt F) (Memref.whole main_v2_3).view o3 (kernelRun.sl.dma63_3 c f3 s3 s11) Finset.univ = (truncf .bf16 f3 bitsLt_bf16_f32) from by
        refine (View.write_whole_univ main_v2_3 _ _).trans ?_
        unfold kernelRun.sl.dma63_3 kernelRun.sl.HS11_1
        refine (stored (b := cc0_scratch11) (off := ![0, 0]) zeros s11 inb_S352x1024_S352x1024_0_0 _).trans ?_
        refine (shapeCast_self _ _).trans ?_
        exact congrArg (fun z => truncf .bf16 z bitsLt_bf16_f32) (loaded (b := cc0_scratch3) (off := ![0, 0]) zeros s3 f3 inb_S352x1024_S352x1024_0_0))); iexact HO3
    isplitl [HO4]; · iapply (ptOfEq c (Memref.whole main_v2_4) (show View.write (Elt F) (Memref.whole main_v2_4).view o4 (kernelRun.sl.dma63_4 c f4 s4 s12) Finset.univ = (truncf .bf16 f4 bitsLt_bf16_f32) from by
        refine (View.write_whole_univ main_v2_4 _ _).trans ?_
        unfold kernelRun.sl.dma63_4 kernelRun.sl.HS12_1
        refine (stored (b := cc0_scratch12) (off := ![0, 0]) zeros s12 inb_S352x1024_S352x1024_0_0 _).trans ?_
        refine (shapeCast_self _ _).trans ?_
        exact congrArg (fun z => truncf .bf16 z bitsLt_bf16_f32) (loaded (b := cc0_scratch4) (off := ![0, 0]) zeros s4 f4 inb_S352x1024_S352x1024_0_0))); iexact HO4
    isplitl [HO5]; · iapply (ptOfEq c (Memref.whole main_v2_5) (show View.write (Elt F) (Memref.whole main_v2_5).view o5 (kernelRun.sl.dma63_5 c f5 s5 s13) Finset.univ = (padded f5) from by
        refine (View.write_whole_univ main_v2_5 _ _).trans ?_
        unfold kernelRun.sl.dma63_5 kernelRun.sl.HS13_2
        unfold kernelRun.sl.HS13_1
        exact corner (Memref.whole cc0_scratch13).view s13 ((shapeCast_self _ _).trans (loaded (b := cc0_scratch5) (off := ![0, 0]) zeros s5 f5 inb_S31x64_S31x64_0_0)) (shapeCast_self _ _))); iexact HO5
    isplitl [HO6]; · iapply (ptOfEq c (Memref.whole main_v2_6) (show View.write (Elt F) (Memref.whole main_v2_6).view o6 (kernelRun.sl.dma63_6 c f6 s6 s14) Finset.univ = (pair (lowB f6)) from by
        refine (View.write_whole_univ main_v2_6 _ _).trans ?_
        unfold kernelRun.sl.dma63_6 kernelRun.sl.HS14_8
        exact tiles (Memref.whole cc0_scratch14).view s14 (lowB f6)
          (storedB (View.write_whole_univ cc0_scratch6 s6 f6) 0 (by decide) inb_S8x128x128_S1x128x128_0_0_0)
          (storedB (View.write_whole_univ cc0_scratch6 s6 f6) 1 (by decide) inb_S8x128x128_S1x128x128_1_0_0)
          (storedB (View.write_whole_univ cc0_scratch6 s6 f6) 2 (by decide) inb_S8x128x128_S1x128x128_2_0_0)
          (storedB (View.write_whole_univ cc0_scratch6 s6 f6) 3 (by decide) inb_S8x128x128_S1x128x128_3_0_0)
          (storedB (View.write_whole_univ cc0_scratch6 s6 f6) 4 (by decide) inb_S8x128x128_S1x128x128_4_0_0)
          (storedB (View.write_whole_univ cc0_scratch6 s6 f6) 5 (by decide) inb_S8x128x128_S1x128x128_5_0_0)
          (storedB (View.write_whole_univ cc0_scratch6 s6 f6) 6 (by decide) inb_S8x128x128_S1x128x128_6_0_0)
          (storedB (View.write_whole_univ cc0_scratch6 s6 f6) 7 (by decide) inb_S8x128x128_S1x128x128_7_0_0))); iexact HO6
    isplitl [HO7]; · iapply (ptOfEq c (Memref.whole main_v2_7) (show View.write (Elt F) (Memref.whole main_v2_7).view o7 (kernelRun.sl.dma63_7 c f6 s6 s15) Finset.univ = (pair (lowT f6)) from by
        refine (View.write_whole_univ main_v2_7 _ _).trans ?_
        unfold kernelRun.sl.dma63_7 kernelRun.sl.HS15_8
        exact tiles (Memref.whole cc0_scratch15).view s15 (lowT f6)
          (storedT (View.write_whole_univ cc0_scratch6 s6 f6) 0 (by decide) inb_S8x128x128_S1x128x128_0_0_0)
          (storedT (View.write_whole_univ cc0_scratch6 s6 f6) 1 (by decide) inb_S8x128x128_S1x128x128_1_0_0)
          (storedT (View.write_whole_univ cc0_scratch6 s6 f6) 2 (by decide) inb_S8x128x128_S1x128x128_2_0_0)
          (storedT (View.write_whole_univ cc0_scratch6 s6 f6) 3 (by decide) inb_S8x128x128_S1x128x128_3_0_0)
          (storedT (View.write_whole_univ cc0_scratch6 s6 f6) 4 (by decide) inb_S8x128x128_S1x128x128_4_0_0)
          (storedT (View.write_whole_univ cc0_scratch6 s6 f6) 5 (by decide) inb_S8x128x128_S1x128x128_5_0_0)
          (storedT (View.write_whole_univ cc0_scratch6 s6 f6) 6 (by decide) inb_S8x128x128_S1x128x128_6_0_0)
          (storedT (View.write_whole_univ cc0_scratch6 s6 f6) 7 (by decide) inb_S8x128x128_S1x128x128_7_0_0))); iexact HO7
    iapply (ptOfEq c (Memref.whole main_v2_8) (show View.write (Elt F) (Memref.whole main_v2_8).view o8 (kernelRun.sl.dma63_8 c f7 s7 s16) Finset.univ = (spread f7) from by
        refine (View.write_whole_univ main_v2_8 _ _).trans ?_
        unfold kernelRun.sl.dma63_8 kernelRun.sl.HS16_1
        refine (stored (b := cc0_scratch16) (off := ![0, 0]) zeros s16 inb_S128x512_S128x512_0_0 _).trans ?_
        refine (shapeCast_self _ _).trans ?_
        exact congrArg spread (loaded (b := cc0_scratch7) (off := ![0, 0]) zeros s7 f7 inb_S8x128_S8x128_0_0))); iexact HO8
  isplitl [HS0 HS1 HS2 HS3 HS4 HS5 HS6 HS7 HS8 HS9 HS10 HS11 HS12 HS13 HS14 HS15 HS16]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    isplitl [HS15]; · iexists _; iexact HS15
    iexists _; iexact HS16
  isplitl [Hd0 Hd1 Hd2 Hd3 Hd4 Hd5 Hd6 Hd7 Hd8 Hd9 Hd10 Hd11 Hd12 Hd13 Hd14 Hd15 Hd16]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    iexact Hd16
  iexists _; iexact HW

end Cert.Kernel8Ideal.Body

end

end
-- ==== Proof.PrepRun.lean ====
module

public import proofs.«01_k».proof.Proof.PrepBody
public import Idealize.ShloMosaic.Lib.Pipeline.Frame

@[expose] public section

noncomputable section

namespace Cert.Kernel8Ideal.Body

open Cert.Kernel8Ideal Cert.Kernel8Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline's algebra is the left component. -/
abbrev EP : Emb (UR sig nD τ) (MT nD τ sig Unit (Elt F) ℕ (UU nD τ) ℕ) := embL

variable (m : (ℓ : Loc nD τ sig) → Buf (Elt F) ℓ) (ρ : Dev nD → PrngReg)

/-- The arguments that the kernel does not take itself. -/
abbrev others (c : Dev nD) : sProp 𝕄 :=
  iprop(pt c (Memref.whole main_arg2) (V m c main_arg2) ∗ pt c (Memref.whole main_arg3) (V m c main_arg3))

/-- What is held outside the scoped buffers before the kernel. -/
abbrev before (c : Dev nD) : sProp 𝕄 :=
  iprop(inp c (V m c main_arg0) (V m c main_arg1) (V m c main_v0) (V m c main_v1) (V m c main_arg4) (V m c main_arg5) (V m c main_arg6) (V m c main_arg7)
    ∗ out c (V m c main_v2_0) (V m c main_v2_1) (V m c main_v2_2) (V m c main_v2_3) (V m c main_v2_4) (V m c main_v2_5) (V m c main_v2_6) (V m c main_v2_7) (V m c main_v2_8)
    ∗ others m c)

/-- What is held there after it. -/
abbrev after (c : Dev nD) : sProp 𝕄 :=
  iprop(inp c (V m c main_arg0) (V m c main_arg1) (V m c main_v0) (V m c main_v1) (V m c main_arg4) (V m c main_arg5) (V m c main_arg6) (V m c main_arg7)
    ∗ res c (V m c main_arg0) (V m c main_arg1) (V m c main_v0) (V m c main_v1) (V m c main_arg4) (V m c main_arg5) (V m c main_arg6) (V m c main_arg7)
    ∗ others m c)

set_option maxHeartbeats 4000000 in
/-- The buffers that are neither scoped nor a window's array, listed. -/
theorem rest_eq (c : Dev nD) (X : (b : Ref sig .tc) → Buf (Elt F) ((c : Thread nD τ).loc b)) :
    (Pipeline.unscopedRest (Ix := Unit) (Name := ℕ) (U := UU nD τ) (Lvl := ℕ) (cfg0.spec) c X : sProp 𝕄)
      = iprop(pt c (Memref.whole main_arg0) (X main_arg0) ∗ pt c (Memref.whole main_arg1) (X main_arg1) ∗ pt c (Memref.whole main_v0) (X main_v0) ∗ pt c (Memref.whole main_v1) (X main_v1)
      ∗ pt c (Memref.whole main_arg4) (X main_arg4) ∗ pt c (Memref.whole main_arg5) (X main_arg5) ∗ pt c (Memref.whole main_arg6) (X main_arg6) ∗ pt c (Memref.whole main_arg7) (X main_arg7)
      ∗ pt c (Memref.whole main_v2_0) (X main_v2_0) ∗ pt c (Memref.whole main_v2_1) (X main_v2_1) ∗ pt c (Memref.whole main_v2_2) (X main_v2_2) ∗ pt c (Memref.whole main_v2_3) (X main_v2_3)
      ∗ pt c (Memref.whole main_v2_4) (X main_v2_4) ∗ pt c (Memref.whole main_v2_5) (X main_v2_5) ∗ pt c (Memref.whole main_v2_6) (X main_v2_6) ∗ pt c (Memref.whole main_v2_7) (X main_v2_7)
      ∗ pt c (Memref.whole main_v2_8) (X main_v2_8) ∗ pt c (Memref.whole main_arg2) (X main_arg2) ∗ pt c (Memref.whole main_arg3) (X main_arg3)) :=
  Pipeline.unscopedRest_eq_of_list (cfg0.spec) c X
    [main_arg0, main_arg1, main_v0, main_v1, main_arg4, main_arg5, main_arg6, main_arg7, main_v2_0, main_v2_1, main_v2_2, main_v2_3, main_v2_4, main_v2_5, main_v2_6, main_v2_7, main_v2_8, main_arg2, main_arg3]
    (by decide) (by decide)

/-- The kernel's semaphores at zero, listed. -/
theorem sems_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15, 16] (by decide) (by decide)

/-- What holds at the region's two ends. -/
def Φc (c : Dev nD) : ℕ → sProp 𝕄
  | 0 => iprop(before m c ∗ sems0 c ∗ scr c)
  | _ + 1 => iprop(after m c ∗ sems0 c ∗ scr c)

/-- The proof data: no window; nothing owed. -/
def dats (_ : Fin 1) (c : Dev nD) : Dat τ (Elt F) Unit ℕ (UU nD τ) ℕ cfg0 c where
  A w := w.elim0
  after w := w.elim0
  Φ t := Φc m c t.val
  q _ := fullShare
  owed _ := 0

set_option maxHeartbeats 4000000 in
/-- The body's obligation. -/
theorem body_obligation (c : Dev nD) : BodyObligation (dats m 0 c) (defs₀ (F := F)) Variants.none () Set.univ := fun t => by
  obtain rfl := fin_N0 t
  have e0 : ∀ Φ : Fin cfg0.W → sProp 𝕄, (BI.emp : sProp 𝕄) ⊢ bigSep Finset.univ Φ := fun Φ => by
    rw [show (Finset.univ : Finset (Fin cfg0.W)) = ∅ from rfl, BI.bigSep_empty]
  rw [show (dats m 0 c).Φ t0_0.castSucc = iprop(before m c ∗ sems0 c ∗ scr c) from rfl,
    show (dats m 0 c).Φ t0_0.succ = iprop(after m c ∗ sems0 c ∗ scr c) from rfl]
  unfold Dat.owesAt Pipeline.owesWithin
  rw [show (dats m 0 c).owed t0_0.castSucc = 0 from rfl, show (dats m 0 c).owed t0_0.succ = 0 from rfl]
  iintro ⟨⟨⟨HI, HO, HR⟩, Hd, HS⟩, ⟨%W, %hW, HW⟩, -⟩
  iapply (kernelRun c (V m c main_arg0) (V m c main_arg1) (V m c main_v0) (V m c main_v1) (V m c main_arg4) (V m c main_arg5) (V m c main_arg6) (V m c main_arg7)
    (V m c main_v2_0) (V m c main_v2_1) (V m c main_v2_2) (V m c main_v2_3) (V m c main_v2_4) (V m c main_v2_5) (V m c main_v2_6) (V m c main_v2_7) (V m c main_v2_8) W)
  isplitl [HI]; · iexact HI
  isplitl [HO]; · iexact HO
  isplitl [HS]; · iexact HS
  isplitl [Hd]; · iexact Hd
  isplitl [HW]; · iexact HW
  iintro ⟨HI, HO, HS, Hd, ⟨%W', HW⟩⟩
  isplitl [HI HO HR Hd HS]
  · isplitl [HI HO HR]
    · isplitl [HI]; · iexact HI
      isplitl [HO]; · iexact HO
      iexact HR
    isplitl [Hd]; · iexact Hd
    iexact HS
  isplitl [HW]
  · iexists W'; isplitr; · ipureintro; exact fun _ _ => Or.inl trivial
    iexact HW
  iapply (e0 _)
  iempintro

/-- The kernel's semaphores are its own. -/
theorem ownSemFacts : Pipeline.OwnSemFacts (cfg0.spec) osem := by decide

/-- The algebra at launch. -/
def u₀ : UU nD τ := (initOf (Pipeline.cells cfgs cellOf_inj) (Pipeline.launchToks cfgs cellOf_inj), 1)

/-- What a core's memory holds at the end. -/
def QY (c : Dev nD) (s : MemSt nD τ sig (Elt F)) : Prop :=
  s.mem ((c.tc : Thread nD τ).loc main_v2_0) = (truncf .bf16 (transpose S256x1024 [1, 0] (V m c main_arg0) transposes_S1024x256_p1_0_S256x1024) bitsLt_bf16_f32)
    ∧ s.mem ((c.tc : Thread nD τ).loc main_v2_1) = (truncf .bf16 (V m c main_arg1) bitsLt_bf16_f32)
    ∧ s.mem ((c.tc : Thread nD τ).loc main_v2_2) = (truncf .bf16 (V m c main_v0) bitsLt_bf16_f32)
    ∧ s.mem ((c.tc : Thread nD τ).loc main_v2_3) = (truncf .bf16 (V m c main_v1) bitsLt_bf16_f32)
    ∧ s.mem ((c.tc : Thread nD τ).loc main_v2_4) = (truncf .bf16 (V m c main_arg4) bitsLt_bf16_f32)
    ∧ s.mem ((c.tc : Thread nD τ).loc main_v2_5) = (padded (V m c main_arg5))
    ∧ s.mem ((c.tc : Thread nD τ).loc main_v2_6) = (pair (lowB (V m c main_arg6)))
    ∧ s.mem ((c.tc : Thread nD τ).loc main_v2_7) = (pair (lowT (V m c main_arg6)))
    ∧ s.mem ((c.tc : Thread nD τ).loc main_v2_8) = (spread (V m c main_arg7))
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)

set_option maxHeartbeats 4000000 in
/-- The launch hands the region what it starts from. -/
theorem hX (c : Dev nD) : iprop(Pipeline.unscopedRest (Ix := Unit) (Name := ℕ) (U := UU nD τ) (Lvl := ℕ) (cfg0.spec) c (V m c)) ⊢ before m c := by
  rw [rest_eq]
  iintro ⟨HI0, HI1, HI2, HI3, HI4, HI5, HI6, HI7, HO0, HO1, HO2, HO3, HO4, HO5, HO6, HO7, HO8, HR0, HR1⟩
  isplitl [HI0 HI1 HI2 HI3 HI4 HI5 HI6 HI7]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    iexact HI7
  isplitl [HO0 HO1 HO2 HO3 HO4 HO5 HO6 HO7 HO8]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    iexact HO8
  isplitl [HR0]; · iexact HR0
  iexact HR1

set_option maxHeartbeats 4000000 in
/-- What is held at the end is read off the memory. -/
theorem hY (c : Dev nD) (s' : Phys nD τ sig (Elt F)) :
    iprop(after m c ∗ SI (Ix := Unit) (Name := ℕ) (U := UU nD τ) (Lvl := ℕ) s') ⊢ |={Set.univ}=> iprop(⌜QY m c s'.mem⌝ ∗ SI (Ix := Unit) (Name := ℕ) (U := UU nD τ) (Lvl := ℕ) s') := by
  iintro ⟨⟨⟨HI0, HI1, HI2, HI3, HI4, HI5, HI6, HI7⟩, ⟨HO0, HO1, HO2, HO3, HO4, HO5, HO6, HO7, HO8⟩, ⟨HR0, HR1⟩⟩, HSI⟩
  icombine HSI HO0 gives %h_main_v2_0
  icombine HSI HO1 gives %h_main_v2_1
  icombine HSI HO2 gives %h_main_v2_2
  icombine HSI HO3 gives %h_main_v2_3
  icombine HSI HO4 gives %h_main_v2_4
  icombine HSI HO5 gives %h_main_v2_5
  icombine HSI HO6 gives %h_main_v2_6
  icombine HSI HO7 gives %h_main_v2_7
  icombine HSI HO8 gives %h_main_v2_8
  icombine HSI HI0 gives %h_main_arg0
  icombine HSI HI1 gives %h_main_arg1
  icombine HSI HR0 gives %h_main_arg2
  icombine HSI HR1 gives %h_main_arg3
  icombine HSI HI4 gives %h_main_arg4
  icombine HSI HI5 gives %h_main_arg5
  icombine HSI HI6 gives %h_main_arg6
  icombine HSI HI7 gives %h_main_arg7
  imodintro
  isplitr
  · ipureintro
    exact ⟨Buf.eq_of_forall_mem_univ h_main_v2_0,
      Buf.eq_of_forall_mem_univ h_main_v2_1,
      Buf.eq_of_forall_mem_univ h_main_v2_2,
      Buf.eq_of_forall_mem_univ h_main_v2_3,
      Buf.eq_of_forall_mem_univ h_main_v2_4,
      Buf.eq_of_forall_mem_univ h_main_v2_5,
      Buf.eq_of_forall_mem_univ h_main_v2_6,
      Buf.eq_of_forall_mem_univ h_main_v2_7,
      Buf.eq_of_forall_mem_univ h_main_v2_8,
      (Buf.eq_of_forall_mem_univ h_main_arg0).trans (V_main_arg0 m c),
      (Buf.eq_of_forall_mem_univ h_main_arg1).trans (V_main_arg1 m c),
      (Buf.eq_of_forall_mem_univ h_main_arg2).trans (V_main_arg2 m c),
      (Buf.eq_of_forall_mem_univ h_main_arg3).trans (V_main_arg3 m c),
      (Buf.eq_of_forall_mem_univ h_main_arg4).trans (V_main_arg4 m c),
      (Buf.eq_of_forall_mem_univ h_main_arg5).trans (V_main_arg5 m c),
      (Buf.eq_of_forall_mem_univ h_main_arg6).trans (V_main_arg6 m c),
      (Buf.eq_of_forall_mem_univ h_main_arg7).trans (V_main_arg7 m c)⟩
  iexact HSI

set_option backward.isDefEq.respectTransparency.types false in
/-- The call's run, from any memory with every counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ Variants.none m ρ main
    (hbody := fun c => (body_obligation m c).loose) (hshare := fun _ w => w.elim0) (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := fun _ w => w.elim0)
    (X := fun c => iprop(before m c ∗ sems0 c)) (Y := fun c => after m c) (Z := fun _ => iprop(emp))
    (hX := fun c => by
      rw [sems_eq]
      iintro ⟨HR, Hd, -, -, -⟩
      imodintro
      isplitl [HR Hd]
      · isplitl [HR]; · iapply (hX m c); iexact HR
        iexact Hd
      iempintro)
    (hin := fun c => by
      rw [show (dats m 0 c).Φ 0 = iprop(before m c ∗ sems0 c ∗ scr c) from rfl, ← scr_eq]
      iintro ⟨⟨HB, Hd⟩, HS⟩
      isplitl [HB]; · iexact HB
      isplitl [Hd]; · iexact Hd
      iexact HS)
    (hout := fun c => by
      rw [sems_eq, show (dats m 0 c).Φ (Fin.last cfg0.N) = iprop(after m c ∗ sems0 c ∗ scr c) from rfl, ← scr_eq])
    (QY := QY m)
    (hY := fun c s' => by
      iintro ⟨HA, -, HSI⟩
      iapply (hY m c s')
      isplitl [HA]; · iexact HA
      iexact HSI)
    (hQ := fun _ h hz => ⟨fun c => (h c).2, hz⟩)

end Cert.Kernel8Ideal.Body

end

end
-- ==== Proof.PrepCall.lean ====
module

public import proofs.«01_k».proof.Defs
public import proofs.«01_k».proof.Proof.PrepRun
public import proofs.«01_k».proof.Proof.Gen.Reference8Ideal.Read
public import proofs.«01_k».proof.Proof.Gen.Reference8Ideal.Run
public import Idealize.ShloMosaic.Lib.Claim
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Val

open Idealize.ShloMosaic Idealize.ShloMosaic.TcCoe Idealize.SL.Sem
open Cert.Kernel8Ideal Cert.Kernel8Ideal.Gen Cert.Kernel8Ideal.Body
open Cert.Reference8Ideal.Read

variable (m : (ℓ : Loc nD τ sig) → Buf (Elt Ideal) ℓ)

/-- A matrix with its axes exchanged. -/
def flip (x : Vec Ideal S1024x352 .f32) : FVec Ideal S352x1024 .f32 := fun y => x (idx_main_v10 y)

/-- Choosing true or false by a condition is the condition. -/
theorem choose : ∀ b : BitVec 1, Scalar.select b 1#1 0#1 = b := by decide

/-- The reference's lower triangle of a head is the kernel's. -/
theorem tri (x : Vec Ideal S8x128x128 .f32) (i : S8x128x128.Idx) : val_main_v2 (F := Ideal) x i = low x (i 0) (ix2 (i 1) (i 2)) := by
  rw [val_main_v2_apply, val_main_call1_v1_apply, val_main_v1_apply, val_main_call0_v4_apply, val_main_call0_v2_apply, val_main_call0_v0_apply,
    val_main_call0_v1_apply, val_main_call0_c_apply, val_main_call0_v3_apply, val_main_v0_apply, val_main_call0_v5_apply, val_main_call0_c_0_apply,
    val_main_call1_v2_apply, val_main_call1_v0_apply, val_main_cst_apply]
  rw [show (val_main_c (F := Ideal) _) = 1#1 from rfl, choose]
  rw [show ∀ b : BitVec 32, IntOp.addi b 0#32 = b from fun b => BitVec.add_zero b]
  unfold low lowMask
  show _ = Scalar.select (IntOp.cmpi .sge (iota .tc S128x128 32 [0] iota_S128x128_d0_w32 (ix2 (i 1) (i 2))) (iota .tc S128x128 32 [1] iota_S128x128_d1_w32 (ix2 (i 1) (i 2))))
    (x (ix3 (i 0) (i 1) (i 2))) (Scalar.ofBits .f32 0x00000000#32 : Ideal .f32)
  rw [iota_single_apply, iota_single_apply]
  refine congrArg (fun z => Scalar.select _ z _) (congrArg x (funext fun a => ?_))
  match a with
  | ⟨0, _⟩ => rfl
  | ⟨1, _⟩ => rfl
  | ⟨2, _⟩ => rfl

/-- The pairs of heads: where an entry comes from. -/
theorem fromPair (y : S4x128x256.Idx) :
    (idx_main_v16 (idx_main_v17 (idx_main_v18 y)) 0).val = 2 * (y 0).val + (y 2).val / 128
      ∧ (idx_main_v16 (idx_main_v17 (idx_main_v18 y)) 1).val = (y 1).val
      ∧ (idx_main_v16 (idx_main_v17 (idx_main_v18 y)) 2).val = (y 2).val % 128 := by
  have l0 : (y 0).val < 4 := (y 0).isLt
  have l1 : (y 1).val < 128 := (y 1).isLt
  have l2 : (y 2).val < 256 := (y 2).isLt
  have a0 : (((y 0).val * 128 + (y 1).val) * 256 + (y 2).val) / 32768 = (y 0).val := by omega
  have a1 : (((y 0).val * 128 + (y 1).val) * 256 + (y 2).val) / 256 % 128 = (y 1).val := by omega
  have a2 : (((y 0).val * 128 + (y 1).val) * 256 + (y 2).val) / 128 % 2 = (y 2).val / 128 := by omega
  have a3 : (((y 0).val * 128 + (y 1).val) * 256 + (y 2).val) % 128 = (y 2).val % 128 := by omega
  refine ⟨?_, ?_, ?_⟩
  · show ((((((y 0).val * 128 + (y 1).val) * 256 + (y 2).val) / 32768 * 2 + (((y 0).val * 128 + (y 1).val) * 256 + (y 2).val) / 128 % 2) * 128 + (((y 0).val * 128 + (y 1).val) * 256 + (y 2).val) / 256 % 128) * 128 + (((y 0).val * 128 + (y 1).val) * 256 + (y 2).val) % 128) / 16384 = _
    rw [a0, a1, a2, a3]
    omega
  · show ((((((y 0).val * 128 + (y 1).val) * 256 + (y 2).val) / 32768 * 2 + (((y 0).val * 128 + (y 1).val) * 256 + (y 2).val) / 128 % 2) * 128 + (((y 0).val * 128 + (y 1).val) * 256 + (y 2).val) / 256 % 128) * 128 + (((y 0).val * 128 + (y 1).val) * 256 + (y 2).val) % 128) / 128 % 128 = _
    rw [a0, a1, a2, a3]
    omega
  · show ((((((y 0).val * 128 + (y 1).val) * 256 + (y 2).val) / 32768 * 2 + (((y 0).val * 128 + (y 1).val) * 256 + (y 2).val) / 128 % 2) * 128 + (((y 0).val * 128 + (y 1).val) * 256 + (y 2).val) / 256 % 128) * 128 + (((y 0).val * 128 + (y 1).val) * 256 + (y 2).val) % 128) % 128 = _
    rw [a0, a1, a2, a3]
    omega

/-- The reference's pairs of lower triangles are the kernel's. -/
theorem pairs (x : Vec Ideal S8x128x128 .f32) : val_main_v19 (F := Ideal) x = pair (lowB x) := by
  funext y
  obtain ⟨h0, h1, h2⟩ := fromPair y
  rw [val_main_v19_apply, val_main_v18_apply, val_main_v17_apply, val_main_v16_apply, tri]
  refine congrArg (FloatOps.truncf .bf16 bitsLt_bf16_f32) (congrArg₂ (low x) (Fin.ext h0) (funext fun a => Fin.ext ?_))
  match a with
  | ⟨0, _⟩ => exact h1
  | ⟨1, _⟩ => exact h2

/-- The reference's pairs of transposed lower triangles are the kernel's. -/
theorem pairsT (x : Vec Ideal S8x128x128 .f32) : val_main_v24 (F := Ideal) x = pair (lowT x) := by
  funext y
  obtain ⟨h0, h1, h2⟩ := fromPair y
  rw [val_main_v24_apply, val_main_v23_apply, val_main_v22_apply, val_main_v21_apply, val_main_v20_apply, tri]
  refine congrArg (FloatOps.truncf .bf16 bitsLt_bf16_f32) ?_
  refine Eq.trans ?_ (transpose_apply [1, 0] (low x _) transposes_S128x128_p1_0_S128x128 _ (ix2 ⟨(y 2).val % 128, Nat.mod_lt _ (by decide)⟩ (y 1)) (fun b => match b with
    | ⟨0, _⟩ => rfl
    | ⟨1, _⟩ => rfl)).symm
  refine congrArg₂ (low x) (Fin.ext h0) (funext fun a => Fin.ext ?_)
  match a with
  | ⟨0, _⟩ => exact h2
  | ⟨1, _⟩ => exact h1

/-- The reference's padding is the kernel's. -/
theorem padding (x : Vec Ideal S31x64 .f32) : val_main_v15 (F := Ideal) x = padded x := by
  funext y
  have z : (val_main_call2_v0 (F := Ideal) (Shape.Idx.first Cert.Reference8Ideal.Gen.h_S_) : EReal) = Ideal.ofBits .f32 0x00000000#32 := by
    rw [Ideal.ofBits_zero_f32]
    show (((0#32 : BitVec 32).toInt : ℝ) : EReal) = 0
    simp
  unfold val_main_v15 padded
  by_cases h : (y 0).val < 31 ∧ (y 1).val < 64
  · rw [dif_pos h]
    refine pad_apply_of_inside _ _ _ x _ _ _ y (ix2 ⟨(y 0).val, h.1⟩ ⟨(y 1).val, h.2⟩) fun a => ?_
    match a with
    | ⟨0, _⟩ => show (y 0).val = 0 + (y 0).val * (0 + 1); omega
    | ⟨1, _⟩ => show (y 1).val = 0 + (y 1).val * (0 + 1); omega
  · rw [dif_neg h]
    by_cases h0 : (y 0).val < 31
    · refine (pad_apply_of_not_inside _ _ _ x _ _ _ y 1 fun k => h ⟨h0, ?_⟩).trans z
      have k2 : ((y 1).val - 0) / (0 + 1) < 64 := k.2.2
      omega
    · refine (pad_apply_of_not_inside _ _ _ x _ _ _ y 0 fun k => h0 ?_).trans z
      have k2 : ((y 0).val - 0) / (0 + 1) < 31 := k.2.2
      omega

/-- The channel's head, told by the integers. -/
theorem headBits : ∀ (h : Fin 8) (l : Fin 512),
    IntOp.andi (IntOp.cmpi .sge (BitVec.ofNat 32 l.val) (IntOp.muli (BitVec.ofNat 32 h.val) 64#32))
      (IntOp.cmpi .slt (BitVec.ofNat 32 l.val) (IntOp.muli (IntOp.addi (BitVec.ofNat 32 h.val) 1#32) 64#32)) = if l.val / 64 = h.val then 1#1 else 0#1 := by
  decide +kernel

/-- A one where the channel is the head's, a zero elsewhere. -/
theorem heads_apply (h : Fin 8) (l : Fin 512) : (heads (F := Ideal) (ix2 h l) : EReal) = if l.val / 64 = h.val then 1 else 0 := by
  unfold heads
  show ((((IntOp.andi
    (IntOp.cmpi .sge (iota .tc S8x512 32 [1] iota_S8x512_d1_w32 (ix2 h l)) (IntOp.muli (iota .tc S8x512 32 [0] iota_S8x512_d0_w32 (ix2 h l)) 64#32))
    (IntOp.cmpi .slt (iota .tc S8x512 32 [1] iota_S8x512_d1_w32 (ix2 h l))
      (IntOp.muli (IntOp.addi (iota .tc S8x512 32 [0] iota_S8x512_d0_w32 (ix2 h l)) 1#32) 64#32))).setWidth 32).toInt : ℝ) : EReal) = _
  rw [iota_single_apply, iota_single_apply]
  show (((BitVec.setWidth 32 (IntOp.andi (IntOp.cmpi .sge (BitVec.ofNat 32 l.val) (IntOp.muli (BitVec.ofNat 32 h.val) 64#32))
      (IntOp.cmpi .slt (BitVec.ofNat 32 l.val) (IntOp.muli (IntOp.addi (BitVec.ofNat 32 h.val) 1#32) 64#32)))).toInt : ℝ) : EReal) = _
  rw [headBits h l]
  split <;> simp

/-- The kernel's product with the heads' channels, as a sum. -/
theorem spread_sum (b : Vec Ideal S8x128 .f32) (y : S128x512.Idx) :
    spread (F := Ideal) b y = ∑ h : Fin 8, (b (ix2 h (y 0)) : EReal) * (heads (F := Ideal) (ix2 h (y 1)) : EReal) := by
  pointwise [spread]

/-- Each channel has its head's bias. -/
theorem spread_apply (b : Vec Ideal S8x128 .f32) (y : S128x512.Idx) :
    spread (F := Ideal) b y = b (ix2 ⟨(y 1).val / 64, by have : (y 1).val < 512 := (y 1).isLt; omega⟩ (y 0)) := by
  have l1 : (y 1).val < 512 := (y 1).isLt
  refine (spread_sum b y).trans ((Finset.sum_eq_single (⟨(y 1).val / 64, by omega⟩ : Fin 8) (fun h _ hne => ?_) (fun h => absurd (Finset.mem_univ _) h)).trans ?_)
  · exact (congrArg (fun z : EReal => (b (ix2 h (y 0)) : EReal) * z) ((heads_apply h (y 1)).trans (if_neg fun e => hne (Fin.ext e.symm)))).trans (mul_zero _)
  · exact (congrArg (fun z : EReal => (b (ix2 ⟨(y 1).val / 64, by omega⟩ (y 0)) : EReal) * z) ((heads_apply ⟨(y 1).val / 64, by omega⟩ (y 1)).trans (if_pos rfl))).trans (mul_one _)

/-- The reference's biases over the channels are the kernel's. -/
theorem biases (x : Vec Ideal S8x128 .f32) : val_main_v6 (F := Ideal) x = spread x := by
  funext y
  have l0 : (y 0).val < 128 := (y 0).isLt
  have l1 : (y 1).val < 512 := (y 1).isLt
  rw [val_main_v6_apply, val_main_v5_apply, val_main_v4_apply, val_main_v3_apply, spread_apply]
  refine congrArg x (funext fun a => Fin.ext ?_)
  match a with
  | ⟨0, _⟩ => show ((y 0).val * 512 + (y 1).val) / 64 % 8 = (y 1).val / 64; omega
  | ⟨1, _⟩ => show ((y 0).val * 512 + (y 1).val) / 512 = (y 0).val; omega

/-- The operand is the argument with its axes exchanged. -/
theorem e_v0 (c : Dev nD) : (V m c main_v0 : S352x1024.Idx → EReal) = flip (m ((c.tc : Thread nD τ).loc main_arg2)) := by
  funext y
  entry_read
  pointwise [flip]
  refine congrArg (m ((c.tc : Thread nD τ).loc main_arg2)) (funext fun a => ?_)
  match a with
  | ⟨0, _⟩ => rfl
  | ⟨1, _⟩ => rfl

/-- The operand is the argument with its axes exchanged. -/
theorem e_v1 (c : Dev nD) : (V m c main_v1 : S352x1024.Idx → EReal) = flip (m ((c.tc : Thread nD τ).loc main_arg3)) := by
  funext y
  entry_read
  pointwise [flip]
  refine congrArg (m ((c.tc : Thread nD τ).loc main_arg3)) (funext fun a => ?_)
  match a with
  | ⟨0, _⟩ => rfl
  | ⟨1, _⟩ => rfl

/-- The reference's transposed weight is the kernel's. -/
theorem flipped0 (x : Vec Ideal S1024x352 .f32) : val_main_v11 (F := Ideal) x = truncf .bf16 (flip x) bitsLt_bf16_f32 := by
  funext y
  rw [val_main_v11_apply, val_main_v10_apply]
  rfl

/-- The reference's transposed weight is the kernel's. -/
theorem flipped1 (x : Vec Ideal S1024x352 .f32) : val_main_v13 (F := Ideal) x = truncf .bf16 (flip x) bitsLt_bf16_f32 := by
  funext y
  rw [val_main_v13_apply, val_main_v12_apply]
  rfl

/-- The ideal program terminates with its arguments unchanged and every counter at zero. -/
theorem frame : Cert.quiescent_Kernel8Ideal := fun m ρ _ =>
  (θ_run _ _ _).mono (fun r h => ⟨fun c => by
    obtain ⟨-, -, -, -, -, -, -, -, -, h⟩ := h.1 c
    exact h, h.2⟩) (run_main m ρ)

/-- The reference terminates with its arguments unchanged and every counter at zero. -/
theorem frame_ref : Cert.quiescent_Reference8Ideal := fun m ρ _ =>
  (θ_run Cert.Reference8Ideal.defs _ _).mono (fun r h => ⟨fun c => by
    obtain ⟨-, -, -, -, -, -, -, -, -, h⟩ := h c
    exact h, sem_eq_zero_of_no_sems (by decide) r.2⟩)
    (Cert.Reference8Ideal.Value.run m ρ)

/-- The call's run: the results, and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_0) = (truncf .bf16 (transpose S256x1024 [1, 0] (V m c main_arg0) transposes_S1024x256_p1_0_S256x1024) bitsLt_bf16_f32 : FVec Ideal S256x1024 .bf16)
      ∧ r.2.mem ((c.tc : Thread nD τ).loc main_v2_1) = (truncf .bf16 (V m c main_arg1) bitsLt_bf16_f32 : FVec Ideal S128x1024 .bf16)
      ∧ r.2.mem ((c.tc : Thread nD τ).loc main_v2_2) = (truncf .bf16 (V m c main_v0) bitsLt_bf16_f32 : FVec Ideal S352x1024 .bf16)
      ∧ r.2.mem ((c.tc : Thread nD τ).loc main_v2_3) = (truncf .bf16 (V m c main_v1) bitsLt_bf16_f32 : FVec Ideal S352x1024 .bf16)
      ∧ r.2.mem ((c.tc : Thread nD τ).loc main_v2_4) = (truncf .bf16 (V m c main_arg4) bitsLt_bf16_f32 : FVec Ideal S352x1024 .bf16)
      ∧ r.2.mem ((c.tc : Thread nD τ).loc main_v2_5) = (padded (V m c main_arg5))
      ∧ r.2.mem ((c.tc : Thread nD τ).loc main_v2_6) = (pair (lowB (V m c main_arg6)))
      ∧ r.2.mem ((c.tc : Thread nD τ).loc main_v2_7) = (pair (lowT (V m c main_arg6)))
      ∧ r.2.mem ((c.tc : Thread nD τ).loc main_v2_8) = (spread (V m c main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => h.1 c) (run_main m ρ)

/-- The call and the reference leave the same prepared weights. -/
theorem algebraic : Cert.algebraic_Kernel8Ideal_Reference8Ideal := by
  pair_intro
  · exact run m g
  · refine (θ_run _ _ _).mono (fun r hr c => ?_) (Cert.Reference8Ideal.Value.run m' g')
    obtain ⟨h0, h1, h2, h3, h4, h5, h6, h7, h8, ha⟩ := hr c
    obtain ⟨k0, k1, k2, k3, k4, k5, k6, k7⟩ := hagree c
    refine ⟨h0.trans ?_, h1.trans ?_, h2.trans ?_, h3.trans ?_, h4.trans ?_, h5.trans ?_, h6.trans ?_, h7.trans ?_, h8.trans ?_, ha⟩
    · rw [val_main_v8_eq, k0]
      rw [V_main_arg0]
      rfl
    · rw [val_main_v9_eq, k1]
      rw [V_main_arg1]
      rfl
    · rw [val_main_v11_eq, k2]
      refine (flipped0 _).trans ?_
      rw [e_v0]
    · rw [val_main_v13_eq, k3]
      refine (flipped1 _).trans ?_
      rw [e_v1]
    · rw [val_main_v14_eq, k4]
      rw [V_main_arg4]
      rfl
    · rw [val_main_v15_eq, k5]
      refine (padding _).trans ?_
      rw [V_main_arg5]
    · rw [val_main_v19_eq, k6]
      refine (pairs _).trans ?_
      rw [V_main_arg6]
    · rw [val_main_v24_eq, k6]
      refine (pairsT _).trans ?_
      rw [V_main_arg6]
    · rw [val_main_v6_eq, k7]
      refine (biases _).trans ?_
      rw [V_main_arg7]

end Cert.Kernel8Ideal.Val

end

end
-- ==== Proof.GateWeight.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Read
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Val

open Idealize.ShloMosaic Idealize.ShloMosaic.TcCoe Idealize.SL.Sem
open Cert.Kernel2Ideal Cert.Kernel2Ideal.Gen

variable (m : (ℓ : Loc nD τ sig) → Buf (Elt Ideal) ℓ)

/-- An array stored whole reads back as it was stored. -/
theorem canonWhole {S : Shape} {e : EltTy} (w : S.Idx → Elt Ideal e) :
    View.canon (Val := Elt Ideal) [⟨Rect.whole S, w⟩] = w := View.canon_unit_zero (Val := Elt Ideal) rfl _ _

/-- One block of rows' part of the weight's gradient: the branch's cotangent against the layer norm's result. -/
def term (A : S1024x2816.Idx → EReal) (N : S1024x1024.Idx → EReal) (g b : S1x1024.Idx → EReal) : S2816x1024.Idx → EReal :=
  fun y => ∑ p : Fin 1024, A (ix2 p (y 0)) * (N (ix2 p (y 1)) * g (ix2 0 (y 1)) + b (ix2 0 (y 1)))

/-- The weight's gradient over all rows. -/
def whole (A : S8192x2816.Idx → EReal) (N : S8192x1024.Idx → EReal) (g b : S1x1024.Idx → EReal) : S2816x1024.Idx → EReal :=
  fun y => ∑ p : Fin 8192, A (ix2 p (y 0)) * (N (ix2 p (y 1)) * g (ix2 0 (y 1)) + b (ix2 0 (y 1)))

/-- The windows' block indices, all points at once. -/
theorem idx : ∀ t : Fin cfg0.N, win0_0.index t = ![t.val, 0] ∧ win0_1.index t = ![t.val, 0] ∧ win0_2.index t = ![0, 0]
    ∧ win0_3.index t = ![0, 0] ∧ win0_4.index t = ![0, 0] :=
  (by decide +kernel : ∀ t : Fin grid0.N, _)

theorem step (A : Vec Ideal S1024x2816 .bf16) (N : Vec Ideal S1024x1024 .f32) (g b : Vec Ideal S1x1024 .f32)
    (P : Vec Ideal S2816x1024 .f32) (y : S2816x1024.Idx) : k0_pay2 N g b P A y = P y + term A N g b y := by
  open_payloads
  pointwise [term]

theorem accA (c : Dev nD) (t : Fin cfg0.N) (h0 : t.val % 8 = 0) (y : S2816x1024.Idx) :
    (outsAt0 m c t.val t.isLt).2 y = 0 + term (iblk m c 0 t) (iblk m c 1 t) (iblk m c 2 t) (iblk m c 3 t) y := by
  rw [outsAt0_A m c t h0 (by omega)]
  frame_out
  rw [step]
  congr 1
  open_payloads
  pointwise

theorem accB (c : Dev nD) (t : Fin cfg0.N) (h0 : ¬ t.val % 8 = 0) (y : S2816x1024.Idx) :
    (outsAt0 m c t.val t.isLt).2 y = (outsAt0 m c (t.val - 1) (Nat.lt_of_le_of_lt (Nat.sub_le _ _) t.isLt)).2 y
      + term (iblk m c 0 t) (iblk m c 1 t) (iblk m c 2 t) (iblk m c 3 t) y := by
  by_cases h1 : t.val % 8 = 7
  · rw [outsAt0_C m c t h0 h1]
    frame_out
    rw [read_unread_whole, step]
  · rw [outsAt0_B m c t h0 h1]
    frame_out
    rw [read_unread_whole, step]

theorem outC (c : Dev nD) (t : Fin cfg0.N) (h1 : t.val % 8 = 7) :
    (outsAt0 m c t.val t.isLt).1 = ((outsAt0 m c t.val t.isLt).2 : S2816x1024.Idx → EReal) := by
  rw [outsAt0_C m c t (by omega) h1]
  frame_out
  rfl

theorem final (c : Dev nD) : (dats m 0 c).arrAt 4 (cfgs 0).N
    = whole (V m c main_arg3) (V m c main_v17) (V m c main_v18) (V m c main_v19) := by
  refine (dats m 0 c).arrAt_eq_of_after_last 4 t0_7 (by decide +kernel) _ fun j => ?_
  blk_simp
  rw [after0_4, outC m c t0_7 rfl, Pipeline.eq_sum_fin_of_reset_step_apply_last (fun n h => (outsAt0 m c n h).2) 8 (fun _ => 0)
    (fun t => term (iblk m c 0 t) (iblk m c 1 t) (iblk m c 2 t) (iblk m c 3 t))
    (fun t h j => accA m c t h j) (fun t h j => accB m c t h j)
    (le_of_eq N_0) t0_7 rfl j, zero_add]
  unfold term whole
  refine Fin.sum_mul_add_congr (S := 8) fun s k hl => ?_
  blk_point [iblk, idx s]

/-- A gain or a bias as the one row that the call takes. -/
def row (a : S1024.Idx → EReal) : S1x1024.Idx → EReal := fun i => a (ix1 (i 1))

theorem e_v17 (c : Dev nD) : (V m c main_v17 : S8192x1024.Idx → EReal)
    = Cert.Reference2Ideal.Read.val_main_v18 (F := Ideal) (m ((c.tc : Thread nD τ).loc main_arg0)) := by
  entry_read
  rfl

theorem e_v18 (c : Dev nD) : (V m c main_v18 : S1x1024.Idx → EReal) = row (m ((c.tc : Thread nD τ).loc main_arg1)) := by
  funext y
  entry_read
  pointwise [row]

theorem e_v19 (c : Dev nD) : (V m c main_v19 : S1x1024.Idx → EReal) = row (m ((c.tc : Thread nD τ).loc main_arg2)) := by
  funext y
  entry_read
  pointwise [row]

theorem ref (x0 : S8192x1024.Idx → EReal) (x1 x2 : S1024.Idx → EReal) (x3 : S8192x2816.Idx → EReal) :
    Cert.Reference2Ideal.Read.val_main_v30 (F := Ideal) x0 x1 x2 x3
      = whole x3 (Cert.Reference2Ideal.Read.val_main_v18 (F := Ideal) x0) (row x1) (row x2) := by
  funext y
  unfold Cert.Reference2Ideal.Read.val_main_v30 Cert.Reference2Ideal.Read.val_main_v29 Cert.Reference2Ideal.Read.val_main_v28
    Cert.Reference2Ideal.Read.val_main_v27 Cert.Reference2Ideal.Read.val_main_v26 Cert.Reference2Ideal.Read.val_main_v24
    Cert.Reference2Ideal.Read.val_main_v23 Cert.Reference2Ideal.Read.val_main_v22 Cert.Reference2Ideal.Read.val_main_v21
    Cert.Reference2Ideal.Read.val_main_v20 Cert.Reference2Ideal.Read.val_main_v19
  pointwise [whole, row]

/-- The call's run: the weight's gradient over all rows, and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = (dats m 0 c).arrAt 4 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r hr c => ?_) (θ_run_and (run_main m ρ) (unchanged m ρ))
  exact ⟨(hr.1 c).1 4, hr.2 c⟩

/-- The reference terminates with its arguments unchanged and every counter at zero. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The call and the reference leave the same gradient of the gate's weight. -/
theorem algebraic : Cert.algebraic_Kernel2Ideal_Reference2Ideal := by
  pair_intro
  · exact run m g
  · refine (θ_run _ _ _).mono (fun r hr c => ?_) (Cert.Reference2Ideal.Value.run m' g')
    obtain ⟨h, ha⟩ := hr c
    obtain ⟨k0, k1, k2, k3⟩ := hagree c
    refine ⟨h.trans ?_, ha⟩
    rw [Cert.Reference2Ideal.Read.val_main_v30_eq, k0, k1, k2, k3]
    refine (ref _ _ _ _).trans ?_
    rw [final, V_main_arg3, e_v17, e_v18, e_v19]

end Cert.Kernel2Ideal.Val

end

end
-- ==== Proof.UpWeight.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Read
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Val

open Idealize.ShloMosaic Idealize.ShloMosaic.TcCoe Idealize.SL.Sem
open Cert.Kernel3Ideal Cert.Kernel3Ideal.Gen

variable (m : (ℓ : Loc nD τ sig) → Buf (Elt Ideal) ℓ)

/-- An array stored whole reads back as it was stored. -/
theorem canonWhole {S : Shape} {e : EltTy} (w : S.Idx → Elt Ideal e) :
    View.canon (Val := Elt Ideal) [⟨Rect.whole S, w⟩] = w := View.canon_unit_zero (Val := Elt Ideal) rfl _ _

/-- One block of rows' part of the weight's gradient: the branch's cotangent against the layer norm's result. -/
def term (A : S1024x2816.Idx → EReal) (N : S1024x1024.Idx → EReal) (g b : S1x1024.Idx → EReal) : S2816x1024.Idx → EReal :=
  fun y => ∑ p : Fin 1024, A (ix2 p (y 0)) * (N (ix2 p (y 1)) * g (ix2 0 (y 1)) + b (ix2 0 (y 1)))

/-- The weight's gradient over all rows. -/
def whole (A : S8192x2816.Idx → EReal) (N : S8192x1024.Idx → EReal) (g b : S1x1024.Idx → EReal) : S2816x1024.Idx → EReal :=
  fun y => ∑ p : Fin 8192, A (ix2 p (y 0)) * (N (ix2 p (y 1)) * g (ix2 0 (y 1)) + b (ix2 0 (y 1)))

/-- The windows' block indices, all points at once. -/
theorem idx : ∀ t : Fin cfg0.N, win0_0.index t = ![t.val, 0] ∧ win0_1.index t = ![t.val, 0] ∧ win0_2.index t = ![0, 0]
    ∧ win0_3.index t = ![0, 0] ∧ win0_4.index t = ![0, 0] :=
  (by decide +kernel : ∀ t : Fin grid0.N, _)

theorem step (A : Vec Ideal S1024x2816 .bf16) (N : Vec Ideal S1024x1024 .f32) (g b : Vec Ideal S1x1024 .f32)
    (P : Vec Ideal S2816x1024 .f32) (y : S2816x1024.Idx) : k0_pay2 N g b P A y = P y + term A N g b y := by
  open_payloads
  pointwise [term]

theorem accA (c : Dev nD) (t : Fin cfg0.N) (h0 : t.val % 8 = 0) (y : S2816x1024.Idx) :
    (outsAt0 m c t.val t.isLt).2 y = 0 + term (iblk m c 0 t) (iblk m c 1 t) (iblk m c 2 t) (iblk m c 3 t) y := by
  rw [outsAt0_A m c t h0 (by omega)]
  frame_out
  rw [step]
  congr 1
  open_payloads
  pointwise

theorem accB (c : Dev nD) (t : Fin cfg0.N) (h0 : ¬ t.val % 8 = 0) (y : S2816x1024.Idx) :
    (outsAt0 m c t.val t.isLt).2 y = (outsAt0 m c (t.val - 1) (Nat.lt_of_le_of_lt (Nat.sub_le _ _) t.isLt)).2 y
      + term (iblk m c 0 t) (iblk m c 1 t) (iblk m c 2 t) (iblk m c 3 t) y := by
  by_cases h1 : t.val % 8 = 7
  · rw [outsAt0_C m c t h0 h1]
    frame_out
    rw [read_unread_whole, step]
  · rw [outsAt0_B m c t h0 h1]
    frame_out
    rw [read_unread_whole, step]

theorem outC (c : Dev nD) (t : Fin cfg0.N) (h1 : t.val % 8 = 7) :
    (outsAt0 m c t.val t.isLt).1 = ((outsAt0 m c t.val t.isLt).2 : S2816x1024.Idx → EReal) := by
  rw [outsAt0_C m c t (by omega) h1]
  frame_out
  rfl

theorem final (c : Dev nD) : (dats m 0 c).arrAt 4 (cfgs 0).N
    = whole (V m c main_arg3) (V m c main_v17) (V m c main_v18) (V m c main_v19) := by
  refine (dats m 0 c).arrAt_eq_of_after_last 4 t0_7 (by decide +kernel) _ fun j => ?_
  blk_simp
  rw [after0_4, outC m c t0_7 rfl, Pipeline.eq_sum_fin_of_reset_step_apply_last (fun n h => (outsAt0 m c n h).2) 8 (fun _ => 0)
    (fun t => term (iblk m c 0 t) (iblk m c 1 t) (iblk m c 2 t) (iblk m c 3 t))
    (fun t h j => accA m c t h j) (fun t h j => accB m c t h j)
    (le_of_eq N_0) t0_7 rfl j, zero_add]
  unfold term whole
  refine Fin.sum_mul_add_congr (S := 8) fun s k hl => ?_
  blk_point [iblk, idx s]

/-- A gain or a bias as the one row that the call takes. -/
def row (a : S1024.Idx → EReal) : S1x1024.Idx → EReal := fun i => a (ix1 (i 1))

theorem e_v17 (c : Dev nD) : (V m c main_v17 : S8192x1024.Idx → EReal)
    = Cert.Reference3Ideal.Read.val_main_v18 (F := Ideal) (m ((c.tc : Thread nD τ).loc main_arg0)) := by
  entry_read
  rfl

theorem e_v18 (c : Dev nD) : (V m c main_v18 : S1x1024.Idx → EReal) = row (m ((c.tc : Thread nD τ).loc main_arg1)) := by
  funext y
  entry_read
  pointwise [row]

theorem e_v19 (c : Dev nD) : (V m c main_v19 : S1x1024.Idx → EReal) = row (m ((c.tc : Thread nD τ).loc main_arg2)) := by
  funext y
  entry_read
  pointwise [row]

theorem ref (x0 : S8192x1024.Idx → EReal) (x1 x2 : S1024.Idx → EReal) (x3 : S8192x2816.Idx → EReal) :
    Cert.Reference3Ideal.Read.val_main_v30 (F := Ideal) x0 x1 x2 x3
      = whole x3 (Cert.Reference3Ideal.Read.val_main_v18 (F := Ideal) x0) (row x1) (row x2) := by
  funext y
  unfold Cert.Reference3Ideal.Read.val_main_v30 Cert.Reference3Ideal.Read.val_main_v29 Cert.Reference3Ideal.Read.val_main_v28
    Cert.Reference3Ideal.Read.val_main_v27 Cert.Reference3Ideal.Read.val_main_v26 Cert.Reference3Ideal.Read.val_main_v24
    Cert.Reference3Ideal.Read.val_main_v23 Cert.Reference3Ideal.Read.val_main_v22 Cert.Reference3Ideal.Read.val_main_v21
    Cert.Reference3Ideal.Read.val_main_v20 Cert.Reference3Ideal.Read.val_main_v19
  pointwise [whole, row]

/-- The call's run: the weight's gradient over all rows, and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = (dats m 0 c).arrAt 4 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r hr c => ?_) (θ_run_and (run_main m ρ) (unchanged m ρ))
  exact ⟨(hr.1 c).1 4, hr.2 c⟩

/-- The reference terminates with its arguments unchanged and every counter at zero. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The call and the reference leave the same gradient of the up branch's weight. -/
theorem algebraic : Cert.algebraic_Kernel3Ideal_Reference3Ideal := by
  pair_intro
  · exact run m g
  · refine (θ_run _ _ _).mono (fun r hr c => ?_) (Cert.Reference3Ideal.Value.run m' g')
    obtain ⟨h, ha⟩ := hr c
    obtain ⟨k0, k1, k2, k3⟩ := hagree c
    refine ⟨h.trans ?_, ha⟩
    rw [Cert.Reference3Ideal.Read.val_main_v30_eq, k0, k1, k2, k3]
    refine (ref _ _ _ _).trans ?_
    rw [final, V_main_arg3, e_v17, e_v18, e_v19]

end Cert.Kernel3Ideal.Val

end

end
-- ==== Proof.DownWeight.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Read
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Val

open Idealize.ShloMosaic Idealize.ShloMosaic.TcCoe Idealize.SL.Sem
open Cert.Kernel4Ideal Cert.Kernel4Ideal.Gen

variable (m : (ℓ : Loc nD τ sig) → Buf (Elt Ideal) ℓ)

/-- An array stored whole reads back as it was stored. -/
theorem canonWhole {S : Shape} {e : EltTy} (w : S.Idx → Elt Ideal e) :
    View.canon (Val := Elt Ideal) [⟨Rect.whole S, w⟩] = w := View.canon_unit_zero (Val := Elt Ideal) rfl _ _

/-- One block of rows' part of the weight's gradient: the hidden units against the cotangent of the second norm's input. -/
def term (A : S1024x2816.Idx → EReal) (N : S1024x1024.Idx → EReal) : S2816x1024.Idx → EReal :=
  fun y => ∑ p : Fin 1024, A (ix2 p (y 0)) * N (ix2 p (y 1))

/-- The weight's gradient over all rows. -/
def whole (A : S8192x2816.Idx → EReal) (N : S8192x1024.Idx → EReal) : S2816x1024.Idx → EReal :=
  fun y => ∑ p : Fin 8192, A (ix2 p (y 0)) * N (ix2 p (y 1))

/-- The windows' block indices, all points at once. -/
theorem idx : ∀ t : Fin cfg0.N, win0_0.index t = ![t.val, 0] ∧ win0_1.index t = ![t.val, 0] ∧ win0_2.index t = ![0, 0] :=
  (by decide +kernel : ∀ t : Fin grid0.N, _)

theorem step (A : Vec Ideal S1024x2816 .bf16) (N : Vec Ideal S1024x1024 .f32) (P : Vec Ideal S2816x1024 .f32) (y : S2816x1024.Idx) : k0_pay2 N P A y = P y + term A N y := by
  open_payloads
  pointwise [term]

theorem accA (c : Dev nD) (t : Fin cfg0.N) (h0 : t.val % 8 = 0) (y : S2816x1024.Idx) :
    (outsAt0 m c t.val t.isLt).2 y = 0 + term (iblk m c 0 t) (iblk m c 1 t) y := by
  rw [outsAt0_A m c t h0 (by omega)]
  frame_out
  rw [step]
  congr 1
  open_payloads
  pointwise

theorem accB (c : Dev nD) (t : Fin cfg0.N) (h0 : ¬ t.val % 8 = 0) (y : S2816x1024.Idx) :
    (outsAt0 m c t.val t.isLt).2 y = (outsAt0 m c (t.val - 1) (Nat.lt_of_le_of_lt (Nat.sub_le _ _) t.isLt)).2 y
      + term (iblk m c 0 t) (iblk m c 1 t) y := by
  by_cases h1 : t.val % 8 = 7
  · rw [outsAt0_C m c t h0 h1]
    frame_out
    rw [read_unread_whole, step]
  · rw [outsAt0_B m c t h0 h1]
    frame_out
    rw [read_unread_whole, step]

theorem outC (c : Dev nD) (t : Fin cfg0.N) (h1 : t.val % 8 = 7) :
    (outsAt0 m c t.val t.isLt).1 = ((outsAt0 m c t.val t.isLt).2 : S2816x1024.Idx → EReal) := by
  rw [outsAt0_C m c t (by omega) h1]
  frame_out
  rfl

theorem final (c : Dev nD) : (dats m 0 c).arrAt 2 (cfgs 0).N
    = whole (V m c main_arg0) (V m c main_arg1) := by
  refine (dats m 0 c).arrAt_eq_of_after_last 2 t0_7 (by decide +kernel) _ fun j => ?_
  blk_simp
  rw [after0_2, outC m c t0_7 rfl, Pipeline.eq_sum_fin_of_reset_step_apply_last (fun n h => (outsAt0 m c n h).2) 8 (fun _ => 0)
    (fun t => term (iblk m c 0 t) (iblk m c 1 t))
    (fun t h j => accA m c t h j) (fun t h j => accB m c t h j)
    (le_of_eq N_0) t0_7 rfl j, zero_add]
  unfold term whole
  refine Fin.sum_mul_add_congr (S := 8) fun s k hl => ?_
  blk_point [iblk, idx s]

theorem ref (x0 : S8192x2816.Idx → EReal) (x1 : S8192x1024.Idx → EReal) :
    Cert.Reference4Ideal.Read.val_main_v5 (F := Ideal) x0 x1 = whole x0 x1 := by
  funext y
  unfold Cert.Reference4Ideal.Read.val_main_v5 Cert.Reference4Ideal.Read.val_main_v4 Cert.Reference4Ideal.Read.val_main_v3
    Cert.Reference4Ideal.Read.val_main_v1
  pointwise [whole]
  exact Finset.sum_congr rfl fun _ _ => mul_comm _ _

/-- The call's run: the weight's gradient over all rows, and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (dats m 0 c).arrAt 2 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r hr c => ?_) (θ_run_and (run_main m ρ) (unchanged m ρ))
  exact ⟨(hr.1 c).1 2, hr.2 c⟩

/-- The reference terminates with its arguments unchanged and every counter at zero. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The call and the reference leave the same gradient of the down weight. -/
theorem algebraic : Cert.algebraic_Kernel4Ideal_Reference4Ideal := by
  pair_intro
  · exact run m g
  · refine (θ_run _ _ _).mono (fun r hr c => ?_) (Cert.Reference4Ideal.Value.run m' g')
    obtain ⟨h, ha⟩ := hr c
    obtain ⟨k0, k1⟩ := hagree c
    refine ⟨h.trans ?_, ha⟩
    rw [Cert.Reference4Ideal.Read.val_main_v5_eq, k0, k1]
    refine (ref _ _).trans ?_
    rw [final, V_main_arg0, V_main_arg1]

end Cert.Kernel4Ideal.Val

end

end
-- ==== Proof.OutWeight.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Read
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Val

open Idealize.ShloMosaic Idealize.ShloMosaic.TcCoe Idealize.SL.Sem
open Cert.Kernel5Ideal Cert.Kernel5Ideal.Gen

variable (m : (ℓ : Loc nD τ sig) → Buf (Elt Ideal) ℓ)

/-- An array stored whole reads back as it was stored. -/
theorem canonWhole {S : Shape} {e : EltTy} (w : S.Idx → Elt Ideal e) :
    View.canon (Val := Elt Ideal) [⟨Rect.whole S, w⟩] = w := View.canon_unit_zero (Val := Elt Ideal) rfl _ _

/-- One block of rows' part of the weight's gradient: the mixer's result against the cotangent of the first norm's input. -/
def term (A : S1024x1024.Idx → EReal) (N : S1024x1024.Idx → EReal) : S1024x1024.Idx → EReal :=
  fun y => ∑ p : Fin 1024, A (ix2 p (y 0)) * N (ix2 p (y 1))

/-- The weight's gradient over all rows. -/
def whole (A : S8192x1024.Idx → EReal) (N : S8192x1024.Idx → EReal) : S1024x1024.Idx → EReal :=
  fun y => ∑ p : Fin 8192, A (ix2 p (y 0)) * N (ix2 p (y 1))

/-- The windows' block indices, all points at once. -/
theorem idx : ∀ t : Fin cfg0.N, win0_0.index t = ![t.val, 0] ∧ win0_1.index t = ![t.val, 0] ∧ win0_2.index t = ![0, 0] :=
  (by decide +kernel : ∀ t : Fin grid0.N, _)

theorem step (A : Vec Ideal S1024x1024 .bf16) (N : Vec Ideal S1024x1024 .f32) (P : Vec Ideal S1024x1024 .f32) (y : S1024x1024.Idx) : k0_pay2 N P A y = P y + term A N y := by
  open_payloads
  pointwise [term]

theorem accA (c : Dev nD) (t : Fin cfg0.N) (h0 : t.val % 8 = 0) (y : S1024x1024.Idx) :
    (outsAt0 m c t.val t.isLt).2 y = 0 + term (iblk m c 0 t) (iblk m c 1 t) y := by
  rw [outsAt0_A m c t h0 (by omega)]
  frame_out
  rw [step]
  congr 1
  open_payloads
  pointwise

theorem accB (c : Dev nD) (t : Fin cfg0.N) (h0 : ¬ t.val % 8 = 0) (y : S1024x1024.Idx) :
    (outsAt0 m c t.val t.isLt).2 y = (outsAt0 m c (t.val - 1) (Nat.lt_of_le_of_lt (Nat.sub_le _ _) t.isLt)).2 y
      + term (iblk m c 0 t) (iblk m c 1 t) y := by
  by_cases h1 : t.val % 8 = 7
  · rw [outsAt0_C m c t h0 h1]
    frame_out
    rw [read_unread_whole, step]
  · rw [outsAt0_B m c t h0 h1]
    frame_out
    rw [read_unread_whole, step]

theorem outC (c : Dev nD) (t : Fin cfg0.N) (h1 : t.val % 8 = 7) :
    (outsAt0 m c t.val t.isLt).1 = ((outsAt0 m c t.val t.isLt).2 : S1024x1024.Idx → EReal) := by
  rw [outsAt0_C m c t (by omega) h1]
  frame_out
  rfl

theorem final (c : Dev nD) : (dats m 0 c).arrAt 2 (cfgs 0).N
    = whole (V m c main_arg0) (V m c main_arg1) := by
  refine (dats m 0 c).arrAt_eq_of_after_last 2 t0_7 (by decide +kernel) _ fun j => ?_
  blk_simp
  rw [after0_2, outC m c t0_7 rfl, Pipeline.eq_sum_fin_of_reset_step_apply_last (fun n h => (outsAt0 m c n h).2) 8 (fun _ => 0)
    (fun t => term (iblk m c 0 t) (iblk m c 1 t))
    (fun t h j => accA m c t h j) (fun t h j => accB m c t h j)
    (le_of_eq N_0) t0_7 rfl j, zero_add]
  unfold term whole
  refine Fin.sum_mul_add_congr (S := 8) fun s k hl => ?_
  blk_point [iblk, idx s]

theorem ref (x0 : S8192x1024.Idx → EReal) (x1 : S8192x1024.Idx → EReal) :
    Cert.Reference5Ideal.Read.val_main_v5 (F := Ideal) x0 x1 = whole x0 x1 := by
  funext y
  unfold Cert.Reference5Ideal.Read.val_main_v5 Cert.Reference5Ideal.Read.val_main_v4 Cert.Reference5Ideal.Read.val_main_v3
    Cert.Reference5Ideal.Read.val_main_v1
  pointwise [whole]
  exact Finset.sum_congr rfl fun _ _ => mul_comm _ _

/-- The call's run: the weight's gradient over all rows, and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (dats m 0 c).arrAt 2 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r hr c => ?_) (θ_run_and (run_main m ρ) (unchanged m ρ))
  exact ⟨(hr.1 c).1 2, hr.2 c⟩

/-- The reference terminates with its arguments unchanged and every counter at zero. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The call and the reference leave the same gradient of the output projection's weight. -/
theorem algebraic : Cert.algebraic_Kernel5Ideal_Reference5Ideal := by
  pair_intro
  · exact run m g
  · refine (θ_run _ _ _).mono (fun r hr c => ?_) (Cert.Reference5Ideal.Value.run m' g')
    obtain ⟨h, ha⟩ := hr c
    obtain ⟨k0, k1⟩ := hagree c
    refine ⟨h.trans ?_, ha⟩
    rw [Cert.Reference5Ideal.Read.val_main_v5_eq, k0, k1]
    refine (ref _ _).trans ?_
    rw [final, V_main_arg0, V_main_arg1]

end Cert.Kernel5Ideal.Val

end

end
-- ==== Proof.FwdSpec.lean ====
module

public import proofs.«01_k».proof.Proof.Spec

@[expose] public section

noncomputable section

namespace Cert.Real

open Idealize.ShloMosaic

theorem word_half : Ideal.ofBits .f32 0x3F000000#32 = ((1 / 2 : ℝ) : EReal) := by
  simp [Ideal.ofBits, Ideal.ieee]; norm_num; rw [← EReal.coe_mul]; norm_num
theorem word_recip : Ideal.ofBits .f32 0x3A800000#32 = ((1 / 1024 : ℝ) : EReal) := by
  simp [Ideal.ofBits, Ideal.ieee]; norm_num; rw [← EReal.coe_mul]; norm_num

/-- The arguments of the forward half: those of `Inp`, with the loss's target in place of the cotangent, and the second
    layer norm's two vectors. -/
structure Fwd where
  a : Inp
  g : Fin 1024 → ℝ
  b : Fin 1024 → ℝ

namespace Fwd

variable (I : Fwd)

def h (i : Fin 8192) (f : Fin 2816) : ℝ := I.a.G i f * sg (I.a.G i f) * I.a.U i f
def r (i : Fin 8192) (k : Fin 1024) : ℝ := alpha * I.a.x i k + ∑ f, I.h i f * I.a.wd f k
/-- The second layer norm's rows and vectors, as arguments of a layer norm. -/
def y : Inp := ⟨I.r, I.g, I.b, I.a.wg, I.a.wu, I.a.wd, I.a.d⟩
def e (i : Fin 8192) (k : Fin 1024) : ℝ := I.y.x i k - I.a.d i k
def dx (i : Fin 8192) (k : Fin 1024) : ℝ := I.e i k * (1 / 1024)
def dr (i : Fin 8192) (k : Fin 1024) : ℝ :=
  I.y.rs i * (I.dx i k * I.g k - (∑ j, I.dx i j * I.g j) / 1024 - I.y.n i k * ((∑ j, I.dx i j * I.g j * I.y.n i j) / 1024))
/-- The sum of the squared errors, and the gradients of the second layer norm's gain and bias, in the first three of
    eight rows. -/
def st (j : Fin 8) (k : Fin 1024) : ℝ :=
  if j.val = 0 then ∑ p, I.e p k * I.e p k else if j.val = 1 then ∑ p, I.dx p k * I.y.n p k
  else if j.val = 2 then ∑ p, I.dx p k else 0

theorem dx_eq (i : Fin 8192) (k : Fin 1024) : 1 / 2 * 1 / 1024 * (2 * I.e i k) = I.dx i k := by
  unfold dx; ring

theorem dr_eq (i : Fin 8192) (k : Fin 1024) :
    I.dx i k * I.g k * I.y.rs i + (∑ j, I.y.xc i j * (I.dx i j * I.g j)) * (-(1 / 2) * (I.y.rs i / I.y.s i)) / 1024 * (2 * I.y.xc i k)
      + ((∑ j, -(I.dx i j * I.g j * I.y.rs i)) + ∑ j, -((∑ l, I.y.xc i l * (I.dx i l * I.g l)) * (-(1 / 2) * (I.y.rs i / I.y.s i)) / 1024 * (2 * I.y.xc i j))) / 1024
    = I.dr i k :=
  norm_back (I.y.xc i) (fun j => I.dx i j * I.g j) _ _ (I.y.rs_sq i) (I.y.sum_xc i) k

end Fwd

end Cert.Real

end

end
-- ==== Proof.FwdRow.lean ====
module

public import proofs.«01_k».proof.Proof.FwdSpec

@[expose] public section

noncomputable section

namespace Cert.Row

open Idealize.ShloMosaic Cert.Real

/-! What the forward call does to one row, over the extended reals. -/

/-- A row of an array. -/
def rowOf {a b : ℕ} (X : Shape.Idx ⟨2, ![a, b]⟩ → EReal) (p : Fin a) : Fin b → EReal := fun k => X (ix2 p k)

/-- The affine map of a normalised row. -/
def aff (n g b : Fin 1024 → EReal) : Fin 1024 → EReal := fun k => n k * g k + b k

/-- A row against the rows of a transposed weight. -/
def pr (x : Fin 1024 → EReal) (W : Shape.Idx ⟨2, ![2816, 1024]⟩ → EReal) : Fin 2816 → EReal :=
  fun f => ∑ k : Fin 1024, x k * W (ix2 f k)

/-- The hidden units from the gate and the up branch. -/
def hid (g u : Fin 2816 → EReal) : Fin 2816 → EReal := fun f => g f * Ideal.logistic (g f) * u f

/-- The residual row. -/
def res (x : Fin 1024 → EReal) (h : Fin 2816 → EReal) (W : Shape.Idx ⟨2, ![2816, 1024]⟩ → EReal) : Fin 1024 → EReal :=
  fun k => Ideal.ofBits .f32 0x3F9837F0#32 * x k + ∑ f : Fin 2816, h f * W (ix2 f k)

def mean (r : Fin 1024 → EReal) : EReal := Ideal.div (∑ k : Fin 1024, r k) (Ideal.ofBits .f32 0x44800000#32)

def cen (r : Fin 1024 → EReal) : Fin 1024 → EReal := fun k => r k - mean r

def var (r : Fin 1024 → EReal) : EReal := mean fun k => cen r k * cen r k

def root (r : Fin 1024 → EReal) : EReal := Ideal.rsqrt (var r + Ideal.ofBits .f32 0x3727C5AC#32)

def nrm (r : Fin 1024 → EReal) : Fin 1024 → EReal := fun k => cen r k * root r

/-- The error of a row against the target. -/
def err (r g b t : Fin 1024 → EReal) : Fin 1024 → EReal := fun k => aff (nrm r) g b k - t k

/-- The error over the number of features. -/
def cot (r g b t : Fin 1024 → EReal) : Fin 1024 → EReal := fun k => err r g b t k * Ideal.ofBits .f32 0x3A800000#32

/-- The layer norm's backward pass on a row. -/
def back (s : EReal) (n x g : Fin 1024 → EReal) : Fin 1024 → EReal := fun k =>
  s * (x k * g k - mean (fun j => x j * g j) - n k * mean fun j => x j * g j * n j)

/-! At rows of real numbers. -/

/-- A real row among the extended reals. -/
def re {a : ℕ} (f : Fin a → ℝ) : Fin a → EReal := fun k => ((f k : ℝ) : EReal)

theorem mean_re (f : Fin 1024 → ℝ) : mean (re f) = (((∑ k, f k) / 1024 : ℝ) : EReal) := by
  simp only [mean, re, word_1024, ← coe_sum, div_real _ (show (1024 : ℝ) ≠ 0 by norm_num)]

theorem aff_re (n g b : Fin 1024 → ℝ) : aff (re n) (re g) (re b) = re fun k => n k * g k + b k := by
  funext k
  simp only [aff, re, ← EReal.coe_mul, ← EReal.coe_add]

theorem pr_re (x : Fin 1024 → ℝ) (W : Fin 2816 → Fin 1024 → ℝ) : pr (re x) (mat W) = re fun f => ∑ k, x k * W f k := by
  funext f
  simp only [pr, re, mat, ← EReal.coe_mul, ← coe_sum]
  rfl

theorem hid_re (g u : Fin 2816 → ℝ) : hid (re g) (re u) = re fun f => g f * sg (g f) * u f := by
  funext f
  simp only [hid, re, Ideal.logistic_coe, ← EReal.coe_mul]
  rfl

theorem res_re (x : Fin 1024 → ℝ) (h : Fin 2816 → ℝ) (W : Fin 2816 → Fin 1024 → ℝ) :
    res (re x) (re h) (mat W) = re fun k => alpha * x k + ∑ f, h f * W f k := by
  funext k
  simp only [res, re, mat, word_alpha, ← EReal.coe_mul, ← coe_sum, ← EReal.coe_add]
  rfl

theorem cen_re (r : Fin 1024 → ℝ) : cen (re r) = re fun k => r k - (∑ j, r j) / 1024 := by
  funext k
  simp only [cen, mean_re, re, ← EReal.coe_sub]

theorem back_re (s : ℝ) (n x g : Fin 1024 → ℝ) : back (s : EReal) (re n) (re x) (re g)
    = re fun k => s * (x k * g k - (∑ j, x j * g j) / 1024 - n k * ((∑ j, x j * g j * n j) / 1024)) := by
  have m1 : mean (fun j => re x j * re g j) = (((∑ j, x j * g j) / 1024 : ℝ) : EReal) := by
    rw [← mean_re]; congr 1
  have m2 : mean (fun j => re x j * re g j * re n j) = (((∑ j, x j * g j * n j) / 1024 : ℝ) : EReal) := by
    rw [← mean_re]; congr 1
  funext k
  unfold back
  rw [m1, m2]
  simp only [re, ← EReal.coe_mul, ← EReal.coe_sub]

variable (I : Fwd) (p : Fin 8192)

theorem cen_y : cen (re (I.r p)) = re (I.y.xc p) := cen_re _

theorem root_y : root (re (I.r p)) = ((I.y.rs p : ℝ) : EReal) := by
  have e : (fun k => cen (re (I.r p)) k * cen (re (I.r p)) k) = re fun k => I.y.xc p k * I.y.xc p k := by
    funext k; simp only [cen_y, re, ← EReal.coe_mul]
  simp only [root, var, e, mean_re, word_eps, ← EReal.coe_add]
  exact rsqrt_real (I.y.s_pos p)

theorem nrm_y : nrm (re (I.r p)) = re (I.y.n p) := by
  funext k
  simp only [nrm, cen_y, root_y, re, ← EReal.coe_mul]
  rfl

theorem err_y : err (re (I.r p)) (re I.g) (re I.b) (re (I.a.d p)) = re (I.e p) := by
  funext k
  simp only [err, nrm_y, aff_re, re, ← EReal.coe_sub]
  rfl

theorem cot_y : cot (re (I.r p)) (re I.g) (re I.b) (re (I.a.d p)) = re (I.dx p) := by
  funext k
  simp only [cot, err_y, re, word_recip, ← EReal.coe_mul]
  rfl

theorem back_y : back (root (re (I.r p))) (nrm (re (I.r p))) (cot (re (I.r p)) (re I.g) (re I.b) (re (I.a.d p))) (re I.g)
    = re (I.dr p) := by
  rw [root_y, nrm_y, cot_y, back_re]
  rfl

theorem aff_x : aff (re (I.a.n p)) (re I.a.g) (re I.a.b) = re (I.a.x p) := aff_re _ _ _

theorem pr_G : pr (re (I.a.x p)) (mat fun f k => I.a.wg k f) = re (I.a.G p) := pr_re _ _

theorem pr_U : pr (re (I.a.x p)) (mat fun f k => I.a.wu k f) = re (I.a.U p) := pr_re _ _

theorem hid_h : hid (re (I.a.G p)) (re (I.a.U p)) = re (I.h p) := hid_re _ _

theorem res_r : res (re (I.a.x p)) (re (I.h p)) (mat I.a.wd) = re (I.r p) := res_re _ _ _

end Cert.Row

end

end
-- ==== Proof.FwdPay.lean ====
module

public import proofs.«01_k».proof.Proof.Gen.Kernel6Ideal.Frame
public import proofs.«01_k».proof.Proof.FwdRow
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Row

/-! The call's stages on a block of rows. -/

variable (N T X : S512x1024.Idx → EReal) (L B G2 B2 P : S1x1024.Idx → EReal) (H : S512x2816.Idx → EReal) (W : S2816x1024.Idx → EReal)
  (C : S512x1024.Idx → EReal) (V : S512x1.Idx → EReal)

theorem pay3 : k0_pay3 (F := Ideal) N L B = fun y => aff (rowOf N (y 0)) (rowOf L 0) (rowOf B 0) (y 1) := by
  funext y
  unfold k0_pay3
  pointwise [aff, rowOf]

theorem pay60 : k0_pay60 (F := Ideal) X H W = fun y => cen (res (rowOf X (y 0)) (rowOf H (y 0)) W) (y 1) := by
  funext y
  unfold k0_pay60
  pointwise [cen, mean, res, rowOf]

theorem pay61 : k0_pay61 (F := Ideal) X H W = fun y => var (res (rowOf X (y 0)) (rowOf H (y 0)) W) := by
  funext y
  unfold k0_pay61
  rw [pay60]
  pointwise [var, mean]

theorem pay62 : k0_pay62 (F := Ideal) V = fun y => Ideal.rsqrt (V y + Ideal.ofBits .f32 0x3727C5AC#32) := by
  funext y
  unfold k0_pay62
  pointwise

theorem pay63 : k0_pay63 (F := Ideal) C V = fun y => C y * Ideal.rsqrt (V (ix2 (y 0) 0) + Ideal.ofBits .f32 0x3727C5AC#32) := by
  funext y
  unfold k0_pay63
  rw [pay62]
  pointwise

theorem pay64 : k0_pay64 (F := Ideal) C V G2 B2 T = fun y =>
    C y * Ideal.rsqrt (V (ix2 (y 0) 0) + Ideal.ofBits .f32 0x3727C5AC#32) * G2 (ix2 0 (y 1)) + B2 (ix2 0 (y 1)) - T y := by
  funext y
  unfold k0_pay64
  rw [pay63]
  pointwise

theorem pay65 : k0_pay65 (F := Ideal) C V G2 B2 T = fun y => k0_pay64 (F := Ideal) C V G2 B2 T y * Ideal.ofBits .f32 0x3A800000#32 := by
  funext y
  unfold k0_pay65
  pointwise

theorem pay66 : k0_pay66 (F := Ideal) C V G2 B2 T P = fun y => P y
    + ∑ p : Fin 512, k0_pay64 (F := Ideal) C V G2 B2 T (ix2 p (y 1)) * k0_pay64 (F := Ideal) C V G2 B2 T (ix2 p (y 1)) := by
  funext y
  unfold k0_pay66
  generalize k0_pay64 (F := Ideal) C V G2 B2 T = E
  pointwise

theorem pay67 : k0_pay67 (F := Ideal) C V G2 B2 T P = fun y => P y
    + ∑ p : Fin 512, k0_pay65 (F := Ideal) C V G2 B2 T (ix2 p (y 1)) * k0_pay63 (F := Ideal) C V (ix2 p (y 1)) := by
  funext y
  unfold k0_pay67
  generalize k0_pay65 (F := Ideal) C V G2 B2 T = E
  generalize k0_pay63 (F := Ideal) C V = E'
  pointwise

theorem pay68 : k0_pay68 (F := Ideal) C V G2 B2 T P = fun y => P y + ∑ p : Fin 512, k0_pay65 (F := Ideal) C V G2 B2 T (ix2 p (y 1)) := by
  funext y
  unfold k0_pay68
  generalize k0_pay65 (F := Ideal) C V G2 B2 T = E
  pointwise

theorem pay1 : k0_pay1 (F := Ideal) V C X L = fun y => back (V (ix2 (y 0) 0)) (rowOf C (y 0)) (rowOf X (y 0)) (rowOf L 0) (y 1) := by
  funext y
  unfold k0_pay1
  pointwise [back, mean, rowOf]

end Cert.Kernel6Ideal.Val

end

end
-- ==== Proof.FwdBlock.lean ====
module

public import proofs.«01_k».proof.Proof.FwdPay

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Row

variable (m : (ℓ : Loc nD τ sig) → Buf (Elt Ideal) ℓ)

/-- An array stored whole reads back as it was stored. -/
theorem canonWhole {S : Shape} {e : EltTy} (w : S.Idx → Elt Ideal e) :
    View.canon (Val := Elt Ideal) [⟨Rect.whole S, w⟩] = w := View.canon_unit_zero (Val := Elt Ideal) rfl _ _

/-- An index of a block of gates from its two coordinates. -/
theorem idxG {y : S512x2816.Idx} {a : Fin 512} {n : ℕ} (h0 : ((y 0 : Fin 512) : ℕ) = a) (h1 : ((y 1 : Fin 2816) : ℕ) = n) :
    y = ix2 a ⟨n, h1 ▸ (y 1).isLt⟩ := by
  subst h1
  rw [eq_ix2 y]
  congr 1
  exact Fin.ext h0

/-! ## What a point's blocks are -/

/-- The layer norm's rows on a block. -/
def xB (N : S512x1024.Idx → EReal) (L B : S1x1024.Idx → EReal) (p : Fin 512) : Fin 1024 → EReal := aff (rowOf N p) (rowOf L 0) (rowOf B 0)

/-- A projection of a block of rows. -/
def prB (N : S512x1024.Idx → EReal) (L B : S1x1024.Idx → EReal) (W : S2816x1024.Idx → EReal) : S512x2816.Idx → EReal :=
  fun y => pr (xB N L B (y 0)) W (y 1)

/-- The hidden units of a block of rows. -/
def hidB (N : S512x1024.Idx → EReal) (L B : S1x1024.Idx → EReal) (Wg Wu : S2816x1024.Idx → EReal) : S512x2816.Idx → EReal :=
  fun y => hid (pr (xB N L B (y 0)) Wg) (pr (xB N L B (y 0)) Wu) (y 1)

/-! ## The three weights stay in the scratch buffers -/

theorem scrA (c : Dev nD) (t : Fin cfg0.N) (h0 : t.val % 16 = 0) :
    (outsAt0 m c t.val t.isLt).2.2.2.2.2.1 = V m c main_v23 ∧ (outsAt0 m c t.val t.isLt).2.2.2.2.2.2.1 = V m c main_v25
      ∧ (outsAt0 m c t.val t.isLt).2.2.2.2.2.2.2 = V m c main_v26 := by
  refine ⟨?_, ?_, ?_⟩
  all_goals
    rw [outsAt0_A m c t h0]
    frame_out
    exact canonWhole _

theorem scrB (c : Dev nD) (t : Fin cfg0.N) (h0 : ¬ t.val % 16 = 0) :
    (outsAt0 m c t.val t.isLt).2.2.2.2.2 =
      (outsAt0 m c (t.val - 1) (Nat.lt_of_le_of_lt (Nat.sub_le _ _) t.isLt)).2.2.2.2.2 := by
  rw [outsAt0_B m c t h0]
  rfl

theorem scr (c : Dev nD) : ∀ (n : ℕ) (h : n < cfg0.N),
    (outsAt0 m c n h).2.2.2.2.2.1 = V m c main_v23 ∧ (outsAt0 m c n h).2.2.2.2.2.2.1 = V m c main_v25
      ∧ (outsAt0 m c n h).2.2.2.2.2.2.2 = V m c main_v26 := by
  intro n
  induction n with
  | zero => exact fun h => scrA m c ⟨0, h⟩ rfl
  | succ n ih =>
    intro h
    by_cases h0 : (n + 1) % 16 = 0
    · exact scrA m c ⟨n + 1, h⟩ h0
    · have e := scrB m c ⟨n + 1, h⟩ h0
      have i := ih (Nat.lt_of_succ_lt h)
      dsimp only at e
      rw [e]
      exact i

end Cert.Kernel6Ideal.Val

end

end
-- ==== Proof.FwdHid.lean ====
module

public import proofs.«01_k».proof.Proof.FwdBlock

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Row

variable (m : (ℓ : Loc nD τ sig) → Buf (Elt Ideal) ℓ)

set_option maxHeartbeats 4000000 in
theorem o8 (c : Dev nD) (t : Fin cfg0.N) :
    (outsAt0 m c t.val t.isLt).2.2.1 = hidB (iblk m c 0 t) (iblk m c 2 t) (iblk m c 3 t) (V m c main_v23) (V m c main_v25) := by
  by_cases h0 : t.val % 16 = 0
  · rw [outsAt0_A m c t h0]
    frame_out
    funext y
    simp only [View.readCov_eq_canon', canonWhole]
    canon_tiles x h
    all_goals
      open_payloads
      pointwise [hidB, xB, aff, pr, hid, rowOf]
      rw [idxG h0 h1]
      rfl
  · have hs := scr m c (t.val - 1) (Nat.lt_of_le_of_lt (Nat.sub_le _ _) t.isLt)
    rw [outsAt0_B m c t h0]
    frame_out
    funext y
    simp only [read_unread_whole, hs.1, hs.2.1, hs.2.2]
    canon_tiles x h
    all_goals
      open_payloads
      pointwise [hidB, xB, aff, pr, hid, rowOf]
      rw [idxG h0 h1]
      rfl

end Cert.Kernel6Ideal.Val

end

end
-- ==== Proof.FwdTail.lean ====
module

public import proofs.«01_k».proof.Proof.FwdHid
public import Idealize.ShloMosaic.Lib.WritesUnit

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Row

variable (m : (ℓ : Loc nD τ sig) → Buf (Elt Ideal) ℓ)

theorem pay2 : k0_pay2 (F := Ideal) = fun _ => 0 := by
  funext y
  unfold k0_pay2
  pointwise

/-- The residual's rows at a point. -/
def rAt (c : Dev nD) (t : Fin cfg0.N) (p : Fin 512) : Fin 1024 → EReal :=
  res (xB (iblk m c 0 t) (iblk m c 2 t) (iblk m c 3 t) p)
    (hid (pr (xB (iblk m c 0 t) (iblk m c 2 t) (iblk m c 3 t) p) (V m c main_v23)) (pr (xB (iblk m c 0 t) (iblk m c 2 t) (iblk m c 3 t) p) (V m c main_v25)))
    (V m c main_v26)

/-- The errors at a point. -/
def eAt (c : Dev nD) (t : Fin cfg0.N) (p : Fin 512) : Fin 1024 → EReal :=
  err (rAt m c t p) (rowOf (iblk m c 4 t : S1x1024.Idx → EReal) 0) (rowOf (iblk m c 5 t : S1x1024.Idx → EReal) 0) (rowOf (iblk m c 1 t : S512x1024.Idx → EReal) p)

/-- The errors over the number of features at a point. -/
def dAt (c : Dev nD) (t : Fin cfg0.N) (p : Fin 512) : Fin 1024 → EReal :=
  cot (rAt m c t p) (rowOf (iblk m c 4 t : S1x1024.Idx → EReal) 0) (rowOf (iblk m c 5 t : S1x1024.Idx → EReal) 0) (rowOf (iblk m c 1 t : S512x1024.Idx → EReal) p)

/-- One point's step of the three sums over rows. -/
def stB (P : S8x1024.Idx → EReal) (E D N : Fin 512 → Fin 1024 → EReal) : S8x1024.Idx → EReal := fun y =>
  if (y 0).val = 0 then P (ix2 0 (y 1)) + ∑ p : Fin 512, E p (y 1) * E p (y 1)
  else if (y 0).val = 1 then P (ix2 1 (y 1)) + ∑ p : Fin 512, D p (y 1) * N p (y 1)
  else if (y 0).val = 2 then P (ix2 2 (y 1)) + ∑ p : Fin 512, D p (y 1) else P y

/-- An array with one row replaced. -/
def rowPut (r : ℕ) (w : S1x1024.Idx → EReal) (X : S8x1024.Idx → EReal) : S8x1024.Idx → EReal := fun y =>
  if (y 0).val = r then w (ix2 0 (y 1)) else X y

theorem canonRow (r : ℕ) (inb : ∀ a, ![r, 0] a + ![1, 1024] a ≤ S8x1024.size a) (w : S1x1024.Idx → Elt Ideal .f32)
    (L : List (View.Piece (Elt Ideal) S8x1024 .f32)) :
    View.canon (Val := Elt Ideal) (⟨Rect.unit ![r, 0] ![1, 1024] inb, w⟩ :: L) = rowPut r w (View.canon L) := by
  funext y
  unfold rowPut
  split
  · next h =>
    have e : y = (Rect.unit (s := S8x1024) ![r, 0] ![1, 1024] inb).emb (ix2 0 (y 1)) := by
      funext a
      apply Fin.ext
      fin_cases a
      · simpa using h
      · simp [ix2]
    conv_lhs => rw [e]
    exact View.canon_cons_emb _ _ _ _
  · next h =>
    refine View.canon_cons_of_not_mem _ _ fun hm => h ?_
    have h2 := (Rect.mem_set_unit (inb := inb)).mp hm 0
    simp at h2
    omega

theorem canonFill (inb : ∀ a, ![0, 0] a + ![8, 1024] a ≤ S8x1024.size a) (w : S8x1024.Idx → Elt Ideal .f32) :
    View.canon (Val := Elt Ideal) [⟨Rect.unit ![0, 0] ![8, 1024] inb, w⟩] = w :=
  View.canon_unit_zero (S := S8x1024) (off := ![0, 0]) (by decide) inb w

theorem writesRow {κ : Kind} {sp : Space} (v : View sig κ sp S8x1024 .f32) (f : v.ty.Contents (Elt Ideal)) (r : ℕ)
    (inb : ∀ a, ![r, 0] a + ![1, 1024] a ≤ S8x1024.size a) (w : S1x1024.Idx → Elt Ideal .f32)
    (L : List (View.Piece (Elt Ideal) S8x1024 .f32)) :
    v.read (Elt Ideal) (v.writes (Elt Ideal) f (⟨Rect.unit ![r, 0] ![1, 1024] inb, w⟩ :: L)) =
      rowPut r w (v.read (Elt Ideal) (v.writes (Elt Ideal) f L)) := by
  funext y
  unfold rowPut
  split
  · next h =>
    exact View.read_writes_cons_rows_of_mem v f inb w L y (ix2 0 (y 1)) rfl (by simpa using h) rfl
  · next h => exact View.read_writes_cons_rows_of_not_mem (W := 1) v f inb w L y rfl rfl (by omega)

theorem covWhole {S : Shape} {κ : Kind} {sp : Space} {e : EltTy} (v : View sig κ sp S e) (L : List (View.Piece (Elt Ideal) S e)) {off : Fin S.rank → ℕ}
    (h : off = fun _ => 0) (inb : ∀ a, off a + S.size a ≤ S.size a) :
    v.readCov L (Rect.unit off S.size inb).toLoadRect = View.canon L :=
  (View.readCov_eq_canon' v L _).trans (View.ld_unit_zero h inb _)

theorem covH {κ : Kind} {sp : Space} (v : View sig κ sp S512x2816 .bf16) (L : List (View.Piece (Elt Ideal) S512x2816 .bf16))
    (inb : ∀ a, ![0, 0] a + ![512, 2816] a ≤ S512x2816.size a) :
    v.readCov L (Rect.unit ![0, 0] ![512, 2816] inb).toLoadRect = View.canon L := covWhole v L (off := ![0, 0]) (by decide) inb

theorem covW {κ : Kind} {sp : Space} (v : View sig κ sp S2816x1024 .bf16) (L : List (View.Piece (Elt Ideal) S2816x1024 .bf16))
    (inb : ∀ a, ![0, 0] a + ![2816, 1024] a ≤ S2816x1024.size a) :
    v.readCov L (Rect.unit ![0, 0] ![2816, 1024] inb).toLoadRect = View.canon L := covWhole v L (off := ![0, 0]) (by decide) inb

/-- A row read of an array of eight rows, at its index. -/
theorem rowIdx (r : ℕ) (inb : ∀ a, ![r, 0] a + ![1, 1024] a ≤ S8x1024.size a) (j : S1x1024.Idx) :
    (Rect.unit (s := S8x1024) ![r, 0] ![1, 1024] inb).idx j = ix2 ⟨r, inb 0⟩ (j 1) := by
  funext a
  apply Fin.ext
  fin_cases a
  · have h : ((j 0 : Fin 1) : ℕ) = 0 := Nat.lt_one_iff.mp (j 0).isLt
    simpa [ix2] using h
  · simp [ix2]

theorem covRow {κ : Kind} {sp : Space} (v : View sig κ sp S8x1024 .f32) (L : List (View.Piece (Elt Ideal) S8x1024 .f32)) (r : ℕ)
    (inb : ∀ a, ![r, 0] a + ![1, 1024] a ≤ S8x1024.size a) :
    v.readCov L (Rect.unit ![r, 0] ![1, 1024] inb).toLoadRect = fun j => View.canon L (ix2 ⟨r, inb 0⟩ (j 1)) :=
  (View.readCov_eq_canon' v L _).trans (funext fun j => congrArg (View.canon L) (rowIdx r inb j))

theorem readV (c : Dev nD) : ReadAs.same.apply (View.read (Elt Ideal) (View.whole main_v26) (V m c main_v26)) = V m c main_v26 := rfl

section
variable (c : Dev nD) (t : Fin cfg0.N)

theorem P60 : k0_pay60 (F := Ideal) (k0_pay3 (F := Ideal) (iblk m c 0 t) (iblk m c 2 t) (iblk m c 3 t))
    (hidB (iblk m c 0 t) (iblk m c 2 t) (iblk m c 3 t) (V m c main_v23) (V m c main_v25)) (V m c main_v26)
    = fun y : S512x1024.Idx => cen (rAt m c t (y 0)) (y 1) := by
  rw [pay60, pay3]; rfl

theorem P61 : k0_pay61 (F := Ideal) (k0_pay3 (F := Ideal) (iblk m c 0 t) (iblk m c 2 t) (iblk m c 3 t))
    (hidB (iblk m c 0 t) (iblk m c 2 t) (iblk m c 3 t) (V m c main_v23) (V m c main_v25)) (V m c main_v26)
    = fun y : S512x1.Idx => var (rAt m c t (y 0)) := by
  rw [pay61, pay3]; rfl

theorem P62 : k0_pay62 (F := Ideal) (fun y : S512x1.Idx => var (rAt m c t (y 0))) = fun y => root (rAt m c t (y 0)) := by
  rw [pay62]; rfl

theorem P63 : k0_pay63 (F := Ideal) (fun y : S512x1024.Idx => cen (rAt m c t (y 0)) (y 1)) (fun y : S512x1.Idx => var (rAt m c t (y 0)))
    = fun y => nrm (rAt m c t (y 0)) (y 1) := by
  rw [pay63]; rfl

theorem P64 : k0_pay64 (F := Ideal) (fun y : S512x1024.Idx => cen (rAt m c t (y 0)) (y 1)) (fun y : S512x1.Idx => var (rAt m c t (y 0)))
    (iblk m c 4 t) (iblk m c 5 t) (iblk m c 1 t) = fun y => eAt m c t (y 0) (y 1) := by
  rw [pay64]
  funext y
  exact congrArg (_ - ·) (congrArg (iblk m c 1 t : S512x1024.Idx → EReal) (eq_ix2 y))

theorem P65 : k0_pay65 (F := Ideal) (fun y : S512x1024.Idx => cen (rAt m c t (y 0)) (y 1)) (fun y : S512x1.Idx => var (rAt m c t (y 0)))
    (iblk m c 4 t) (iblk m c 5 t) (iblk m c 1 t) = fun y => dAt m c t (y 0) (y 1) := by
  rw [pay65, P64]; rfl

theorem P66 (P : S1x1024.Idx → EReal) : k0_pay66 (F := Ideal) (fun y : S512x1024.Idx => cen (rAt m c t (y 0)) (y 1))
    (fun y : S512x1.Idx => var (rAt m c t (y 0))) (iblk m c 4 t) (iblk m c 5 t) (iblk m c 1 t) P
    = fun y => P y + ∑ p : Fin 512, eAt m c t p (y 1) * eAt m c t p (y 1) := by
  rw [pay66, P64]; rfl

theorem P67 (P : S1x1024.Idx → EReal) : k0_pay67 (F := Ideal) (fun y : S512x1024.Idx => cen (rAt m c t (y 0)) (y 1))
    (fun y : S512x1.Idx => var (rAt m c t (y 0))) (iblk m c 4 t) (iblk m c 5 t) (iblk m c 1 t) P
    = fun y => P y + ∑ p : Fin 512, dAt m c t p (y 1) * nrm (rAt m c t p) (y 1) := by
  rw [pay67, P65, P63]; rfl

theorem P68 (P : S1x1024.Idx → EReal) : k0_pay68 (F := Ideal) (fun y : S512x1024.Idx => cen (rAt m c t (y 0)) (y 1))
    (fun y : S512x1.Idx => var (rAt m c t (y 0))) (iblk m c 4 t) (iblk m c 5 t) (iblk m c 1 t) P
    = fun y => P y + ∑ p : Fin 512, dAt m c t p (y 1) := by
  rw [pay68, P65]; rfl

theorem P1 : k0_pay1 (F := Ideal) (fun y : S512x1.Idx => root (rAt m c t (y 0))) (fun y : S512x1024.Idx => nrm (rAt m c t (y 0)) (y 1))
    (fun y : S512x1024.Idx => dAt m c t (y 0) (y 1)) (iblk m c 4 t)
    = fun y => back (root (rAt m c t (y 0))) (nrm (rAt m c t (y 0))) (dAt m c t (y 0)) (rowOf (iblk m c 4 t : S1x1024.Idx → EReal) 0) (y 1) := by
  rw [pay1]; rfl
/-- The residual rows' cotangent at a point, as the body computes it. -/
theorem Q9 : k0_pay1 (F := Ideal) (k0_pay62 (F := Ideal) (k0_pay61 (F := Ideal) (k0_pay3 (F := Ideal) (iblk m c 0 t) (iblk m c 2 t) (iblk m c 3 t)) (hidB (iblk m c 0 t) (iblk m c 2 t) (iblk m c 3 t) (V m c main_v23) (V m c main_v25)) (V m c main_v26)))
      (k0_pay63 (F := Ideal) (k0_pay60 (F := Ideal) (k0_pay3 (F := Ideal) (iblk m c 0 t) (iblk m c 2 t) (iblk m c 3 t)) (hidB (iblk m c 0 t) (iblk m c 2 t) (iblk m c 3 t) (V m c main_v23) (V m c main_v25)) (V m c main_v26)) (k0_pay61 (F := Ideal) (k0_pay3 (F := Ideal) (iblk m c 0 t) (iblk m c 2 t) (iblk m c 3 t)) (hidB (iblk m c 0 t) (iblk m c 2 t) (iblk m c 3 t) (V m c main_v23) (V m c main_v25)) (V m c main_v26)))
      (k0_pay65 (F := Ideal) (k0_pay60 (F := Ideal) (k0_pay3 (F := Ideal) (iblk m c 0 t) (iblk m c 2 t) (iblk m c 3 t)) (hidB (iblk m c 0 t) (iblk m c 2 t) (iblk m c 3 t) (V m c main_v23) (V m c main_v25)) (V m c main_v26)) (k0_pay61 (F := Ideal) (k0_pay3 (F := Ideal) (iblk m c 0 t) (iblk m c 2 t) (iblk m c 3 t)) (hidB (iblk m c 0 t) (iblk m c 2 t) (iblk m c 3 t) (V m c main_v23) (V m c main_v25)) (V m c main_v26)) (iblk m c 4 t) (iblk m c 5 t) (iblk m c 1 t)) (iblk m c 4 t)
    = fun y => back (root (rAt m c t (y 0))) (nrm (rAt m c t (y 0))) (dAt m c t (y 0)) (rowOf (iblk m c 4 t : S1x1024.Idx → EReal) 0) (y 1) := by
  rw [P60, P61, P62, P63, P65, P1]

/-- The three sums' step at a point, as the body stores it. -/
theorem Q10 (Z : S8x1024.Idx → EReal) (P0 P1 P2 : S1x1024.Idx → EReal) (h0 : ∀ j, P0 (ix2 0 j) = Z (ix2 0 j)) (h1 : ∀ j, P1 (ix2 0 j) = Z (ix2 1 j))
    (h2 : ∀ j, P2 (ix2 0 j) = Z (ix2 2 j)) :
    rowPut 2 (k0_pay68 (F := Ideal) (k0_pay60 (F := Ideal) (k0_pay3 (F := Ideal) (iblk m c 0 t) (iblk m c 2 t) (iblk m c 3 t)) (hidB (iblk m c 0 t) (iblk m c 2 t) (iblk m c 3 t) (V m c main_v23) (V m c main_v25)) (V m c main_v26)) (k0_pay61 (F := Ideal) (k0_pay3 (F := Ideal) (iblk m c 0 t) (iblk m c 2 t) (iblk m c 3 t)) (hidB (iblk m c 0 t) (iblk m c 2 t) (iblk m c 3 t) (V m c main_v23) (V m c main_v25)) (V m c main_v26)) (iblk m c 4 t) (iblk m c 5 t) (iblk m c 1 t) P2)
      (rowPut 1 (k0_pay67 (F := Ideal) (k0_pay60 (F := Ideal) (k0_pay3 (F := Ideal) (iblk m c 0 t) (iblk m c 2 t) (iblk m c 3 t)) (hidB (iblk m c 0 t) (iblk m c 2 t) (iblk m c 3 t) (V m c main_v23) (V m c main_v25)) (V m c main_v26)) (k0_pay61 (F := Ideal) (k0_pay3 (F := Ideal) (iblk m c 0 t) (iblk m c 2 t) (iblk m c 3 t)) (hidB (iblk m c 0 t) (iblk m c 2 t) (iblk m c 3 t) (V m c main_v23) (V m c main_v25)) (V m c main_v26)) (iblk m c 4 t) (iblk m c 5 t) (iblk m c 1 t) P1)
        (rowPut 0 (k0_pay66 (F := Ideal) (k0_pay60 (F := Ideal) (k0_pay3 (F := Ideal) (iblk m c 0 t) (iblk m c 2 t) (iblk m c 3 t)) (hidB (iblk m c 0 t) (iblk m c 2 t) (iblk m c 3 t) (V m c main_v23) (V m c main_v25)) (V m c main_v26)) (k0_pay61 (F := Ideal) (k0_pay3 (F := Ideal) (iblk m c 0 t) (iblk m c 2 t) (iblk m c 3 t)) (hidB (iblk m c 0 t) (iblk m c 2 t) (iblk m c 3 t) (V m c main_v23) (V m c main_v25)) (V m c main_v26)) (iblk m c 4 t) (iblk m c 5 t) (iblk m c 1 t) P0) Z))
    = stB Z (eAt m c t) (dAt m c t) (fun p => nrm (rAt m c t p)) := by
  rw [P60, P61, P66, P67, P68]
  funext y
  unfold stB rowPut
  by_cases e0 : (y 0).val = 0
  · have e1 : ¬ (y 0).val = 1 := by omega
    have e2 : ¬ (y 0).val = 2 := by omega
    rw [if_neg e2, if_neg e1, if_pos e0, if_pos e0]
    exact congrArg (· + _) (h0 (y 1))
  · by_cases e1 : (y 0).val = 1
    · have e2 : ¬ (y 0).val = 2 := by omega
      rw [if_neg e2, if_pos e1, if_neg e0, if_pos e1]
      exact congrArg (· + _) (h1 (y 1))
    · by_cases e2 : (y 0).val = 2
      · rw [if_pos e2, if_neg e0, if_neg e1, if_pos e2]
        exact congrArg (· + _) (h2 (y 1))
      · rw [if_neg e2, if_neg e1, if_neg e0, if_neg e0, if_neg e1, if_neg e2]
end

set_option maxHeartbeats 1000000 in
theorem o9A (c : Dev nD) (t : Fin cfg0.N) (h0 : t.val % 16 = 0) :
    (outsAt0 m c t.val t.isLt).2.2.2.1 = fun y => back (root (rAt m c t (y 0))) (nrm (rAt m c t (y 0))) (dAt m c t (y 0)) (rowOf (iblk m c 4 t : S1x1024.Idx → EReal) 0) (y 1) := by
  have h8 := o8 m c t
  rw [outsAt0_A m c t h0] at h8 ⊢
  frame_out at h8
  frame_out
  simp only [covH, covW]
  simp only [View.readCov_eq_canon', canonWhole] at h8 ⊢
  simp only [h8]
  clear h8
  exact Q9 m c t

set_option maxHeartbeats 1000000 in
theorem o9B (c : Dev nD) (t : Fin cfg0.N) (h0 : ¬ t.val % 16 = 0) :
    (outsAt0 m c t.val t.isLt).2.2.2.1 = fun y => back (root (rAt m c t (y 0))) (nrm (rAt m c t (y 0))) (dAt m c t (y 0)) (rowOf (iblk m c 4 t : S1x1024.Idx → EReal) 0) (y 1) := by
  have h8 := o8 m c t
  have hs := scr m c (t.val - 1) (Nat.lt_of_le_of_lt (Nat.sub_le _ _) t.isLt)
  rw [outsAt0_B m c t h0] at h8 ⊢
  frame_out at h8
  frame_out
  simp only [read_unread_whole, hs.1, hs.2.1, hs.2.2] at h8 ⊢
  simp only [covH, h8]
  clear h8
  exact Q9 m c t

set_option maxHeartbeats 1000000 in
theorem o10A (c : Dev nD) (t : Fin cfg0.N) (h0 : t.val % 16 = 0) :
    (outsAt0 m c t.val t.isLt).2.2.2.2.1 = stB (fun _ => 0) (eAt m c t) (dAt m c t) (fun p => nrm (rAt m c t p)) := by
  have h8 := o8 m c t
  rw [outsAt0_A m c t h0] at h8 ⊢
  frame_out at h8
  frame_out
  simp only [covH, covW, covRow]
  simp only [View.readCov_eq_canon', canonWhole] at h8 ⊢
  simp only [h8]
  clear h8
  simp only [canonRow, canonFill, pay2]
  exact Q10 m c t _ _ _ _ (fun _ => rfl) (fun _ => rfl) (fun _ => rfl)

set_option maxHeartbeats 1000000 in
theorem o10B (c : Dev nD) (t : Fin cfg0.N) (h0 : ¬ t.val % 16 = 0) :
    (outsAt0 m c t.val t.isLt).2.2.2.2.1 = stB (outsAt0 m c (t.val - 1) (Nat.lt_of_le_of_lt (Nat.sub_le _ _) t.isLt)).2.2.2.2.1
      (eAt m c t) (dAt m c t) (fun p => nrm (rAt m c t p)) := by
  have h8 := o8 m c t
  have hs := scr m c (t.val - 1) (Nat.lt_of_le_of_lt (Nat.sub_le _ _) t.isLt)
  rw [outsAt0_B m c t h0] at h8 ⊢
  frame_out at h8
  frame_out
  simp only [read_unread_whole, hs.1, hs.2.1, hs.2.2] at h8 ⊢
  simp only [covH, h8]
  clear h8
  simp only [writesRow, View.writes_nil, Memref.IsWhole.read_unread]
  exact Q10 m c t _ _ _ _ (fun j => congrArg _ (rowIdx 0 _ (ix2 0 j))) (fun j => congrArg _ (rowIdx 1 _ (ix2 0 j))) (fun j => congrArg _ (rowIdx 2 _ (ix2 0 j)))

theorem o9 (c : Dev nD) (t : Fin cfg0.N) :
    (outsAt0 m c t.val t.isLt).2.2.2.1 = fun y => back (root (rAt m c t (y 0))) (nrm (rAt m c t (y 0))) (dAt m c t (y 0)) (rowOf (iblk m c 4 t : S1x1024.Idx → EReal) 0) (y 1) := by
  by_cases h0 : t.val % 16 = 0
  · exact o9A m c t h0
  · exact o9B m c t h0

end Cert.Kernel6Ideal.Val

end

end
-- ==== Proof.FwdGate.lean ====
module

public import proofs.«01_k».proof.Proof.FwdBlock

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Row

variable (m : (ℓ : Loc nD τ sig) → Buf (Elt Ideal) ℓ)

set_option maxHeartbeats 4000000 in
theorem o6 (c : Dev nD) (t : Fin cfg0.N) :
    (outsAt0 m c t.val t.isLt).1 = prB (iblk m c 0 t) (iblk m c 2 t) (iblk m c 3 t) (V m c main_v23) := by
  by_cases h0 : t.val % 16 = 0
  · rw [outsAt0_A m c t h0]
    frame_out
    funext y
    simp only [View.readCov_eq_canon', canonWhole]
    canon_tiles x h
    all_goals
      open_payloads
      pointwise [prB, xB, aff, pr, hid, rowOf]
      rw [idxG h0 h1]
      rfl
  · have hs := scr m c (t.val - 1) (Nat.lt_of_le_of_lt (Nat.sub_le _ _) t.isLt)
    rw [outsAt0_B m c t h0]
    frame_out
    funext y
    simp only [read_unread_whole, hs.1, hs.2.1, hs.2.2]
    canon_tiles x h
    all_goals
      open_payloads
      pointwise [prB, xB, aff, pr, hid, rowOf]
      rw [idxG h0 h1]
      rfl

end Cert.Kernel6Ideal.Val

end

end
-- ==== Proof.FwdUp.lean ====
module

public import proofs.«01_k».proof.Proof.FwdBlock

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Row

variable (m : (ℓ : Loc nD τ sig) → Buf (Elt Ideal) ℓ)

set_option maxHeartbeats 4000000 in
theorem o7 (c : Dev nD) (t : Fin cfg0.N) :
    (outsAt0 m c t.val t.isLt).2.1 = prB (iblk m c 0 t) (iblk m c 2 t) (iblk m c 3 t) (V m c main_v25) := by
  by_cases h0 : t.val % 16 = 0
  · rw [outsAt0_A m c t h0]
    frame_out
    funext y
    simp only [View.readCov_eq_canon', canonWhole]
    canon_tiles x h
    all_goals
      open_payloads
      pointwise [prB, xB, aff, pr, hid, rowOf]
      rw [idxG h0 h1]
      rfl
  · have hs := scr m c (t.val - 1) (Nat.lt_of_le_of_lt (Nat.sub_le _ _) t.isLt)
    rw [outsAt0_B m c t h0]
    frame_out
    funext y
    simp only [read_unread_whole, hs.1, hs.2.1, hs.2.2]
    canon_tiles x h
    all_goals
      open_payloads
      pointwise [prB, xB, aff, pr, hid, rowOf]
      rw [idxG h0 h1]
      rfl

end Cert.Kernel6Ideal.Val

end

end
-- ==== Proof.FwdArray.lean ====
module

public import proofs.«01_k».proof.Proof.FwdTail
public import proofs.«01_k».proof.Proof.FwdGate
public import proofs.«01_k».proof.Proof.FwdUp

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Row

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

/-! The stages by row of the whole arrays. -/

def xG (c : Dev nD) (i : Fin 8192) : Fin 1024 → EReal :=
  aff (rowOf (V m c main_v17 : S8192x1024.Idx → EReal) i) (rowOf (V m c main_v18 : S1x1024.Idx → EReal) 0)
    (rowOf (V m c main_v19 : S1x1024.Idx → EReal) 0)
def gG (c : Dev nD) (i : Fin 8192) : Fin 2816 → EReal := pr (xG m c i) (V m c main_v23)
def uG (c : Dev nD) (i : Fin 8192) : Fin 2816 → EReal := pr (xG m c i) (V m c main_v25)
def hG (c : Dev nD) (i : Fin 8192) : Fin 2816 → EReal := hid (gG m c i) (uG m c i)
def rG (c : Dev nD) (i : Fin 8192) : Fin 1024 → EReal := res (xG m c i) (hG m c i) (V m c main_v26)
def eG (c : Dev nD) (i : Fin 8192) : Fin 1024 → EReal :=
  err (rG m c i) (rowOf (V m c main_v20 : S1x1024.Idx → EReal) 0) (rowOf (V m c main_v21 : S1x1024.Idx → EReal) 0)
    (rowOf (V m c main_arg8 : S8192x1024.Idx → EReal) i)
def dG (c : Dev nD) (i : Fin 8192) : Fin 1024 → EReal :=
  cot (rG m c i) (rowOf (V m c main_v20 : S1x1024.Idx → EReal) 0) (rowOf (V m c main_v21 : S1x1024.Idx → EReal) 0)
    (rowOf (V m c main_arg8 : S8192x1024.Idx → EReal) i)

section
variable (c : Dev nD) (t : Fin cfg0.N) (p : Fin 512) (i : Fin 8192) (hi : i.val = t.val * 512 + p.val)

theorem row2 : rowOf (iblk m c 2 t : S1x1024.Idx → EReal) 0 = rowOf (V m c main_v18 : S1x1024.Idx → EReal) 0 := by
  funext k; simp only [rowOf]; blk_point [iblk, idx t]
theorem row3 : rowOf (iblk m c 3 t : S1x1024.Idx → EReal) 0 = rowOf (V m c main_v19 : S1x1024.Idx → EReal) 0 := by
  funext k; simp only [rowOf]; blk_point [iblk, idx t]
theorem row4 : rowOf (iblk m c 4 t : S1x1024.Idx → EReal) 0 = rowOf (V m c main_v20 : S1x1024.Idx → EReal) 0 := by
  funext k; simp only [rowOf]; blk_point [iblk, idx t]
theorem row5 : rowOf (iblk m c 5 t : S1x1024.Idx → EReal) 0 = rowOf (V m c main_v21 : S1x1024.Idx → EReal) 0 := by
  funext k; simp only [rowOf]; blk_point [iblk, idx t]
include hi
theorem row0 : rowOf (iblk m c 0 t : S512x1024.Idx → EReal) p = rowOf (V m c main_v17 : S8192x1024.Idx → EReal) i := by
  funext k; simp only [rowOf]; blk_point [iblk, idx t]
theorem row1 : rowOf (iblk m c 1 t : S512x1024.Idx → EReal) p = rowOf (V m c main_arg8 : S8192x1024.Idx → EReal) i := by
  funext k; simp only [rowOf]; blk_point [iblk, idx t]

theorem xB_eq : xB (iblk m c 0 t) (iblk m c 2 t) (iblk m c 3 t) p = xG m c i := by
  unfold xB xG
  rw [row0 m c t p i hi, row2, row3]

theorem rAt_eq : rAt m c t p = rG m c i := by
  unfold rAt rG hG gG uG
  rw [xB_eq m c t p i hi]

theorem eAt_eq : eAt m c t p = eG m c i := by
  unfold eAt eG
  rw [rAt_eq m c t p i hi, row1 m c t p i hi, row4, row5]

theorem dAt_eq : dAt m c t p = dG m c i := by
  unfold dAt dG
  rw [rAt_eq m c t p i hi, row1 m c t p i hi, row4, row5]
end

/-- The row of the whole array that a block's row is. -/
def up (t : Fin cfg0.N) (p : Fin 512) : Fin 8192 :=
  ⟨t.val * 512 + p.val, by
    have h : t.val < 16 := Nat.lt_of_lt_of_eq t.isLt N_0
    have := p.isLt
    omega⟩

theorem o6_eq (c : Dev nD) (t : Fin cfg0.N) (y : S512x2816.Idx) : (outsAt0 m c t.val t.isLt).1 y = gG m c (up t (y 0)) (y 1) := by
  rw [o6]
  unfold prB
  rw [xB_eq m c t (y 0) (up t (y 0)) rfl]
  rfl

theorem o7_eq (c : Dev nD) (t : Fin cfg0.N) (y : S512x2816.Idx) : (outsAt0 m c t.val t.isLt).2.1 y = uG m c (up t (y 0)) (y 1) := by
  rw [o7]
  unfold prB
  rw [xB_eq m c t (y 0) (up t (y 0)) rfl]
  rfl

theorem o8_eq (c : Dev nD) (t : Fin cfg0.N) (y : S512x2816.Idx) : (outsAt0 m c t.val t.isLt).2.2.1 y = hG m c (up t (y 0)) (y 1) := by
  rw [o8]
  unfold hidB
  rw [xB_eq m c t (y 0) (up t (y 0)) rfl]
  rfl

/-- The residual rows' cotangent. -/
def drG (c : Dev nD) (i : Fin 8192) : Fin 1024 → EReal :=
  back (root (rG m c i)) (nrm (rG m c i)) (dG m c i) (rowOf (V m c main_v20 : S1x1024.Idx → EReal) 0)

theorem o9_eq (c : Dev nD) (t : Fin cfg0.N) (y : S512x1024.Idx) : (outsAt0 m c t.val t.isLt).2.2.2.1 y = drG m c (up t (y 0)) (y 1) := by
  rw [o9]
  beta_reduce
  rw [rAt_eq m c t (y 0) (up t (y 0)) rfl, dAt_eq m c t (y 0) (up t (y 0)) rfl, row4]
  rfl

theorem final6 (c : Dev nD) : (dats m 0 c).arrAt 6 (cfgs 0).N = fun y : S8192x2816.Idx => gG m c (y 0) (y 1) := by
  refine (dats m 0 c).arrAt_eq_of_covers 6 _ (by decide +kernel) fun t _ y => ?_
  blk_simp
  rw [after0_6, o6_eq]
  refine congrArg₂ (gG m c) (Fin.ext ?_) (Fin.ext ?_)
  · blk_simp [(idx t).2.2.2.2.2.2.1]
    rfl
  · blk_simp [(idx t).2.2.2.2.2.2.1]

theorem final7 (c : Dev nD) : (dats m 0 c).arrAt 7 (cfgs 0).N = fun y : S8192x2816.Idx => uG m c (y 0) (y 1) := by
  refine (dats m 0 c).arrAt_eq_of_covers 7 _ (by decide +kernel) fun t _ y => ?_
  blk_simp
  rw [after0_7, o7_eq]
  refine congrArg₂ (uG m c) (Fin.ext ?_) (Fin.ext ?_)
  · blk_simp [(idx t).2.2.2.2.2.2.2.1]
    rfl
  · blk_simp [(idx t).2.2.2.2.2.2.2.1]

theorem final8 (c : Dev nD) : (dats m 0 c).arrAt 8 (cfgs 0).N = fun y : S8192x2816.Idx => hG m c (y 0) (y 1) := by
  refine (dats m 0 c).arrAt_eq_of_covers 8 _ (by decide +kernel) fun t _ y => ?_
  blk_simp
  rw [after0_8, o8_eq]
  refine congrArg₂ (hG m c) (Fin.ext ?_) (Fin.ext ?_)
  · blk_simp [(idx t).2.2.2.2.2.2.2.2.1]
    rfl
  · blk_simp [(idx t).2.2.2.2.2.2.2.2.1]

theorem final9 (c : Dev nD) : (dats m 0 c).arrAt 9 (cfgs 0).N = fun y : S8192x1024.Idx => drG m c (y 0) (y 1) := by
  refine (dats m 0 c).arrAt_eq_of_covers 9 _ (by decide +kernel) fun t _ y => ?_
  blk_simp
  rw [after0_9, o9_eq]
  refine congrArg₂ (drG m c) (Fin.ext ?_) (Fin.ext ?_)
  · blk_simp [(idx t).2.2.2.2.2.2.2.2.2.1]
    rfl
  · blk_simp [(idx t).2.2.2.2.2.2.2.2.2.1]

/-- The three sums over rows. -/
def sums {n : ℕ} (E D N : Fin n → Fin 1024 → EReal) : S8x1024.Idx → EReal := fun y =>
  if (y 0).val = 0 then ∑ p : Fin n, E p (y 1) * E p (y 1)
  else if (y 0).val = 1 then ∑ p : Fin n, D p (y 1) * N p (y 1)
  else if (y 0).val = 2 then ∑ p : Fin n, D p (y 1) else 0

theorem stB_eq (P : S8x1024.Idx → EReal) (E D N : Fin 512 → Fin 1024 → EReal) (y : S8x1024.Idx) :
    stB P E D N y = P y + sums E D N y := by
  have e : ∀ j : Fin 8, (y 0).val = j.val → P (ix2 j (y 1)) = P y := fun j hj => by
    conv_rhs => rw [eq_ix2 y]
    congr 2
    exact Fin.ext hj.symm
  unfold stB sums
  split
  · next h => rw [e 0 h]
  · split
    · next h => rw [e 1 h]
    · split
      · next h => rw [e 2 h]
      · exact (add_zero _).symm

theorem final10 (c : Dev nD) : (dats m 0 c).arrAt 10 (cfgs 0).N = sums (eG m c) (dG m c) (fun i => nrm (rG m c i)) := by
  refine (dats m 0 c).arrAt_eq_of_after_last 10 t0_15 (by decide +kernel) _ fun j => ?_
  blk_simp
  rw [after0_10, Pipeline.eq_sum_fin_of_reset_step_apply_last (fun n h => (outsAt0 m c n h).2.2.2.2.1) 16 (fun _ => 0)
    (fun t => sums (eAt m c t) (dAt m c t) (fun p => nrm (rAt m c t p)))
    (fun t h j => by rw [o10A m c t h, stB_eq])
    (fun t h j => by rw [o10B m c t h, stB_eq])
    (le_of_eq N_0) t0_15 rfl j, zero_add]
  unfold sums
  by_cases e0 : (j 0).val = 0
  · simp only [if_pos e0]
    refine Fin.sum_mul_add_congr (S := 16) fun s k hl => ?_
    rw [eAt_eq m c s k ⟨s.val * 512 + k.val, hl⟩ rfl]
  · by_cases e1 : (j 0).val = 1
    · simp only [if_neg e0, if_pos e1]
      refine Fin.sum_mul_add_congr (S := 16) fun s k hl => ?_
      rw [dAt_eq m c s k ⟨s.val * 512 + k.val, hl⟩ rfl, rAt_eq m c s k ⟨s.val * 512 + k.val, hl⟩ rfl]
    · by_cases e2 : (j 0).val = 2
      · simp only [if_neg e0, if_neg e1, if_pos e2]
        refine Fin.sum_mul_add_congr (S := 16) fun s k hl => ?_
        rw [dAt_eq m c s k ⟨s.val * 512 + k.val, hl⟩ rfl]
      · simp only [if_neg e0, if_neg e1, if_neg e2]
        exact (Finset.sum_const_zero : (∑ _p : Fin cfg0.N, (0 : EReal)) = 0)

end Cert.Kernel6Ideal.Val

end

end
-- ==== Proof.FwdEntries.lean ====
module

public import proofs.«01_k».proof.Proof.Gen.Kernel6Ideal.Frame
public import proofs.«01_k».proof.Proof.FwdSpec
public import Idealize.ShloMosaic.Lib.Claim
public import Idealize.ShloMosaic.Lib.Pipeline.ValueKit
public import Idealize.ShloMosaic.Lib.Pointwise

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Real

variable (m : (ℓ : Loc nD τ sig) → Buf (Elt Ideal) ℓ)

variable (I : Fwd) (c : Dev nD)

/-! The arrays that the call reads, at arguments of real numbers. -/

/-- The one-row form of a vector over the features. -/
def row (f : Fin 1024 → ℝ) : S1x1024.Idx → EReal := fun i => ((f (i 1) : ℝ) : EReal)

/-- The arguments of a memory are the arrays of `I`. -/
def Holds : Prop :=
  (m ((c.tc : Thread nD τ).loc main_arg0) : S8192x1024.Idx → EReal) = mat I.a.r
  ∧ (m ((c.tc : Thread nD τ).loc main_arg1) : S1024.Idx → EReal) = vec I.a.g
  ∧ (m ((c.tc : Thread nD τ).loc main_arg2) : S1024.Idx → EReal) = vec I.a.b
  ∧ (m ((c.tc : Thread nD τ).loc main_arg3) : S1024x2816.Idx → EReal) = mat I.a.wg
  ∧ (m ((c.tc : Thread nD τ).loc main_arg4) : S1024x2816.Idx → EReal) = mat I.a.wu
  ∧ (m ((c.tc : Thread nD τ).loc main_arg5) : S2816x1024.Idx → EReal) = mat I.a.wd
  ∧ (m ((c.tc : Thread nD τ).loc main_arg6) : S1024.Idx → EReal) = vec I.g
  ∧ (m ((c.tc : Thread nD τ).loc main_arg7) : S1024.Idx → EReal) = vec I.b
  ∧ (m ((c.tc : Thread nD τ).loc main_arg8) : S8192x1024.Idx → EReal) = mat I.a.d

variable (h : Holds m I c)
include h

theorem e_v17 : (V m c main_v17 : S8192x1024.Idx → EReal) = mat I.a.n := by
  funext y
  entry_read
  rw [h.1]
  pointwise
  simp only [mat, vec, Ideal.addf_def, word_1024, word_eps, word_zero, ← EReal.coe_mul, ← EReal.coe_add, ← EReal.coe_sub, ← coe_sum, div_real _ (show (1024:ℝ) ≠ 0 by norm_num), zero_add, add_zero]
  exact congrArg (_ * ·) (rsqrt_real (I.a.s_pos _))

theorem e_v18 : (V m c main_v18 : S1x1024.Idx → EReal) = row I.a.g := by
  funext y
  entry_read
  rw [h.2.1]
  pointwise
  simp only [vec, row]
  rfl

theorem e_v19 : (V m c main_v19 : S1x1024.Idx → EReal) = row I.a.b := by
  funext y
  entry_read
  rw [h.2.2.1]
  pointwise
  simp only [vec, row]
  rfl

theorem e_v20 : (V m c main_v20 : S1x1024.Idx → EReal) = row I.g := by
  funext y
  entry_read
  rw [h.2.2.2.2.2.2.1]
  pointwise
  simp only [vec, row]
  rfl

theorem e_v21 : (V m c main_v21 : S1x1024.Idx → EReal) = row I.b := by
  funext y
  entry_read
  rw [h.2.2.2.2.2.2.2.1]
  pointwise
  simp only [vec, row]
  rfl

theorem e_v23 : (V m c main_v23 : S2816x1024.Idx → EReal) = mat fun f k => I.a.wg k f := by
  funext y
  entry_read
  rw [h.2.2.2.1]
  pointwise
  simp only [mat]
  rfl

theorem e_v25 : (V m c main_v25 : S2816x1024.Idx → EReal) = mat fun f k => I.a.wu k f := by
  funext y
  entry_read
  rw [h.2.2.2.2.1]
  pointwise
  simp only [mat]
  rfl

theorem e_v26 : (V m c main_v26 : S2816x1024.Idx → EReal) = mat I.a.wd := by
  funext y
  entry_read
  rw [h.2.2.2.2.2.1]
  pointwise

theorem e_arg8 : (V m c main_arg8 : S8192x1024.Idx → EReal) = mat I.a.d := by
  funext y
  entry_read
  rw [h.2.2.2.2.2.2.2.2]

end Cert.Kernel6Ideal.Val
end
end
-- ==== Proof.Finite.lean ====
module

public import proofs.«01_k».proof.Proof.Gen.Pre_finite
public import proofs.«01_k».proof.Proof.Spec
public import Idealize.ShloMosaic.Lib.ReduceAll
public import Idealize.ShloMosaic.PureOps.Ideal.Laws

@[expose] public section

set_option maxRecDepth 16384

noncomputable section

namespace Cert.Pre_finite.Val

open Idealize.ShloMosaic
open Cert.Pre_finite Cert.Real

/-- An extended real whose absolute value compares below the word of infinity is a real. -/
theorem real_of_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  induction x using EReal.rec with
  | bot => exfalso; revert h; simp [Ideal.ofBits, Ideal.ieee, Ideal.cmpf_def, Ideal.absf_def, Ideal.cmp]
  | coe r => exact ⟨r, rfl⟩
  | top => exfalso; revert h; simp [Ideal.ofBits, Ideal.ieee, Ideal.cmpf_def, Ideal.absf_def, Ideal.cmp]

instance : Subsingleton S_.Idx := ⟨fun a b => funext fun i => i.elim0⟩

set_option maxHeartbeats 1000000 in
/-- Arguments that meet the precondition are arrays of reals. -/
theorem reals (a0 : FVec Ideal S8192x1024 .f32) (a1 a2 : FVec Ideal S1024 .f32) (a3 a4 : FVec Ideal S1024x2816 .f32)
    (a5 : FVec Ideal S2816x1024 .f32) (a6 : FVec Ideal S8192x1024 .f32)
    (h : fn (F := Ideal) a0 a1 a2 a3 a4 a5 a6 = fun _ => 1#1) :
    ∃ I : Inp, a0 = mat I.r ∧ a1 = vec I.g ∧ a2 = vec I.b ∧ a3 = mat I.wg ∧ a4 = mat I.wu ∧ a5 = mat I.wd ∧ a6 = mat I.d := by
  have e := congrFun h (Shape.Idx.first (Cert.Pre_finite.Gen.h_S_))
  dsimp only [fn, fn_part1] at e
  obtain ⟨e, k6⟩ := IntOp.andi_eq_one.1 e
  obtain ⟨e, k5⟩ := IntOp.andi_eq_one.1 e
  obtain ⟨e, k4⟩ := IntOp.andi_eq_one.1 e
  obtain ⟨e, k3⟩ := IntOp.andi_eq_one.1 e
  obtain ⟨e, k2⟩ := IntOp.andi_eq_one.1 e
  obtain ⟨k0, k1⟩ := IntOp.andi_eq_one.1 e
  have r0 := fun i => real_of_lt (a0 i) (Host.reduce_andi_all _ _ _ _ _ k0 i)
  have r1 := fun i => real_of_lt (a1 i) (Host.reduce_andi_all _ _ _ _ _ k1 i)
  have r2 := fun i => real_of_lt (a2 i) (Host.reduce_andi_all _ _ _ _ _ k2 i)
  have r3 := fun i => real_of_lt (a3 i) (Host.reduce_andi_all _ _ _ _ _ k3 i)
  have r4 := fun i => real_of_lt (a4 i) (Host.reduce_andi_all _ _ _ _ _ k4 i)
  have r5 := fun i => real_of_lt (a5 i) (Host.reduce_andi_all _ _ _ _ _ k5 i)
  have r6 := fun i => real_of_lt (a6 i) (Host.reduce_andi_all _ _ _ _ _ k6 i)
  choose f0 q0 using r0
  choose f1 q1 using r1
  choose f2 q2 using r2
  choose f3 q3 using r3
  choose f4 q4 using r4
  choose f5 q5 using r5
  choose f6 q6 using r6
  refine ⟨⟨fun i k => f0 (ix2 i k), fun k => f1 (ix1 k), fun k => f2 (ix1 k), fun i k => f3 (ix2 i k), fun i k => f4 (ix2 i k),
    fun i k => f5 (ix2 i k), fun i k => f6 (ix2 i k)⟩, ?_, ?_, ?_, ?_, ?_, ?_, ?_⟩
  · funext i; exact (q0 i).trans (congrArg (fun j => ((f0 j : ℝ) : EReal)) (eq_ix2 i))
  · funext i; exact (q1 i).trans (congrArg (fun j => ((f1 j : ℝ) : EReal)) (eq_ix1 i))
  · funext i; exact (q2 i).trans (congrArg (fun j => ((f2 j : ℝ) : EReal)) (eq_ix1 i))
  · funext i; exact (q3 i).trans (congrArg (fun j => ((f3 j : ℝ) : EReal)) (eq_ix2 i))
  · funext i; exact (q4 i).trans (congrArg (fun j => ((f4 j : ℝ) : EReal)) (eq_ix2 i))
  · funext i; exact (q5 i).trans (congrArg (fun j => ((f5 j : ℝ) : EReal)) (eq_ix2 i))
  · funext i; exact (q6 i).trans (congrArg (fun j => ((f6 j : ℝ) : EReal)) (eq_ix2 i))

end Cert.Pre_finite.Val
end
end
-- ==== Proof.FwdFinite.lean ====
module

public import proofs.«01_k».proof.Proof.Gen.Pre_finite6
public import proofs.«01_k».proof.Proof.FwdSpec
public import proofs.«01_k».proof.Proof.Finite
public import Idealize.ShloMosaic.Lib.ReduceAll
public import Idealize.ShloMosaic.PureOps.Ideal.Laws

@[expose] public section

set_option maxRecDepth 16384

noncomputable section

namespace Cert.Pre_finite6.Val

open Idealize.ShloMosaic
open Cert.Pre_finite6 Cert.Real

instance : Subsingleton S_.Idx := ⟨fun a b => funext fun i => i.elim0⟩

set_option maxHeartbeats 1000000 in
/-- Arguments that meet the precondition are arrays of reals. -/
theorem reals (a0 : FVec Ideal S8192x1024 .f32) (a1 a2 : FVec Ideal S1024 .f32) (a3 a4 : FVec Ideal S1024x2816 .f32)
    (a5 : FVec Ideal S2816x1024 .f32) (a6 a7 : FVec Ideal S1024 .f32) (a8 : FVec Ideal S8192x1024 .f32)
    (h : fn (F := Ideal) a0 a1 a2 a3 a4 a5 a6 a7 a8 = fun _ => 1#1) :
    ∃ I : Fwd, a0 = mat I.a.r ∧ a1 = vec I.a.g ∧ a2 = vec I.a.b ∧ a3 = mat I.a.wg ∧ a4 = mat I.a.wu ∧ a5 = mat I.a.wd
      ∧ a6 = vec I.g ∧ a7 = vec I.b ∧ a8 = mat I.a.d := by
  have e := congrFun h (Shape.Idx.first (Cert.Pre_finite6.Gen.h_S_))
  dsimp only [fn, fn_part1] at e
  obtain ⟨e, k8⟩ := IntOp.andi_eq_one.1 e
  obtain ⟨e, k7⟩ := IntOp.andi_eq_one.1 e
  obtain ⟨e, k6⟩ := IntOp.andi_eq_one.1 e
  obtain ⟨e, k5⟩ := IntOp.andi_eq_one.1 e
  obtain ⟨e, k4⟩ := IntOp.andi_eq_one.1 e
  obtain ⟨e, k3⟩ := IntOp.andi_eq_one.1 e
  obtain ⟨e, k2⟩ := IntOp.andi_eq_one.1 e
  obtain ⟨k0, k1⟩ := IntOp.andi_eq_one.1 e
  have r0 := fun i => Cert.Pre_finite.Val.real_of_lt (a0 i) (Host.reduce_andi_all _ _ _ _ _ k0 i)
  have r1 := fun i => Cert.Pre_finite.Val.real_of_lt (a1 i) (Host.reduce_andi_all _ _ _ _ _ k1 i)
  have r2 := fun i => Cert.Pre_finite.Val.real_of_lt (a2 i) (Host.reduce_andi_all _ _ _ _ _ k2 i)
  have r3 := fun i => Cert.Pre_finite.Val.real_of_lt (a3 i) (Host.reduce_andi_all _ _ _ _ _ k3 i)
  have r4 := fun i => Cert.Pre_finite.Val.real_of_lt (a4 i) (Host.reduce_andi_all _ _ _ _ _ k4 i)
  have r5 := fun i => Cert.Pre_finite.Val.real_of_lt (a5 i) (Host.reduce_andi_all _ _ _ _ _ k5 i)
  have r6 := fun i => Cert.Pre_finite.Val.real_of_lt (a6 i) (Host.reduce_andi_all _ _ _ _ _ k6 i)
  have r7 := fun i => Cert.Pre_finite.Val.real_of_lt (a7 i) (Host.reduce_andi_all _ _ _ _ _ k7 i)
  have r8 := fun i => Cert.Pre_finite.Val.real_of_lt (a8 i) (Host.reduce_andi_all _ _ _ _ _ k8 i)
  choose f0 q0 using r0
  choose f1 q1 using r1
  choose f2 q2 using r2
  choose f3 q3 using r3
  choose f4 q4 using r4
  choose f5 q5 using r5
  choose f6 q6 using r6
  choose f7 q7 using r7
  choose f8 q8 using r8
  refine ⟨⟨⟨fun i k => f0 (ix2 i k), fun k => f1 (ix1 k), fun k => f2 (ix1 k), fun i k => f3 (ix2 i k), fun i k => f4 (ix2 i k), fun i k => f5 (ix2 i k), fun i k => f8 (ix2 i k)⟩, fun k => f6 (ix1 k), fun k => f7 (ix1 k)⟩, ?_, ?_, ?_, ?_, ?_, ?_, ?_, ?_, ?_⟩
  · funext i; exact (q0 i).trans (congrArg (fun j => ((f0 j : ℝ) : EReal)) (eq_ix2 i))
  · funext i; exact (q1 i).trans (congrArg (fun j => ((f1 j : ℝ) : EReal)) (eq_ix1 i))
  · funext i; exact (q2 i).trans (congrArg (fun j => ((f2 j : ℝ) : EReal)) (eq_ix1 i))
  · funext i; exact (q3 i).trans (congrArg (fun j => ((f3 j : ℝ) : EReal)) (eq_ix2 i))
  · funext i; exact (q4 i).trans (congrArg (fun j => ((f4 j : ℝ) : EReal)) (eq_ix2 i))
  · funext i; exact (q5 i).trans (congrArg (fun j => ((f5 j : ℝ) : EReal)) (eq_ix2 i))
  · funext i; exact (q6 i).trans (congrArg (fun j => ((f6 j : ℝ) : EReal)) (eq_ix1 i))
  · funext i; exact (q7 i).trans (congrArg (fun j => ((f7 j : ℝ) : EReal)) (eq_ix1 i))
  · funext i; exact (q8 i).trans (congrArg (fun j => ((f8 j : ℝ) : EReal)) (eq_ix2 i))

end Cert.Pre_finite6.Val
end
end
-- ==== Proof.FwdRefStages.lean ====
module

public import proofs.«01_k».proof.Proof.Gen.Reference6Ideal.Read
public import proofs.«01_k».proof.Proof.FwdSpec

@[expose] public section

set_option maxRecDepth 16384

noncomputable section

namespace Cert.Reference6Ideal.Val

open Idealize.ShloMosaic
open Cert.Reference6Ideal Cert.Reference6Ideal.Read Cert.Real

variable (I : Fwd)

/-! Indices through a reshape that only joins or splits an axis of length one. -/

theorem ix78 (i : S1024.Idx) (k : Fin 1) : idx_main_v77 (idx_main_v78 i k) = i := by
  funext a
  match a with
  | ⟨0, _⟩ => exact Fin.ext (show k.val * 1024 + (i 0).val = (i 0).val by omega)
theorem ix84 (i : S1024.Idx) (k : Fin 1) : idx_main_v81 (idx_main_v84 i k) = i := ix78 i k
theorem ix87 (i : S8192x1.Idx) : idx_main_v87 i = idx_main_v1 i := by
  funext a
  have h1 : (i 1).val < 1 := (i 1).isLt
  match a with
  | ⟨0, _⟩ => exact Fin.ext (show (i 0).val * 1 + (i 1).val = (i 0).val by omega)
theorem ix93 (i : S8192x1.Idx) : idx_main_v93 i = idx_main_v1 i := ix87 i
theorem ix101 (i : S8192x1.Idx) : idx_main_v101 i = idx_main_v1 i := ix87 i

/-! The reference's stages, at arguments of real numbers. -/

theorem s_v3 (i : S8192x1.Idx) : val_main_v3 (F := Ideal) (mat I.a.r) i = ((I.a.mu (i 0) : ℝ) : EReal) := by
  simp only [val_main_v3_apply, val_main_v1_apply, val_main_v0_apply, val_main_cst_apply, val_main_v2_apply, val_main_cst_0_apply, mat, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v5 (i : S8192x1024.Idx) : val_main_v5 (F := Ideal) (mat I.a.r) i = ((I.a.xc (i 0) (i 1) : ℝ) : EReal) := by
  simp only [val_main_v5_apply, val_main_v4_apply, s_v3 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v10 (i : S8192x1.Idx) : val_main_v10 (F := Ideal) (mat I.a.r) i = ((I.a.vr (i 0) : ℝ) : EReal) := by
  simp only [val_main_v10_apply, val_main_v8_apply, val_main_v7_apply, val_main_cst_1_apply, val_main_v6_apply, s_v5 I, val_main_v9_apply, val_main_cst_2_apply, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v12 (i : S8192x1024.Idx) : val_main_v12 (F := Ideal) (mat I.a.r) i = ((I.a.xc (i 0) (i 1) : ℝ) : EReal) := by
  simp only [val_main_v12_apply, val_main_v11_apply, s_v3 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v14 (i : S8192x1.Idx) : val_main_v14 (F := Ideal) (mat I.a.r) i = ((I.a.s (i 0) : ℝ) : EReal) := by
  simp only [val_main_v14_apply, s_v10 I, val_main_v13_apply, val_main_cst_3_apply, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v15 (i : S8192x1.Idx) : val_main_v15 (F := Ideal) (mat I.a.r) i = ((I.a.rs (i 0) : ℝ) : EReal) := by
  simp only [val_main_v15_apply, s_v14 I, rsqrt_real (I.a.s_pos _), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  exact rsqrt_real (I.a.s_pos _)

theorem s_v17 (i : S8192x1024.Idx) : val_main_v17 (F := Ideal) (mat I.a.r) i = ((I.a.n (i 0) (i 1) : ℝ) : EReal) := by
  simp only [val_main_v17_apply, s_v12 I, val_main_v16_apply, s_v15 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v23 (i : S8192x1024.Idx) : val_main_v23 (F := Ideal) (mat I.a.r) (vec I.a.g) (vec I.a.b) i = ((I.a.x (i 0) (i 1) : ℝ) : EReal) := by
  simp only [val_main_v23_apply, val_main_v20_apply, s_v17 I, val_main_v19_apply, val_main_v18_apply, val_main_v22_apply, val_main_v21_apply, vec, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v24 (i : S8192x2816.Idx) : val_main_v24 (F := Ideal) (mat I.a.r) (vec I.a.g) (vec I.a.b) (mat I.a.wg) i = ((I.a.G (i 0) (i 1) : ℝ) : EReal) := by
  simp only [val_main_v24_apply, s_v23 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v25 (i : S8192x2816.Idx) : val_main_v25 (F := Ideal) (mat I.a.r) (vec I.a.g) (vec I.a.b) (mat I.a.wu) i = ((I.a.U (i 0) (i 1) : ℝ) : EReal) := by
  simp only [val_main_v25_apply, s_v23 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_call0_v5 (i : S8192x2816.Idx) : val_main_call0_v5 (F := Ideal) (mat I.a.r) (vec I.a.g) (vec I.a.b) (mat I.a.wg) i = ((sg (I.a.G (i 0) (i 1)) : ℝ) : EReal) := by
  simp only [val_main_call0_v5_apply, val_main_call0_v4_apply, val_main_call0_cst_0_apply, val_main_call0_v3_apply, val_main_call0_v2_apply, val_main_call0_cst_apply, val_main_call0_v1_apply, val_main_call0_v0_apply, s_v24 I, Ideal.exp_coe, div_real _ (sg_pos _).ne', Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  exact congrArg Real.toEReal (one_div _)

theorem s_v27 (i : S8192x2816.Idx) : val_main_v27 (F := Ideal) (mat I.a.r) (vec I.a.g) (vec I.a.b) (mat I.a.wg) (mat I.a.wu) i = ((I.h (i 0) (i 1) : ℝ) : EReal) := by
  simp only [val_main_v27_apply, val_main_v26_apply, s_v24 I, s_call0_v5 I, s_v25 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v31 (i : S8192x1024.Idx) : val_main_v31 (F := Ideal) (mat I.a.r) (vec I.a.g) (vec I.a.b) (mat I.a.wg) (mat I.a.wu) (mat I.a.wd) i = ((I.r (i 0) (i 1) : ℝ) : EReal) := by
  simp only [val_main_v31_apply, val_main_v29_apply, val_main_v28_apply, val_main_cst_4_apply, s_v23 I, val_main_v30_apply, s_v27 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v35 (i : S8192x1.Idx) : val_main_v35 (F := Ideal) (mat I.a.r) (vec I.a.g) (vec I.a.b) (mat I.a.wg) (mat I.a.wu) (mat I.a.wd) i = ((I.y.mu (i 0) : ℝ) : EReal) := by
  simp only [val_main_v35_apply, val_main_v33_apply, val_main_v32_apply, val_main_cst_5_apply, s_v31 I, val_main_v34_apply, val_main_cst_6_apply, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v37 (i : S8192x1024.Idx) : val_main_v37 (F := Ideal) (mat I.a.r) (vec I.a.g) (vec I.a.b) (mat I.a.wg) (mat I.a.wu) (mat I.a.wd) i = ((I.y.xc (i 0) (i 1) : ℝ) : EReal) := by
  simp only [val_main_v37_apply, s_v31 I, val_main_v36_apply, s_v35 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v40 (i : S8192x1024.Idx) : val_main_v40 (F := Ideal) (mat I.a.r) (vec I.a.g) (vec I.a.b) (mat I.a.wg) (mat I.a.wu) (mat I.a.wd) i = ((2 * I.y.xc (i 0) (i 1) : ℝ) : EReal) := by
  simp only [val_main_v40_apply, val_main_v39_apply, val_main_cst_7_apply, s_v37 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]

theorem s_v44 (i : S8192x1.Idx) : val_main_v44 (F := Ideal) (mat I.a.r) (vec I.a.g) (vec I.a.b) (mat I.a.wg) (mat I.a.wu) (mat I.a.wd) i = ((I.y.vr (i 0) : ℝ) : EReal) := by
  simp only [val_main_v44_apply, val_main_v42_apply, val_main_v41_apply, val_main_cst_8_apply, val_main_v38_apply, s_v37 I, val_main_v43_apply, val_main_cst_9_apply, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v46 (i : S8192x1024.Idx) : val_main_v46 (F := Ideal) (mat I.a.r) (vec I.a.g) (vec I.a.b) (mat I.a.wg) (mat I.a.wu) (mat I.a.wd) i = ((I.y.xc (i 0) (i 1) : ℝ) : EReal) := by
  simp only [val_main_v46_apply, s_v31 I, val_main_v45_apply, s_v35 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v48 (i : S8192x1.Idx) : val_main_v48 (F := Ideal) (mat I.a.r) (vec I.a.g) (vec I.a.b) (mat I.a.wg) (mat I.a.wu) (mat I.a.wd) i = ((I.y.s (i 0) : ℝ) : EReal) := by
  simp only [val_main_v48_apply, s_v44 I, val_main_v47_apply, val_main_cst_10_apply, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v49 (i : S8192x1.Idx) : val_main_v49 (F := Ideal) (mat I.a.r) (vec I.a.g) (vec I.a.b) (mat I.a.wg) (mat I.a.wu) (mat I.a.wd) i = ((I.y.rs (i 0) : ℝ) : EReal) := by
  simp only [val_main_v49_apply, s_v48 I, rsqrt_real (I.y.s_pos _), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  exact rsqrt_real (I.y.s_pos _)

theorem s_v50 (i : S8192x1.Idx) : val_main_v50 (F := Ideal) (mat I.a.r) (vec I.a.g) (vec I.a.b) (mat I.a.wg) (mat I.a.wu) (mat I.a.wd) i = ((I.y.rs (i 0) / I.y.s (i 0) : ℝ) : EReal) := by
  simp only [val_main_v50_apply, s_v49 I, s_v48 I, div_real _ (I.y.s_pos _).ne', Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  exact div_real _ (I.y.s_pos _).ne'

theorem s_v52 (i : S8192x1.Idx) : val_main_v52 (F := Ideal) (mat I.a.r) (vec I.a.g) (vec I.a.b) (mat I.a.wg) (mat I.a.wu) (mat I.a.wd) i = ((-(1 / 2) * (I.y.rs (i 0) / I.y.s (i 0)) : ℝ) : EReal) := by
  simp only [val_main_v52_apply, val_main_v51_apply, val_main_cst_11_apply, s_v50 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]

theorem s_v54 (i : S8192x1024.Idx) : val_main_v54 (F := Ideal) (mat I.a.r) (vec I.a.g) (vec I.a.b) (mat I.a.wg) (mat I.a.wu) (mat I.a.wd) i = ((I.y.n (i 0) (i 1) : ℝ) : EReal) := by
  simp only [val_main_v54_apply, s_v46 I, val_main_v53_apply, s_v49 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v60 (i : S8192x1024.Idx) : val_main_v60 (F := Ideal) (mat I.a.r) (vec I.a.g) (vec I.a.b) (mat I.a.wg) (mat I.a.wu) (mat I.a.wd) (vec I.g) (vec I.b) i = ((I.y.x (i 0) (i 1) : ℝ) : EReal) := by
  simp only [val_main_v60_apply, val_main_v57_apply, s_v54 I, val_main_v56_apply, val_main_v55_apply, val_main_v59_apply, val_main_v58_apply, vec, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v61 (i : S8192x1024.Idx) : val_main_v61 (F := Ideal) (mat I.a.r) (vec I.a.g) (vec I.a.b) (mat I.a.wg) (mat I.a.wu) (mat I.a.wd) (vec I.g) (vec I.b) (mat I.a.d) i = ((I.e (i 0) (i 1) : ℝ) : EReal) := by
  simp only [val_main_v61_apply, s_v60 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v64 (i : S8192x1024.Idx) : val_main_v64 (F := Ideal) (mat I.a.r) (vec I.a.g) (vec I.a.b) (mat I.a.wg) (mat I.a.wu) (mat I.a.wd) (vec I.g) (vec I.b) (mat I.a.d) i = ((2 * I.e (i 0) (i 1) : ℝ) : EReal) := by
  simp only [val_main_v64_apply, val_main_v63_apply, val_main_cst_12_apply, s_v61 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]

theorem s_v75 (i : S8192x1024.Idx) : val_main_v75 (F := Ideal) (mat I.a.r) (vec I.a.g) (vec I.a.b) (mat I.a.wg) (mat I.a.wu) (mat I.a.wd) (vec I.g) (vec I.b) (mat I.a.d) i = ((I.dx (i 0) (i 1) : ℝ) : EReal) := by
  simp only [val_main_v75_apply, val_main_v74_apply, val_main_v73_apply, val_main_v71_apply, val_main_v70_apply, val_main_cst_17_apply, val_main_cst_18_apply, val_main_v72_apply, val_main_cst_19_apply, s_v64 I, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  exact congrArg Real.toEReal (I.dx_eq _ _)

theorem s_v76 (i : S1024.Idx) : val_main_v76 (F := Ideal) (mat I.a.r) (vec I.a.g) (vec I.a.b) (mat I.a.wg) (mat I.a.wu) (mat I.a.wd) (vec I.g) (vec I.b) (mat I.a.d) i = ((∑ p, I.dx p (i 0) : ℝ) : EReal) := by
  simp only [val_main_v76_apply, val_main_cst_20_apply, s_v75 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v78 (i : S1024.Idx) : val_main_v78 (F := Ideal) (mat I.a.r) (vec I.a.g) (vec I.a.b) (mat I.a.wg) (mat I.a.wu) (mat I.a.wd) (vec I.g) (vec I.b) (mat I.a.d) i = ((∑ p, I.dx p (i 0) : ℝ) : EReal) := by
  simp only [val_main_v78_apply, val_main_cst_21_apply, val_main_v77_apply, s_v76 I, ix78, Fin.sum_univ_one, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]

theorem s_v80 (i : S1024.Idx) : val_main_v80 (F := Ideal) (mat I.a.r) (vec I.a.g) (vec I.a.b) (mat I.a.wg) (mat I.a.wu) (mat I.a.wd) (vec I.g) (vec I.b) (mat I.a.d) i = ((∑ p, I.y.n p (i 0) * I.dx p (i 0) : ℝ) : EReal) := by
  simp only [val_main_v80_apply, val_main_cst_22_apply, val_main_v79_apply, s_v54 I, s_v75 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v84 (i : S1024.Idx) : val_main_v84 (F := Ideal) (mat I.a.r) (vec I.a.g) (vec I.a.b) (mat I.a.wg) (mat I.a.wu) (mat I.a.wd) (vec I.g) (vec I.b) (mat I.a.d) i = ((∑ p, I.y.n p (i 0) * I.dx p (i 0) : ℝ) : EReal) := by
  simp only [val_main_v84_apply, val_main_cst_23_apply, val_main_v81_apply, s_v80 I, ix84, Fin.sum_univ_one, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]

theorem s_v83 (i : S8192x1024.Idx) : val_main_v83 (F := Ideal) (mat I.a.r) (vec I.a.g) (vec I.a.b) (mat I.a.wg) (mat I.a.wu) (mat I.a.wd) (vec I.g) (vec I.b) (mat I.a.d) i = ((I.dx (i 0) (i 1) * I.g (i 1) : ℝ) : EReal) := by
  simp only [val_main_v83_apply, s_v75 I, val_main_v82_apply, val_main_v55_apply, vec, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v86 (i : S8192.Idx) : val_main_v86 (F := Ideal) (mat I.a.r) (vec I.a.g) (vec I.a.b) (mat I.a.wg) (mat I.a.wu) (mat I.a.wd) (vec I.g) (vec I.b) (mat I.a.d) i = ((∑ k, I.y.xc (i 0) k * (I.dx (i 0) k * I.g k) : ℝ) : EReal) := by
  simp only [val_main_v86_apply, val_main_cst_24_apply, val_main_v85_apply, s_v46 I, s_v83 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v87 (i : S8192x1.Idx) : val_main_v87 (F := Ideal) (mat I.a.r) (vec I.a.g) (vec I.a.b) (mat I.a.wg) (mat I.a.wu) (mat I.a.wd) (vec I.g) (vec I.b) (mat I.a.d) i = ((∑ k, I.y.xc (i 0) k * (I.dx (i 0) k * I.g k) : ℝ) : EReal) := by
  simp only [val_main_v87_apply, s_v86 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rw [ix87]; rfl

theorem s_v89 (i : S8192x1024.Idx) : val_main_v89 (F := Ideal) (mat I.a.r) (vec I.a.g) (vec I.a.b) (mat I.a.wg) (mat I.a.wu) (mat I.a.wd) (vec I.g) (vec I.b) (mat I.a.d) i = ((I.dx (i 0) (i 1) * I.g (i 1) * I.y.rs (i 0) : ℝ) : EReal) := by
  simp only [val_main_v89_apply, s_v83 I, val_main_v88_apply, s_v49 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v92 (i : S8192.Idx) : val_main_v92 (F := Ideal) (mat I.a.r) (vec I.a.g) (vec I.a.b) (mat I.a.wg) (mat I.a.wu) (mat I.a.wd) (vec I.g) (vec I.b) (mat I.a.d) i = ((∑ k, -(I.dx (i 0) k * I.g k * I.y.rs (i 0)) : ℝ) : EReal) := by
  simp only [val_main_v92_apply, val_main_cst_25_apply, val_main_v91_apply, s_v89 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v93 (i : S8192x1.Idx) : val_main_v93 (F := Ideal) (mat I.a.r) (vec I.a.g) (vec I.a.b) (mat I.a.wg) (mat I.a.wu) (mat I.a.wd) (vec I.g) (vec I.b) (mat I.a.d) i = ((∑ k, -(I.dx (i 0) k * I.g k * I.y.rs (i 0)) : ℝ) : EReal) := by
  simp only [val_main_v93_apply, s_v92 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rw [ix93]; rfl

theorem s_v95 (i : S8192x1.Idx) : val_main_v95 (F := Ideal) (mat I.a.r) (vec I.a.g) (vec I.a.b) (mat I.a.wg) (mat I.a.wu) (mat I.a.wd) (vec I.g) (vec I.b) (mat I.a.d) i = (((∑ k, I.y.xc (i 0) k * (I.dx (i 0) k * I.g k)) * (-(1 / 2) * (I.y.rs (i 0) / I.y.s (i 0))) / 1024 : ℝ) : EReal) := by
  simp only [val_main_v95_apply, val_main_v90_apply, s_v87 I, s_v52 I, val_main_v94_apply, val_main_cst_26_apply, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]

theorem s_v97 (i : S8192x1024.Idx) : val_main_v97 (F := Ideal) (mat I.a.r) (vec I.a.g) (vec I.a.b) (mat I.a.wg) (mat I.a.wu) (mat I.a.wd) (vec I.g) (vec I.b) (mat I.a.d) i = (((∑ k, I.y.xc (i 0) k * (I.dx (i 0) k * I.g k)) * (-(1 / 2) * (I.y.rs (i 0) / I.y.s (i 0))) / 1024 : ℝ) : EReal) := by
  simp only [val_main_v97_apply, val_main_v96_apply, val_main_cst_27_apply, s_v95 I, Fin.sum_univ_one, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v98 (i : S8192x1024.Idx) : val_main_v98 (F := Ideal) (mat I.a.r) (vec I.a.g) (vec I.a.b) (mat I.a.wg) (mat I.a.wu) (mat I.a.wd) (vec I.g) (vec I.b) (mat I.a.d) i = (((∑ k, I.y.xc (i 0) k * (I.dx (i 0) k * I.g k)) * (-(1 / 2) * (I.y.rs (i 0) / I.y.s (i 0))) / 1024 * (2 * I.y.xc (i 0) (i 1)) : ℝ) : EReal) := by
  simp only [val_main_v98_apply, s_v97 I, s_v40 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]

theorem s_v100 (i : S8192.Idx) : val_main_v100 (F := Ideal) (mat I.a.r) (vec I.a.g) (vec I.a.b) (mat I.a.wg) (mat I.a.wu) (mat I.a.wd) (vec I.g) (vec I.b) (mat I.a.d) i = ((∑ j, -((∑ k, I.y.xc (i 0) k * (I.dx (i 0) k * I.g k)) * (-(1 / 2) * (I.y.rs (i 0) / I.y.s (i 0))) / 1024 * (2 * I.y.xc (i 0) j)) : ℝ) : EReal) := by
  simp only [val_main_v100_apply, val_main_cst_28_apply, val_main_v99_apply, s_v98 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v101 (i : S8192x1.Idx) : val_main_v101 (F := Ideal) (mat I.a.r) (vec I.a.g) (vec I.a.b) (mat I.a.wg) (mat I.a.wu) (mat I.a.wd) (vec I.g) (vec I.b) (mat I.a.d) i = ((∑ j, -((∑ k, I.y.xc (i 0) k * (I.dx (i 0) k * I.g k)) * (-(1 / 2) * (I.y.rs (i 0) / I.y.s (i 0))) / 1024 * (2 * I.y.xc (i 0) j)) : ℝ) : EReal) := by
  simp only [val_main_v101_apply, s_v100 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rw [ix101]; rfl

theorem s_v107 (i : S8192x1024.Idx) : val_main_v107 (F := Ideal) (mat I.a.r) (vec I.a.g) (vec I.a.b) (mat I.a.wg) (mat I.a.wu) (mat I.a.wd) (vec I.g) (vec I.b) (mat I.a.d) i = ((((∑ k, -(I.dx (i 0) k * I.g k * I.y.rs (i 0))) + ∑ j, -((∑ k, I.y.xc (i 0) k * (I.dx (i 0) k * I.g k)) * (-(1 / 2) * (I.y.rs (i 0) / I.y.s (i 0))) / 1024 * (2 * I.y.xc (i 0) j))) / 1024 : ℝ) : EReal) := by
  simp only [val_main_v107_apply, val_main_v106_apply, val_main_cst_30_apply, val_main_v105_apply, val_main_v103_apply, s_v93 I, s_v101 I, val_main_v104_apply, val_main_cst_29_apply, Fin.sum_univ_one, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v108 (i : S8192x1024.Idx) : val_main_v108 (F := Ideal) (mat I.a.r) (vec I.a.g) (vec I.a.b) (mat I.a.wg) (mat I.a.wu) (mat I.a.wd) (vec I.g) (vec I.b) (mat I.a.d) i = ((I.dr (i 0) (i 1) : ℝ) : EReal) := by
  simp only [val_main_v108_apply, val_main_v102_apply, s_v89 I, s_v98 I, s_v107 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  exact congrArg Real.toEReal (I.dr_eq _ _)

theorem s_v112 (i : S8192x1.Idx) : val_main_v112 (F := Ideal) (mat I.a.r) (vec I.a.g) (vec I.a.b) (mat I.a.wg) (mat I.a.wu) (mat I.a.wd) i = ((I.y.mu (i 0) : ℝ) : EReal) := by
  simp only [val_main_v112_apply, val_main_v110_apply, val_main_v109_apply, val_main_cst_31_apply, s_v31 I, val_main_v111_apply, val_main_cst_32_apply, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v114 (i : S8192x1024.Idx) : val_main_v114 (F := Ideal) (mat I.a.r) (vec I.a.g) (vec I.a.b) (mat I.a.wg) (mat I.a.wu) (mat I.a.wd) i = ((I.y.xc (i 0) (i 1) : ℝ) : EReal) := by
  simp only [val_main_v114_apply, s_v31 I, val_main_v113_apply, s_v112 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v119 (i : S8192x1.Idx) : val_main_v119 (F := Ideal) (mat I.a.r) (vec I.a.g) (vec I.a.b) (mat I.a.wg) (mat I.a.wu) (mat I.a.wd) i = ((I.y.vr (i 0) : ℝ) : EReal) := by
  simp only [val_main_v119_apply, val_main_v117_apply, val_main_v116_apply, val_main_cst_33_apply, val_main_v115_apply, s_v114 I, val_main_v118_apply, val_main_cst_34_apply, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v121 (i : S8192x1024.Idx) : val_main_v121 (F := Ideal) (mat I.a.r) (vec I.a.g) (vec I.a.b) (mat I.a.wg) (mat I.a.wu) (mat I.a.wd) i = ((I.y.xc (i 0) (i 1) : ℝ) : EReal) := by
  simp only [val_main_v121_apply, s_v31 I, val_main_v120_apply, s_v112 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v123 (i : S8192x1.Idx) : val_main_v123 (F := Ideal) (mat I.a.r) (vec I.a.g) (vec I.a.b) (mat I.a.wg) (mat I.a.wu) (mat I.a.wd) i = ((I.y.s (i 0) : ℝ) : EReal) := by
  simp only [val_main_v123_apply, s_v119 I, val_main_v122_apply, val_main_cst_35_apply, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v124 (i : S8192x1.Idx) : val_main_v124 (F := Ideal) (mat I.a.r) (vec I.a.g) (vec I.a.b) (mat I.a.wg) (mat I.a.wu) (mat I.a.wd) i = ((I.y.rs (i 0) : ℝ) : EReal) := by
  simp only [val_main_v124_apply, s_v123 I, rsqrt_real (I.y.s_pos _), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  exact rsqrt_real (I.y.s_pos _)

theorem s_v126 (i : S8192x1024.Idx) : val_main_v126 (F := Ideal) (mat I.a.r) (vec I.a.g) (vec I.a.b) (mat I.a.wg) (mat I.a.wu) (mat I.a.wd) i = ((I.y.n (i 0) (i 1) : ℝ) : EReal) := by
  simp only [val_main_v126_apply, s_v121 I, val_main_v125_apply, s_v124 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v132 (i : S8192x1024.Idx) : val_main_v132 (F := Ideal) (mat I.a.r) (vec I.a.g) (vec I.a.b) (mat I.a.wg) (mat I.a.wu) (mat I.a.wd) (vec I.g) (vec I.b) i = ((I.y.x (i 0) (i 1) : ℝ) : EReal) := by
  simp only [val_main_v132_apply, val_main_v129_apply, s_v126 I, val_main_v128_apply, val_main_v127_apply, val_main_v131_apply, val_main_v130_apply, vec, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v133 (i : S8192x1024.Idx) : val_main_v133 (F := Ideal) (mat I.a.r) (vec I.a.g) (vec I.a.b) (mat I.a.wg) (mat I.a.wu) (mat I.a.wd) (vec I.g) (vec I.b) (mat I.a.d) i = ((I.e (i 0) (i 1) : ℝ) : EReal) := by
  simp only [val_main_v133_apply, s_v132 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

theorem s_v135 (i : S1024.Idx) : val_main_v135 (F := Ideal) (mat I.a.r) (vec I.a.g) (vec I.a.b) (mat I.a.wg) (mat I.a.wu) (mat I.a.wd) (vec I.g) (vec I.b) (mat I.a.d) i = ((∑ p, I.e p (i 0) * I.e p (i 0) : ℝ) : EReal) := by
  simp only [val_main_v135_apply, val_main_cst_36_apply, val_main_v134_apply, s_v133 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_half, word_neg_half, word_eps, word_alpha, word_zero, ← EReal.coe_mul, ← EReal.coe_add, ← EReal.coe_sub, ← EReal.coe_neg, ← coe_sum, zero_add, add_zero]
  rfl

end Cert.Reference6Ideal.Val
end
end
-- ==== Proof.FwdRefRun.lean ====
module

public import proofs.«01_k».proof.Proof.FwdRefStages
public import proofs.«01_k».proof.Proof.Gen.Reference6Ideal.Run
public import proofs.«01_k».proof.Defs
public import Idealize.ShloMosaic.Lib.Claim
public import Idealize.ShloMosaic.Lib.Pointwise

@[expose] public section

set_option maxRecDepth 16384

noncomputable section

namespace Cert.Reference6Ideal.Val

open Idealize.ShloMosaic Idealize.ShloMosaic.TcCoe Idealize.SL.Sem
open Cert.Reference6Ideal Cert.Reference6Ideal.Gen Cert.Reference6Ideal.Read Cert.Real

section
variable (I : Fwd)

theorem s_v136 (i : S1x1024.Idx) : val_main_v136 (F := Ideal) (mat I.a.r) (vec I.a.g) (vec I.a.b) (mat I.a.wg) (mat I.a.wu) (mat I.a.wd) (vec I.g) (vec I.b) (mat I.a.d) i
    = ((∑ p, I.e p (i 1) * I.e p (i 1) : ℝ) : EReal) := by
  rw [val_main_v136_apply, s_v135 I]; rfl

theorem s_v137 (i : S1x1024.Idx) : val_main_v137 (F := Ideal) (mat I.a.r) (vec I.a.g) (vec I.a.b) (mat I.a.wg) (mat I.a.wu) (mat I.a.wd) (vec I.g) (vec I.b) (mat I.a.d) i
    = ((∑ p, I.dx p (i 1) * I.y.n p (i 1) : ℝ) : EReal) := by
  rw [val_main_v137_apply, s_v84 I]
  exact congrArg Real.toEReal (Finset.sum_congr rfl fun p _ => mul_comm _ _)

theorem s_v138 (i : S1x1024.Idx) : val_main_v138 (F := Ideal) (mat I.a.r) (vec I.a.g) (vec I.a.b) (mat I.a.wg) (mat I.a.wu) (mat I.a.wd) (vec I.g) (vec I.b) (mat I.a.d) i
    = ((∑ p, I.dx p (i 1) : ℝ) : EReal) := by
  rw [val_main_v138_apply, s_v78 I]; rfl

theorem s_v139 (i : S5x1024.Idx) : val_main_v139 (F := Ideal) i = ((0 : ℝ) : EReal) := by
  rw [val_main_v139_apply, val_main_cst_37_apply, Ideal.ofBits_def, word_zero]

/-! The reference's five results. -/

theorem r_v141 : val_main_v141 (F := Ideal) (mat I.a.r) (vec I.a.g) (vec I.a.b) (mat I.a.wg) = mat I.a.G := by
  funext i
  rw [val_main_v141_apply, s_v24 I]; rfl

theorem r_v142 : val_main_v142 (F := Ideal) (mat I.a.r) (vec I.a.g) (vec I.a.b) (mat I.a.wu) = mat I.a.U := by
  funext i
  rw [val_main_v142_apply, s_v25 I]; rfl

theorem r_v143 : val_main_v143 (F := Ideal) (mat I.a.r) (vec I.a.g) (vec I.a.b) (mat I.a.wg) (mat I.a.wu) = mat I.h := by
  funext i
  rw [val_main_v143_apply, s_v27 I]; rfl

theorem r_v108 : val_main_v108 (F := Ideal) (mat I.a.r) (vec I.a.g) (vec I.a.b) (mat I.a.wg) (mat I.a.wu) (mat I.a.wd) (vec I.g) (vec I.b) (mat I.a.d) = mat I.dr := by
  funext i
  rw [s_v108 I]; rfl

theorem r_v140 : val_main_v140 (F := Ideal) (mat I.a.r) (vec I.a.g) (vec I.a.b) (mat I.a.wg) (mat I.a.wu) (mat I.a.wd) (vec I.g) (vec I.b) (mat I.a.d) = mat I.st := by
  funext i
  unfold val_main_v140
  pointwise
  simp only [s_v136 I, s_v137 I, s_v138 I, s_v139, mat, Fwd.st]
  have hi : (i 0).val < 8 := (i 0).isLt
  by_cases e0 : (i 0).val = 0
  · rw [dif_pos (by omega), if_pos e0]; rfl
  · by_cases e1 : (i 0).val = 1
    · rw [dif_neg (by omega), dif_pos (by omega), if_neg e0, if_pos e1]; rfl
    · by_cases e2 : (i 0).val = 2
      · rw [dif_neg (by omega), dif_neg (by omega), dif_pos (by omega), if_neg e0, if_neg e1, if_pos e2]; rfl
      · rw [dif_neg (by omega), dif_neg (by omega), dif_neg (by omega), if_neg e0, if_neg e1, if_neg e2]
end

variable (m : (ℓ : Loc nD τ sig) → Buf (Elt Ideal) ℓ) (ρ : Dev nD → PrngReg)

/-- The arguments of a memory are the arrays of `I`. -/
def Holds (I : Fwd) (c : Dev nD) : Prop :=
  m ((c.tc : Thread nD τ).loc main_arg0) = mat I.a.r
  ∧ m ((c.tc : Thread nD τ).loc main_arg1) = vec I.a.g
  ∧ m ((c.tc : Thread nD τ).loc main_arg2) = vec I.a.b
  ∧ m ((c.tc : Thread nD τ).loc main_arg3) = mat I.a.wg
  ∧ m ((c.tc : Thread nD τ).loc main_arg4) = mat I.a.wu
  ∧ m ((c.tc : Thread nD τ).loc main_arg5) = mat I.a.wd
  ∧ m ((c.tc : Thread nD τ).loc main_arg6) = vec I.g
  ∧ m ((c.tc : Thread nD τ).loc main_arg7) = vec I.b
  ∧ m ((c.tc : Thread nD τ).loc main_arg8) = mat I.a.d

/-- The reference's run, with its five results as arrays of real numbers. -/
theorem run_real (I : Dev nD → Fwd) (h : ∀ c, Holds m (I c) c) :
    θ_run (defs (F := Ideal)) (onTc (τ := τ) (main (F := Ideal))) ⟨m, fun _ => 0, ρ⟩ fun r => ∀ c : Dev nD,
      r.2.mem ((c.tc : Thread nD τ).loc main_v141) = mat (I c).a.G
      ∧ r.2.mem ((c.tc : Thread nD τ).loc main_v142) = mat (I c).a.U
      ∧ r.2.mem ((c.tc : Thread nD τ).loc main_v143) = mat (I c).h
      ∧ r.2.mem ((c.tc : Thread nD τ).loc main_v108) = mat (I c).dr
      ∧ r.2.mem ((c.tc : Thread nD τ).loc main_v140) = mat (I c).st
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r hr c => ?_) (Value.run m ρ)
  obtain ⟨h0, h1, h2, h3, h4, h5, h6, h7, h8⟩ := h c
  replace h0 : StableHlo.launchContents m c (Proc.devRef .tc main_arg0) = mat (I c).a.r := h0
  replace h1 : StableHlo.launchContents m c (Proc.devRef .tc main_arg1) = vec (I c).a.g := h1
  replace h2 : StableHlo.launchContents m c (Proc.devRef .tc main_arg2) = vec (I c).a.b := h2
  replace h3 : StableHlo.launchContents m c (Proc.devRef .tc main_arg3) = mat (I c).a.wg := h3
  replace h4 : StableHlo.launchContents m c (Proc.devRef .tc main_arg4) = mat (I c).a.wu := h4
  replace h5 : StableHlo.launchContents m c (Proc.devRef .tc main_arg5) = mat (I c).a.wd := h5
  replace h6 : StableHlo.launchContents m c (Proc.devRef .tc main_arg6) = vec (I c).g := h6
  replace h7 : StableHlo.launchContents m c (Proc.devRef .tc main_arg7) = vec (I c).b := h7
  replace h8 : StableHlo.launchContents m c (Proc.devRef .tc main_arg8) = mat (I c).a.d := h8
  obtain ⟨k0, k1, k2, k3, k4, ka⟩ := hr c
  refine ⟨k0.trans ?_, k1.trans ?_, k2.trans ?_, k3.trans ?_, k4.trans ?_, ka⟩
  · rw [val_main_v141_eq, h0, h1, h2, h3]; exact r_v141 (I c)
  · rw [val_main_v142_eq, h0, h1, h2, h4]; exact r_v142 (I c)
  · rw [val_main_v143_eq, h0, h1, h2, h3, h4]; exact r_v143 (I c)
  · rw [val_main_v108_eq, h0, h1, h2, h3, h4, h5, h6, h7, h8]; exact r_v108 (I c)
  · rw [val_main_v140_eq, h0, h1, h2, h3, h4, h5, h6, h7, h8]; exact r_v140 (I c)

/-- The reference terminates with its arguments unchanged and every counter at zero. -/
theorem frame : Cert.quiescent_Reference6Ideal := fun m ρ _ =>
  (θ_run defs _ _).mono (fun r h => ⟨fun c => (h c).2.2.2.2.2, sem_eq_zero_of_no_sems (by decide) r.2⟩) (Value.run m ρ)

end Cert.Reference6Ideal.Val
end
end
-- ==== Proof.FwdCall.lean ====
module

public import proofs.«01_k».proof.Proof.FwdArray
public import proofs.«01_k».proof.Proof.FwdEntries
public import proofs.«01_k».proof.Proof.FwdFinite
public import proofs.«01_k».proof.Proof.FwdRefRun
public import proofs.«01_k».proof.Defs
public import Idealize.ShloMosaic.Lib.Claim
public import Idealize.ShloMosaic.Adequacy
public import Idealize.ShloMosaic.Init

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Real Cert.Row

variable (m : (ℓ : Loc nD τ sig) → Buf (Elt Ideal) ℓ)

section
variable (I : Fwd) (c : Dev nD) (h : Holds m I c) (i : Fin 8192)
include h

/-! The call's stages at arrays of real numbers. -/

theorem xG_real : xG m c i = re (I.a.x i) := by
  unfold xG
  rw [e_v17 m I c h, e_v18 m I c h, e_v19 m I c h]
  exact aff_x I i

theorem gG_real : gG m c i = re (I.a.G i) := by
  unfold gG
  rw [xG_real m I c h i, e_v23 m I c h]
  exact pr_G I i

theorem uG_real : uG m c i = re (I.a.U i) := by
  unfold uG
  rw [xG_real m I c h i, e_v25 m I c h]
  exact pr_U I i

theorem hG_real : hG m c i = re (I.h i) := by
  unfold hG
  rw [gG_real m I c h i, uG_real m I c h i]
  exact hid_h I i

theorem rG_real : rG m c i = re (I.r i) := by
  unfold rG
  rw [xG_real m I c h i, hG_real m I c h i, e_v26 m I c h]
  exact res_r I i

theorem eG_real : eG m c i = re (I.e i) := by
  unfold eG
  rw [rG_real m I c h i, e_v20 m I c h, e_v21 m I c h, e_arg8 m I c h]
  exact err_y I i

theorem dG_real : dG m c i = re (I.dx i) := by
  unfold dG
  rw [rG_real m I c h i, e_v20 m I c h, e_v21 m I c h, e_arg8 m I c h]
  exact cot_y I i

theorem drG_real : drG m c i = re (I.dr i) := by
  unfold drG
  rw [dG_real m I c h i, rG_real m I c h i, e_v20 m I c h, ← cot_y I i]
  exact back_y I i

omit i

/-! The call's five results. -/

theorem out6 : ((dats m 0 c).arrAt 6 (cfgs 0).N : S8192x2816.Idx → EReal) = mat I.a.G := by
  rw [final6]; funext y; exact congrFun (gG_real m I c h (y 0)) (y 1)

theorem out7 : ((dats m 0 c).arrAt 7 (cfgs 0).N : S8192x2816.Idx → EReal) = mat I.a.U := by
  rw [final7]; funext y; exact congrFun (uG_real m I c h (y 0)) (y 1)

theorem out8 : ((dats m 0 c).arrAt 8 (cfgs 0).N : S8192x2816.Idx → EReal) = mat I.h := by
  rw [final8]; funext y; exact congrFun (hG_real m I c h (y 0)) (y 1)

theorem out9 : ((dats m 0 c).arrAt 9 (cfgs 0).N : S8192x1024.Idx → EReal) = mat I.dr := by
  rw [final9]; funext y; exact congrFun (drG_real m I c h (y 0)) (y 1)

theorem out10 : ((dats m 0 c).arrAt 10 (cfgs 0).N : S8x1024.Idx → EReal) = mat I.st := by
  rw [final10, funext fun i => eG_real m I c h i, funext fun i => dG_real m I c h i,
    funext fun i => (congrArg nrm (rG_real m I c h i)).trans (nrm_y I i)]
  funext y
  simp only [sums, mat, Fwd.st, re]
  split_ifs
  · simp only [← EReal.coe_mul, ← coe_sum]
  · simp only [← EReal.coe_mul, ← coe_sum]
  · simp only [← coe_sum]
  · rfl
end

variable (ρ : Dev nD → PrngReg)

/-- The call's run: the arrays of its five output windows after the last point, and the arguments unchanged. -/
theorem run_arrays :
    θ_run (defs (F := Ideal)) (onTc (τ := τ) (main (F := Ideal))) ⟨m, fun _ => 0, ρ⟩ fun r => ∀ c : Dev nD,
      r.2.mem ((c.tc : Thread nD τ).loc main_v27_0) = (dats m 0 c).arrAt 6 (cfgs 0).N
      ∧ r.2.mem ((c.tc : Thread nD τ).loc main_v27_1) = (dats m 0 c).arrAt 7 (cfgs 0).N
      ∧ r.2.mem ((c.tc : Thread nD τ).loc main_v27_2) = (dats m 0 c).arrAt 8 (cfgs 0).N
      ∧ r.2.mem ((c.tc : Thread nD τ).loc main_v27_3) = (dats m 0 c).arrAt 9 (cfgs 0).N
      ∧ r.2.mem ((c.tc : Thread nD τ).loc main_v27_4) = (dats m 0 c).arrAt 10 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r hr c => ?_) (θ_run_and (run_main m ρ) (unchanged m ρ))
  exact ⟨(hr.1 c).1 6, (hr.1 c).1 7, (hr.1 c).1 8, (hr.1 c).1 9, (hr.1 c).1 10, hr.2 c⟩

/-- From memories that agree on finite arguments, the forward call and the reference leave equal results: the gate, the
    up branch, the hidden units, the residual rows' cotangent, and the three sums over rows. -/
theorem algebraic : Cert.algebraic_Kernel6Ideal_Reference6Ideal_pre_finite6 := by
  pair_intro
  · exact run_arrays m g
  · choose I h using fun c => Cert.Pre_finite6.Val.reals _ _ _ _ _ _ _ _ _ (hpre c)
    have run := Cert.Reference6Ideal.Val.run_real m' g' I fun c => by
      obtain ⟨h0, h1, h2, h3, h4, h5, h6, h7, h8⟩ := h c
      obtain ⟨k0, k1, k2, k3, k4, k5, k6, k7, k8⟩ := hagree c
      exact ⟨k0.trans h0, k1.trans h1, k2.trans h2, k3.trans h3, k4.trans h4, k5.trans h5, k6.trans h6, k7.trans h7, k8.trans h8⟩
    refine (θ_run _ _ _).mono (fun r hr c => ?_) run
    obtain ⟨k0, k1, k2, k3, k4, ka⟩ := hr c
    refine ⟨k0.trans ?_, k1.trans ?_, k2.trans ?_, k3.trans ?_, k4.trans ?_, ka⟩
    · exact (out6 m (I c) c (h c)).symm
    · exact (out7 m (I c) c (h c)).symm
    · exact (out8 m (I c) c (h c)).symm
    · exact (out9 m (I c) c (h c)).symm
    · exact (out10 m (I c) c (h c)).symm

end Cert.Kernel6Ideal.Val
end
end
-- ==== Proof.RefStages.lean ====
module

public import proofs.«01_k».proof.Proof.Gen.ReferenceIdeal.Read
public import proofs.«01_k».proof.Proof.Spec

@[expose] public section

set_option maxRecDepth 16384

noncomputable section

namespace Cert.ReferenceIdeal.Val

open Idealize.ShloMosaic
open Cert.ReferenceIdeal Cert.ReferenceIdeal.Read Cert.Real

variable (I : Inp)

/-! Indices through a reshape that only joins or splits an axis of length one. -/

theorem ix40 (i : S8192x1024.Idx) : idx_main_v40 i = i := by
  funext a
  have h1 : (i 1).val < 1024 := (i 1).isLt
  match a with
  | ⟨0, _⟩ => exact Fin.ext (show ((i 0).val * 1024 + (i 1).val) / 1024 = (i 0).val by omega)
  | ⟨1, _⟩ => exact Fin.ext (show ((i 0).val * 1024 + (i 1).val) % 1024 = (i 1).val by omega)
theorem ix41 (i : S8192x1024.Idx) : idx_main_v41 i = i := ix40 i
theorem ix54 (i : S1024.Idx) (k : Fin 1) : idx_main_v53 (idx_main_v54 i k) = i := by
  funext a
  match a with
  | ⟨0, _⟩ => exact Fin.ext (show k.val * 1024 + (i 0).val = (i 0).val by omega)
theorem ix60 (i : S1024.Idx) (k : Fin 1) : idx_main_v57 (idx_main_v60 i k) = i := ix54 i k
theorem ix63 (i : S8192x1.Idx) : idx_main_v63 i = idx_main_v2 i := by
  funext a
  have h1 : (i 1).val < 1 := (i 1).isLt
  match a with
  | ⟨0, _⟩ => exact Fin.ext (show (i 0).val * 1 + (i 1).val = (i 0).val by omega)
theorem ix69 (i : S8192x1.Idx) : idx_main_v69 i = idx_main_v2 i := ix63 i
theorem ix77 (i : S8192x1.Idx) : idx_main_v77 i = idx_main_v2 i := ix63 i

/-! The reference's stages, at arguments of real numbers. -/

theorem s_v4 (i : S8192x1.Idx) : val_main_v4 (F := Ideal) (mat I.r) i = ((I.mu (i 0) : ℝ) : EReal) := by
  simp only [val_main_v4_apply, val_main_v2_apply, val_main_v1_apply, val_main_v3_apply, val_main_cst_0_apply, val_main_cst_1_apply, mat, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v6 (i : S8192x1024.Idx) : val_main_v6 (F := Ideal) (mat I.r) i = ((I.xc (i 0) (i 1) : ℝ) : EReal) := by
  simp only [val_main_v6_apply, val_main_v5_apply, s_v4 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v13 (i : S8192x1.Idx) : val_main_v13 (F := Ideal) (mat I.r) i = ((I.vr (i 0) : ℝ) : EReal) := by
  simp only [val_main_v13_apply, val_main_v11_apply, val_main_v10_apply, val_main_v7_apply, val_main_cst_3_apply, val_main_v12_apply, val_main_cst_4_apply, s_v6 I, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v15 (i : S8192x1024.Idx) : val_main_v15 (F := Ideal) (mat I.r) i = ((I.xc (i 0) (i 1) : ℝ) : EReal) := by
  simp only [val_main_v15_apply, val_main_v14_apply, s_v4 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v17 (i : S8192x1.Idx) : val_main_v17 (F := Ideal) (mat I.r) i = ((I.s (i 0) : ℝ) : EReal) := by
  simp only [val_main_v17_apply, val_main_v16_apply, val_main_cst_5_apply, s_v13 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v18 (i : S8192x1.Idx) : val_main_v18 (F := Ideal) (mat I.r) i = ((I.rs (i 0) : ℝ) : EReal) := by
  simp only [val_main_v18_apply, s_v17 I, rsqrt_real (I.s_pos _), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  exact rsqrt_real (I.s_pos _)

theorem s_v19 (i : S8192x1.Idx) : val_main_v19 (F := Ideal) (mat I.r) i = ((I.rs (i 0) / I.s (i 0) : ℝ) : EReal) := by
  simp only [val_main_v19_apply, s_v17 I, s_v18 I, div_real _ (I.s_pos _).ne', Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  exact div_real _ (I.s_pos _).ne'

theorem s_v21 (i : S8192x1.Idx) : val_main_v21 (F := Ideal) (mat I.r) i = ((-(1 / 2) * (I.rs (i 0) / I.s (i 0)) : ℝ) : EReal) := by
  simp only [val_main_v21_apply, val_main_v20_apply, val_main_cst_6_apply, s_v19 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]

theorem s_v9 (i : S8192x1024.Idx) : val_main_v9 (F := Ideal) (mat I.r) i = ((2 * I.xc (i 0) (i 1) : ℝ) : EReal) := by
  simp only [val_main_v9_apply, val_main_v8_apply, val_main_cst_2_apply, s_v6 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]

theorem s_v23 (i : S8192x1024.Idx) : val_main_v23 (F := Ideal) (mat I.r) i = ((I.n (i 0) (i 1) : ℝ) : EReal) := by
  simp only [val_main_v23_apply, val_main_v22_apply, s_v15 I, s_v18 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v29 (i : S8192x1024.Idx) : val_main_v29 (F := Ideal) (mat I.r) (vec I.g) (vec I.b) i = ((I.x (i 0) (i 1) : ℝ) : EReal) := by
  simp only [val_main_v29_apply, val_main_v26_apply, val_main_v25_apply, val_main_v24_apply, val_main_v28_apply, val_main_v27_apply, s_v23 I, vec, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v31 (i : S8192x2816.Idx) : val_main_v31 (F := Ideal) (mat I.r) (vec I.g) (vec I.b) (mat I.wg) i = ((I.G (i 0) (i 1) : ℝ) : EReal) := by
  simp only [val_main_v31_apply, val_main_v30_apply, val_main_v0_apply, val_main_cst_apply, s_v29 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v32_2 (i : S8192x2816.Idx) : val_main_v32_2 (F := Ideal) (mat I.r) (vec I.g) (vec I.b) (mat I.wg) i = ((sg (I.G (i 0) (i 1)) : ℝ) : EReal) := by
  simp only [val_main_v32_2_apply, val_main_call0_v4_apply, val_main_call0_v3_apply, val_main_call0_cst_0_apply, val_main_call0_cst_apply, val_main_call0_v1_apply, val_main_call0_v0_apply, val_main_call0_v2_apply, s_v31 I, Ideal.exp_coe, div_real _ (sg_pos _).ne', Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  exact congrArg Real.toEReal (one_div _)

theorem s_v32_1 (i : S8192x2816.Idx) : val_main_v32_1 (F := Ideal) (mat I.r) (vec I.g) (vec I.b) (mat I.wg) i = ((sg (I.G (i 0) (i 1)) * (1 - sg (I.G (i 0) (i 1))) : ℝ) : EReal) := by
  simp only [val_main_v32_1_apply, val_main_call0_v7_apply, val_main_call0_v6_apply, val_main_call0_cst_1_apply, s_v32_2 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]

theorem s_v32_0 (i : S8192x2816.Idx) : val_main_v32_0 (F := Ideal) (mat I.r) (vec I.g) (vec I.b) (mat I.wg) i = ((I.G (i 0) (i 1) * sg (I.G (i 0) (i 1)) : ℝ) : EReal) := by
  simp only [val_main_v32_0_apply, s_v31 I, s_v32_2 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]

theorem s_v34 (i : S8192x2816.Idx) : val_main_v34 (F := Ideal) (mat I.r) (vec I.g) (vec I.b) (mat I.wu) i = ((I.U (i 0) (i 1) : ℝ) : EReal) := by
  simp only [val_main_v34_apply, val_main_v33_apply, val_main_v0_apply, val_main_cst_apply, s_v29 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v41 (i : S8192x1024.Idx) : val_main_v41 (F := Ideal) (mat I.d) i = ((I.d (i 0) (i 1) : ℝ) : EReal) := by
  simp only [val_main_v41_apply, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rw [ix41]

theorem s_v42 (i : S8192x2816.Idx) : val_main_v42 (F := Ideal) (mat I.wd) (mat I.d) i = ((I.H (i 0) (i 1) : ℝ) : EReal) := by
  simp only [val_main_v42_apply, s_v41 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v44 (i : S8192x1024.Idx) : val_main_v44 (F := Ideal) (mat I.d) i = ((alpha * I.d (i 0) (i 1) : ℝ) : EReal) := by
  simp only [val_main_v44_apply, val_main_v43_apply, val_main_cst_8_apply, val_main_v40_apply, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rw [ix40]

theorem s_v45 (i : S8192x2816.Idx) : val_main_v45 (F := Ideal) (mat I.r) (vec I.g) (vec I.b) (mat I.wg) (mat I.wd) (mat I.d) i = ((I.du (i 0) (i 1) : ℝ) : EReal) := by
  simp only [val_main_v45_apply, s_v32_0 I, s_v42 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  exact congrArg Real.toEReal (I.du_eq _ _)

theorem s_v46 (i : S8192x2816.Idx) : val_main_v46 (F := Ideal) (mat I.r) (vec I.g) (vec I.b) (mat I.wu) (mat I.wd) (mat I.d) i = ((I.H (i 0) (i 1) * I.U (i 0) (i 1) : ℝ) : EReal) := by
  simp only [val_main_v46_apply, s_v42 I, s_v34 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]

theorem s_v49 (i : S8192x2816.Idx) : val_main_v49 (F := Ideal) (mat I.r) (vec I.g) (vec I.b) (mat I.wg) (mat I.wu) (mat I.wd) (mat I.d) i = ((I.dg (i 0) (i 1) : ℝ) : EReal) := by
  simp only [val_main_v49_apply, val_main_call1_v0_apply, val_main_call1_v1_apply, val_main_call1_v2_apply, s_v46 I, s_v32_2 I, s_v32_1 I, s_v31 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  exact congrArg Real.toEReal (I.dg_eq _ _)

theorem s_v51 (i : S8192x1024.Idx) : val_main_v51 (F := Ideal) (mat I.r) (vec I.g) (vec I.b) (mat I.wg) (mat I.wu) (mat I.wd) (mat I.d) i = ((I.dx (i 0) (i 1) : ℝ) : EReal) := by
  simp only [val_main_v51_apply, val_main_v48_apply, val_main_v47_apply, val_main_v50_apply, s_v44 I, s_v45 I, s_v49 I, mat, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  exact congrArg Real.toEReal (I.dx_eq _ _)

theorem s_v52 (i : S1024.Idx) : val_main_v52 (F := Ideal) (mat I.r) (vec I.g) (vec I.b) (mat I.wg) (mat I.wu) (mat I.wd) (mat I.d) i = ((∑ p, I.dx p (i 0) : ℝ) : EReal) := by
  simp only [val_main_v52_apply, val_main_cst_9_apply, s_v51 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v54 (i : S1024.Idx) : val_main_v54 (F := Ideal) (mat I.r) (vec I.g) (vec I.b) (mat I.wg) (mat I.wu) (mat I.wd) (mat I.d) i = ((∑ p, I.dx p (i 0) : ℝ) : EReal) := by
  simp only [ix54, val_main_v54_apply, val_main_v53_apply, val_main_cst_10_apply, s_v52 I, Fin.sum_univ_one, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]

theorem s_v56 (i : S1024.Idx) : val_main_v56 (F := Ideal) (mat I.r) (vec I.g) (vec I.b) (mat I.wg) (mat I.wu) (mat I.wd) (mat I.d) i = ((∑ p, I.n p (i 0) * I.dx p (i 0) : ℝ) : EReal) := by
  simp only [val_main_v56_apply, val_main_v55_apply, val_main_cst_11_apply, s_v51 I, s_v23 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v60 (i : S1024.Idx) : val_main_v60 (F := Ideal) (mat I.r) (vec I.g) (vec I.b) (mat I.wg) (mat I.wu) (mat I.wd) (mat I.d) i = ((∑ p, I.n p (i 0) * I.dx p (i 0) : ℝ) : EReal) := by
  simp only [ix60, val_main_v60_apply, val_main_v57_apply, val_main_cst_12_apply, s_v56 I, Fin.sum_univ_one, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]

theorem s_v59 (i : S8192x1024.Idx) : val_main_v59 (F := Ideal) (mat I.r) (vec I.g) (vec I.b) (mat I.wg) (mat I.wu) (mat I.wd) (mat I.d) i = ((I.dx (i 0) (i 1) * I.g (i 1) : ℝ) : EReal) := by
  simp only [val_main_v59_apply, val_main_v58_apply, val_main_v24_apply, s_v51 I, vec, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v62 (i : S8192.Idx) : val_main_v62 (F := Ideal) (mat I.r) (vec I.g) (vec I.b) (mat I.wg) (mat I.wu) (mat I.wd) (mat I.d) i = ((∑ k, I.xc (i 0) k * (I.dx (i 0) k * I.g k) : ℝ) : EReal) := by
  simp only [val_main_v62_apply, val_main_v61_apply, val_main_cst_13_apply, s_v59 I, s_v15 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v63 (i : S8192x1.Idx) : val_main_v63 (F := Ideal) (mat I.r) (vec I.g) (vec I.b) (mat I.wg) (mat I.wu) (mat I.wd) (mat I.d) i = ((∑ k, I.xc (i 0) k * (I.dx (i 0) k * I.g k) : ℝ) : EReal) := by
  simp only [val_main_v63_apply, s_v62 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rw [ix63]; rfl

theorem s_v65 (i : S8192x1024.Idx) : val_main_v65 (F := Ideal) (mat I.r) (vec I.g) (vec I.b) (mat I.wg) (mat I.wu) (mat I.wd) (mat I.d) i = ((I.dx (i 0) (i 1) * I.g (i 1) * I.rs (i 0) : ℝ) : EReal) := by
  simp only [val_main_v65_apply, val_main_v64_apply, s_v59 I, s_v18 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v68 (i : S8192.Idx) : val_main_v68 (F := Ideal) (mat I.r) (vec I.g) (vec I.b) (mat I.wg) (mat I.wu) (mat I.wd) (mat I.d) i = ((∑ k, -(I.dx (i 0) k * I.g k * I.rs (i 0)) : ℝ) : EReal) := by
  simp only [val_main_v68_apply, val_main_v67_apply, val_main_cst_14_apply, s_v65 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v69 (i : S8192x1.Idx) : val_main_v69 (F := Ideal) (mat I.r) (vec I.g) (vec I.b) (mat I.wg) (mat I.wu) (mat I.wd) (mat I.d) i = ((∑ k, -(I.dx (i 0) k * I.g k * I.rs (i 0)) : ℝ) : EReal) := by
  simp only [val_main_v69_apply, s_v68 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rw [ix69]; rfl

theorem s_v71 (i : S8192x1.Idx) : val_main_v71 (F := Ideal) (mat I.r) (vec I.g) (vec I.b) (mat I.wg) (mat I.wu) (mat I.wd) (mat I.d) i = (((∑ k, I.xc (i 0) k * (I.dx (i 0) k * I.g k)) * (-(1 / 2) * (I.rs (i 0) / I.s (i 0))) / 1024 : ℝ) : EReal) := by
  simp only [val_main_v71_apply, val_main_v66_apply, val_main_v70_apply, val_main_cst_15_apply, s_v63 I, s_v21 I, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]

theorem s_v73 (i : S8192x1024.Idx) : val_main_v73 (F := Ideal) (mat I.r) (vec I.g) (vec I.b) (mat I.wg) (mat I.wu) (mat I.wd) (mat I.d) i = (((∑ k, I.xc (i 0) k * (I.dx (i 0) k * I.g k)) * (-(1 / 2) * (I.rs (i 0) / I.s (i 0))) / 1024 : ℝ) : EReal) := by
  simp only [val_main_v73_apply, val_main_v72_apply, val_main_cst_16_apply, s_v71 I, Fin.sum_univ_one, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v74 (i : S8192x1024.Idx) : val_main_v74 (F := Ideal) (mat I.r) (vec I.g) (vec I.b) (mat I.wg) (mat I.wu) (mat I.wd) (mat I.d) i = (((∑ k, I.xc (i 0) k * (I.dx (i 0) k * I.g k)) * (-(1 / 2) * (I.rs (i 0) / I.s (i 0))) / 1024 * (2 * I.xc (i 0) (i 1)) : ℝ) : EReal) := by
  simp only [val_main_v74_apply, s_v73 I, s_v9 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]

theorem s_v76 (i : S8192.Idx) : val_main_v76 (F := Ideal) (mat I.r) (vec I.g) (vec I.b) (mat I.wg) (mat I.wu) (mat I.wd) (mat I.d) i = ((∑ j, -((∑ k, I.xc (i 0) k * (I.dx (i 0) k * I.g k)) * (-(1 / 2) * (I.rs (i 0) / I.s (i 0))) / 1024 * (2 * I.xc (i 0) j)) : ℝ) : EReal) := by
  simp only [val_main_v76_apply, val_main_v75_apply, val_main_cst_17_apply, s_v74 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v77 (i : S8192x1.Idx) : val_main_v77 (F := Ideal) (mat I.r) (vec I.g) (vec I.b) (mat I.wg) (mat I.wu) (mat I.wd) (mat I.d) i = ((∑ j, -((∑ k, I.xc (i 0) k * (I.dx (i 0) k * I.g k)) * (-(1 / 2) * (I.rs (i 0) / I.s (i 0))) / 1024 * (2 * I.xc (i 0) j)) : ℝ) : EReal) := by
  simp only [val_main_v77_apply, s_v76 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rw [ix77]; rfl

theorem s_v83 (i : S8192x1024.Idx) : val_main_v83 (F := Ideal) (mat I.r) (vec I.g) (vec I.b) (mat I.wg) (mat I.wu) (mat I.wd) (mat I.d) i = ((((∑ k, -(I.dx (i 0) k * I.g k * I.rs (i 0))) + ∑ j, -((∑ k, I.xc (i 0) k * (I.dx (i 0) k * I.g k)) * (-(1 / 2) * (I.rs (i 0) / I.s (i 0))) / 1024 * (2 * I.xc (i 0) j))) / 1024 : ℝ) : EReal) := by
  simp only [val_main_v83_apply, val_main_v82_apply, val_main_v81_apply, val_main_v79_apply, val_main_v80_apply, val_main_cst_18_apply, val_main_cst_19_apply, s_v69 I, s_v77 I, Fin.sum_univ_one, div_real _ (show (1024:ℝ) ≠ 0 by norm_num), Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  rfl

theorem s_v84 (i : S8192x1024.Idx) : val_main_v84 (F := Ideal) (mat I.r) (vec I.g) (vec I.b) (mat I.wg) (mat I.wu) (mat I.wd) (mat I.d) i = ((I.dr (i 0) (i 1) : ℝ) : EReal) := by
  simp only [val_main_v84_apply, val_main_v78_apply, s_v65 I, s_v74 I, s_v83 I, Ideal.addf_def, Ideal.subf_def, Ideal.mulf_def, Ideal.hostDivf_def, Ideal.hostNegf_def, Ideal.negf_def, Ideal.hostUnary_rsqrt_def, Ideal.hostUnary_exp_def, Ideal.ofBits_def, word_1024, word_2, word_1, word_neg_half, word_eps, word_alpha, word_zero, ← EReal.coe_mul, ← EReal.coe_add, ← EReal.coe_sub, ← EReal.coe_neg, ← coe_sum, zero_add, add_zero]
  exact congrArg Real.toEReal (I.dr_eq _ _)

end Cert.ReferenceIdeal.Val
end
end
-- ==== Proof.RefResults.lean ====
module

public import proofs.«01_k».proof.Proof.RefStages
public import Idealize.ShloMosaic.Lib.Pointwise

@[expose] public section

set_option maxRecDepth 16384

noncomputable section

namespace Cert.ReferenceIdeal.Val

open Idealize.ShloMosaic
open Cert.ReferenceIdeal Cert.ReferenceIdeal.Read Cert.Real

variable (I : Inp)

theorem s_v85 (i : S1x1024.Idx) : val_main_v85 (F := Ideal) (mat I.r) (vec I.g) (vec I.b) (mat I.wg) (mat I.wu) (mat I.wd) (mat I.d) i
    = ((∑ p, I.n p (i 1) * I.dx p (i 1) : ℝ) : EReal) := by
  rw [val_main_v85_apply, s_v60 I]; rfl

theorem s_v86 (i : S1x1024.Idx) : val_main_v86 (F := Ideal) (mat I.r) (vec I.g) (vec I.b) (mat I.wg) (mat I.wu) (mat I.wd) (mat I.d) i
    = ((∑ p, I.dx p (i 1) : ℝ) : EReal) := by
  rw [val_main_v86_apply, s_v54 I]; rfl

theorem s_v87 (i : S6x1024.Idx) : val_main_v87 (F := Ideal) i = ((0 : ℝ) : EReal) := by
  rw [val_main_v87_apply, val_main_cst_20_apply, Ideal.ofBits_def, word_zero]

/-- The reference's four results. -/
theorem r_v89 : val_main_v89 (F := Ideal) (mat I.r) (vec I.g) (vec I.b) (mat I.wg) (mat I.wu) (mat I.wd) (mat I.d) = mat I.dg := by
  funext i
  rw [val_main_v89_apply, s_v49 I]; rfl

theorem r_v90 : val_main_v90 (F := Ideal) (mat I.r) (vec I.g) (vec I.b) (mat I.wg) (mat I.wd) (mat I.d) = mat I.du := by
  funext i
  rw [val_main_v90_apply, s_v45 I]; rfl

theorem r_v84 : val_main_v84 (F := Ideal) (mat I.r) (vec I.g) (vec I.b) (mat I.wg) (mat I.wu) (mat I.wd) (mat I.d) = mat I.dr := by
  funext i
  rw [s_v84 I]; rfl

theorem r_v88 : val_main_v88 (F := Ideal) (mat I.r) (vec I.g) (vec I.b) (mat I.wg) (mat I.wu) (mat I.wd) (mat I.d)
    = mat fun j k => if j.val = 0 then ∑ p, I.n p k * I.dx p k else if j.val = 1 then ∑ p, I.dx p k else 0 := by
  funext i
  unfold val_main_v88
  pointwise
  simp only [s_v85 I, s_v86 I, s_v87, mat]
  have hi : (i 0).val < 8 := (i 0).isLt
  by_cases e0 : (i 0).val = 0
  · rw [dif_pos (by omega), if_pos e0]; rfl
  · by_cases e1 : (i 0).val = 1
    · rw [dif_neg (by omega), dif_pos (by omega), if_neg e0, if_pos e1]; rfl
    · rw [dif_neg (by omega), dif_neg (by omega), if_neg e0, if_neg e1]

end Cert.ReferenceIdeal.Val
end
end
-- ==== Proof.RefRun.lean ====
module

public import proofs.«01_k».proof.Proof.RefResults
public import proofs.«01_k».proof.Defs
public import Idealize.ShloMosaic.Lib.Claim

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Read Cert.Real

variable (m : (ℓ : Loc nD τ sig) → Buf (Elt Ideal) ℓ) (ρ : Dev nD → PrngReg)

/-- The arguments of a memory are the arrays of `I`. -/
def Holds (I : Inp) (c : Dev nD) : Prop :=
  m ((c.tc : Thread nD τ).loc main_arg0) = mat I.r ∧ m ((c.tc : Thread nD τ).loc main_arg1) = vec I.g
  ∧ m ((c.tc : Thread nD τ).loc main_arg2) = vec I.b ∧ m ((c.tc : Thread nD τ).loc main_arg3) = mat I.wg
  ∧ m ((c.tc : Thread nD τ).loc main_arg4) = mat I.wu ∧ m ((c.tc : Thread nD τ).loc main_arg5) = mat I.wd
  ∧ m ((c.tc : Thread nD τ).loc main_arg6) = mat I.d

/-- The reference's run, with its four results as arrays of real numbers. -/
theorem run_real (I : Dev nD → Inp) (h : ∀ c, Holds m (I c) c) :
    θ_run (defs (F := Ideal)) (onTc (τ := τ) (main (F := Ideal))) ⟨m, fun _ => 0, ρ⟩ fun r => ∀ c : Dev nD,
      r.2.mem ((c.tc : Thread nD τ).loc main_v89) = mat (I c).dg
      ∧ r.2.mem ((c.tc : Thread nD τ).loc main_v90) = mat (I c).du
      ∧ r.2.mem ((c.tc : Thread nD τ).loc main_v84) = mat (I c).dr
      ∧ r.2.mem ((c.tc : Thread nD τ).loc main_v88)
        = mat (fun j k => if j.val = 0 then ∑ p, (I c).n p k * (I c).dx p k else if j.val = 1 then ∑ p, (I c).dx p k else 0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r hr c => ?_) (Value.run m ρ)
  obtain ⟨h0, h1, h2, h3, h4, h5, h6⟩ := h c
  obtain ⟨k0, k1, k2, k3, ka⟩ := hr c
  refine ⟨k0.trans ?_, k1.trans ?_, k2.trans ?_, k3.trans ?_, ka⟩
  · rw [val_main_v89_eq, h0, h1, h2, h3, h4, h5, h6]; exact r_v89 (I c)
  · rw [val_main_v90_eq, h0, h1, h2, h3, h5, h6]; exact r_v90 (I c)
  · rw [val_main_v84_eq, h0, h1, h2, h3, h4, h5, h6]; exact r_v84 (I c)
  · rw [val_main_v88_eq, h0, h1, h2, h3, h4, h5, h6]; exact r_v88 (I c)

/-- The reference terminates with its arguments unchanged and every counter at zero. -/
theorem frame : Cert.quiescent_ReferenceIdeal := fun m ρ _ =>
  (θ_run defs _ _).mono (fun r h => ⟨fun c => (h c).2.2.2.2, sem_eq_zero_of_no_sems (by decide) r.2⟩) (Value.run m ρ)

end Cert.ReferenceIdeal.Val
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.CallRun
public import proofs.«01_k».proof.Proof.AdamFrame
public import proofs.«01_k».proof.Proof.AdamCall
public import proofs.«01_k».proof.Proof.PrepFrame
public import proofs.«01_k».proof.Proof.PrepCall
public import proofs.«01_k».proof.Proof.GateWeight
public import proofs.«01_k».proof.Proof.UpWeight
public import proofs.«01_k».proof.Proof.DownWeight
public import proofs.«01_k».proof.Proof.OutWeight
public import proofs.«01_k».proof.Proof.FwdCall
public import proofs.«01_k».proof.Proof.Gen.Kernel6.Frame
public import proofs.«01_k».proof.Proof.RefRun
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem Cert.Real

/-- From memories that agree on finite arguments, the call and the reference leave equal results: the gate's and the up
    branch's cotangents, the rows' cotangent, and the layer norm's two gradients in the first two of eight rows. -/
theorem algebraic : Cert.algebraic_KernelIdeal_ReferenceIdeal_pre_finite := by
  pair_intro
  · exact Cert.KernelIdeal.Val.run_arrays m g
  · choose I h using fun c => Cert.Pre_finite.Val.reals _ _ _ _ _ _ _ (hpre c)
    have run := Cert.ReferenceIdeal.Val.run_real m' g' I fun c => by
      obtain ⟨h0, h1, h2, h3, h4, h5, h6⟩ := h c
      obtain ⟨k0, k1, k2, k3, k4, k5, k6⟩ := hagree c
      exact ⟨k0.trans h0, k1.trans h1, k2.trans h2, k3.trans h3, k4.trans h4, k5.trans h5, k6.trans h6⟩
    refine (θ_run _ _ _).mono (fun r hr c => ?_) run
    obtain ⟨h0, h1, h2, h3, h4, h5, h6⟩ := h c
    obtain ⟨k0, k1, k2, k3, ka⟩ := hr c
    refine ⟨k0.trans ?_, k1.trans ?_, k2.trans ?_, k3.trans ?_, ka⟩
    · exact (Cert.KernelIdeal.Val.out6 (I c) m c h0 h1 h2 h3 h4 h5 h6).symm
    · exact (Cert.KernelIdeal.Val.out7 (I c) m c h0 h1 h2 h3 h5 h6).symm
    · exact (Cert.KernelIdeal.Val.out8 (I c) m c h0 h1 h2 h3 h4 h5 h6).symm
    · exact (Cert.KernelIdeal.Val.out9 (I c) m c h0 h1 h2 h3 h4 h5 h6).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_finite6.Gen.facts,
  fun m ρ _ => Cert.Kernel.Gen.frame m ρ, fun m ρ _ => Cert.KernelIdeal.Gen.frame m ρ, fun m ρ _ => Cert.KernelIdeal.Gen.frame m ρ,
  Cert.ReferenceIdeal.Val.frame, fun m ρ _ => Cert.ReferenceIdeal.Val.frame m ρ trivial,
  fun m ρ _ => Cert.Kernel2.Gen.frame m ρ, fun m ρ _ => Cert.Kernel2Ideal.Gen.frame m ρ, Cert.Kernel2Ideal.Val.frame_ref,
  fun m ρ _ => Cert.Kernel3.Gen.frame m ρ, fun m ρ _ => Cert.Kernel3Ideal.Gen.frame m ρ, Cert.Kernel3Ideal.Val.frame_ref,
  fun m ρ _ => Cert.Kernel4.Gen.frame m ρ, fun m ρ _ => Cert.Kernel4Ideal.Gen.frame m ρ, Cert.Kernel4Ideal.Val.frame_ref,
  fun m ρ _ => Cert.Kernel5.Gen.frame m ρ, fun m ρ _ => Cert.Kernel5Ideal.Gen.frame m ρ, Cert.Kernel5Ideal.Val.frame_ref,
  fun m ρ _ => Cert.Kernel6.Gen.frame m ρ, fun m ρ _ => Cert.Kernel6Ideal.Gen.frame m ρ, fun m ρ _ => Cert.Kernel6Ideal.Gen.frame m ρ,
  Cert.Reference6Ideal.Val.frame, fun m ρ _ => Cert.Reference6Ideal.Val.frame m ρ trivial,
  fun m ρ _ => Cert.Kernel7.Body.frame m ρ, Cert.Kernel7Ideal.Val.frame, Cert.Kernel7Ideal.Val.frame_ref,
  fun m ρ _ => Cert.Kernel8.Body.frame m ρ, Cert.Kernel8Ideal.Val.frame, Cert.Kernel8Ideal.Val.frame_ref,
  trivial, algebraic,
  trivial, Cert.Kernel2Ideal.Val.algebraic,
  trivial, Cert.Kernel3Ideal.Val.algebraic,
  trivial, Cert.Kernel4Ideal.Val.algebraic,
  trivial, Cert.Kernel5Ideal.Val.algebraic,
  trivial, Cert.Kernel6Ideal.Val.algebraic,
  trivial, Cert.Kernel7Ideal.Val.algebraic,
  trivial, Cert.Kernel8Ideal.Val.algebraic⟩

end Cert.Proof

end
